-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![1024, 8, 128]⟩ ⟨3, ![32768, 8, 128]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![1024, 8, 128]⟩ ⟨3, ![32768, 8, 128]⟩ 0 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1024x1024 : Shape := ⟨2, ![1024, 1024]⟩
abbrev S1024x8x128 : Shape := ⟨3, ![1024, 8, 128]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8x128 : S_.BroadcastsInDim S1024x8x128 (![] : Fin 0 → Fin S1024x8x128.rank)
  reducesTo_S1024x8x128_S_d0_1_2 : S1024x8x128.ReducesTo [0, 1, 2] S_

variable [Facts]

def fn {F : FTy → Type} [FloatOps F] (main_arg0 : FVec F S1024x1024 .bf16) (main_arg1 : FVec F S1024x1024 .bf16) (main_arg2 : FVec F S1024x8x128 .bf16) (main_arg3 : FVec F S1024x8x128 .bf16) (main_arg4 : FVec F S1024x1024 .bf16) : IVec S_ 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_c : IVec S_ 1 := constantI S_ 1 1#1
  let main_v4 : IVec S_ 1 := (fun x v => Host.reduce IntOp.andi x v reducesTo_S1024x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1024x8x128 .f32 := (extf .f32 · bitsLt_bf16_f32) main_arg2
  let main_v12 : FVec F S1024x8x128 .f32 := Host.absf main_v11
  let main_cst_2 : FVec F S_ .f32 := constant S_ .f32 0x7F800000#32
  let main_v13 : FVec F S1024x8x128 .f32 := broadcastInDim S1024x8x128 ![] bcast_S_S1024x8x128 main_cst_2
  let main_v14 : IVec S1024x8x128 1 := cmpf .olt main_v12 main_v13
  let main_c_3 : IVec S_ 1 := constantI S_ 1 1#1
  let main_v15 : IVec S_ 1 := (fun x v => Host.reduce IntOp.andi x v reducesTo_S1024x8x128_S_d0_1_2 h_S_) main_v14 main_c_3
  let main_v16 : IVec S_ 1 := andi main_v10 main_v15
  main_v16
-- ==== Pre_finite_scores_ReferenceIdeal.lean ====
abbrev S1024x1024 : Shape := ⟨2, ![1024, 1024]⟩
abbrev S32768x8x128 : Shape := ⟨3, ![32768, 8, 128]⟩
abbrev S_ : Shape := ⟨0, ![]⟩

class Facts : Prop where
  bitsLt_bf16_f32 : FTy.bits .bf16 < FTy.bits .f32
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S32768x8x128 : S_.BroadcastsInDim S32768x8x128 (![] : Fin 0 → Fin S32768x8x128.rank)
  reducesTo_S32768x8x128_S_d0_1_2 : S32768x8x128.ReducesTo [0, 1, 2] S_

variable [Facts]

def fn {F : FTy → Type} [FloatOps F] (main_arg0 : FVec F S1024x1024 .bf16) (main_arg1 : FVec F S1024x1024 .bf16) (main_arg2 : FVec F S32768x8x128 .bf16) (main_arg3 : FVec F S32768x8x128 .bf16) (main_arg4 : FVec F S1024x1024 .bf16) : IVec S_ 1 :=
  let main_v0 : FVec F S1024x1024 .f32 := (extf .f32 · bitsLt_bf16_f32) main_arg0
  let main_v1 : FVec F S1024x1024 .f32 := Host.absf main_v0
  let main_cst : FVec F S_ .f32 := constant S_ .f32 0x7F800000#32
  let main_v2 : FVec F S1024x1024 .f32 := broadcastInDim S1024x1024 ![] bcast_S_S1024x1024 main_cst
  let main_v3 : IVec S1024x1024 1 := cmpf .olt main_v1 main_v2
  let main_c : IVec S_ 1 := constantI S_ 1 1#1
  let main_v4 : IVec S_ 1 := (fun x v => Host.reduce IntOp.andi x v reducesTo_S1024x1024_S_d0_1 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S32768x8x128 .f32 := (extf .f32 · bitsLt_bf16_f32) main_arg2
  let main_v12 : FVec F S32768x8x128 .f32 := Host.absf main_v11
  let main_cst_2 : FVec F S_ .f32 := constant S_ .f32 0x7F800000#32
  let main_v13 : FVec F S32768x8x128 .f32 := broadcastInDim S32768x8x128 ![] bcast_S_S32768x8x128 main_cst_2
  let main_v14 : IVec S32768x8x128 1 := cmpf .olt main_v12 main_v13
  let main_c_3 : IVec S_ 1 := constantI S_ 1 1#1
  let main_v15 : IVec S_ 1 := (fun x v => Host.reduce IntOp.andi x v reducesTo_S32768x8x128_S_d0_1_2 h_S_) main_v14 main_c_3
  let main_v16 : IVec S_ 1 := andi main_v10 main_v15
  main_v16
-- ==== Kernel.lean ====
abbrev S1024x1024 : Shape := ⟨2, ![1024, 1024]⟩
abbrev S1024x8x128 : Shape := ⟨3, ![1024, 8, 128]⟩
abbrev S1024x1152 : Shape := ⟨2, ![1024, 1152]⟩
abbrev S32x1024 : Shape := ⟨2, ![32, 1024]⟩
abbrev S512x1152 : Shape := ⟨2, ![512, 1152]⟩
abbrev S992x1152 : Shape := ⟨2, ![992, 1152]⟩
abbrev S5 : Shape := ⟨1, ![5]⟩
abbrev S_ : Shape := ⟨0, ![]⟩
abbrev S64x1024 : Shape := ⟨2, ![64, 1024]⟩
abbrev S64x8x128 : Shape := ⟨3, ![64, 8, 128]⟩
abbrev S1024x128 : Shape := ⟨2, ![1024, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S1 : Shape := ⟨1, ![1]⟩
abbrev S256x1152 : Shape := ⟨2, ![256, 1152]⟩
abbrev S128x1152 : Shape := ⟨2, ![128, 1152]⟩
abbrev S64x1152 : Shape := ⟨2, ![64, 1152]⟩
abbrev S32x1152 : Shape := ⟨2, ![32, 1152]⟩
abbrev S32x128 : Shape := ⟨2, ![32, 128]⟩
abbrev S32x1 : Shape := ⟨2, ![32, 1]⟩
abbrev S128x1024 : Shape := ⟨2, ![128, 1024]⟩
abbrev S256x1024 : Shape := ⟨2, ![256, 1024]⟩
abbrev S512x1024 : Shape := ⟨2, ![512, 1024]⟩

abbrev nBuf : Space → Nat
  | .hbm => 6
  | .vmem => 16
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x8x128, .bf16⟩
  | .hbm, ⟨3, _⟩ => ⟨S1024x8x128, .bf16⟩
  | .hbm, ⟨4, _⟩ => ⟨S1024x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x8x128, .bf16⟩
  | .local _ .vmem, ⟨3, _⟩ => ⟨S1024x8x128, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1152, .f32⟩
  | .local _ .vmem, ⟨12, _⟩ => ⟨S32x1024, .bf16⟩
  | .local _ .vmem, ⟨13, _⟩ => ⟨S512x1152, .bf16⟩
  | .local _ .vmem, ⟨14, _⟩ => ⟨S992x1152, .bf16⟩
  | .local _ .vmem, ⟨15, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 1 26 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v7 : BitVec 32 := Scalar.xori v2 c8_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 32 := Scalar.xori v2 c2_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v16 : BitVec 32 := Scalar.xori v2 c16_i32
  let c1_i32_13 : BitVec 32 := 1#32
  let v17 : BitVec 32 := Scalar.muli v16 c1_i32_13
  let v18 : BitVec 32 := Scalar.addi c0_i32_14 v17
  v18.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c1_i32_691 : BitVec 32 := 1#32
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let v867 : BitVec 32 := Scalar.subi c1_i32_691 v864
  let c16_i32_692 : BitVec 32 := 16#32
  let v868 : BitVec 32 := Scalar.muli v867 c16_i32_692
  let v869 : BitVec 32 := Scalar.addi v837 v868
  let c32_i32_693 : BitVec 32 := 32#32
  let v870 : BitVec 32 := Scalar.muli v869 c32_i32_693
  let v871 : Index := Scalar.indexCast v870
  let c0_694 : Index := 0#32
  ![v871.toNat, 0]
def k0_dev6 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_697 : BitVec 32 := 1#32
  let v877 : BitVec 32 := Scalar.xori v2 c1_i32_697
  let c1_i32_700 : BitVec 32 := 1#32
  let v878 : BitVec 32 := Scalar.muli v877 c1_i32_700
  let v879 : BitVec 32 := Scalar.addi c0_i32_701 v878
  v879.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c32_i32_721 : BitVec 32 := 32#32
  let v896 : BitVec 32 := Scalar.muli v866 c32_i32_721
  let v897 : Index := Scalar.indexCast v896
  let c0_722 : Index := 0#32
  ![v897.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c1_i32_741 : BitVec 32 := 1#32
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let v936 : BitVec 32 := Scalar.subi c1_i32_741 v933
  let c8_i32_742 : BitVec 32 := 8#32
  let v937 : BitVec 32 := Scalar.muli v936 c8_i32_742
  let v938 : BitVec 32 := Scalar.addi v866 v937
  let c32_i32_743 : BitVec 32 := 32#32
  let v939 : BitVec 32 := Scalar.muli v938 c32_i32_743
  let v940 : Index := Scalar.indexCast v939
  let c0_744 : Index := 0#32
  ![v940.toNat, 0]
def k0_dev7 (d0 : Dev nD) : Nat :=
  let c0_i32_751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_747 : BitVec 32 := 8#32
  let v946 : BitVec 32 := Scalar.xori v2 c8_i32_747
  let c1_i32_750 : BitVec 32 := 1#32
  let v947 : BitVec 32 := Scalar.muli v946 c1_i32_750
  let v948 : BitVec 32 := Scalar.addi c0_i32_751 v947
  v948.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c32_i32_770 : BitVec 32 := 32#32
  let v965 : BitVec 32 := Scalar.muli v935 c32_i32_770
  let v966 : Index := Scalar.indexCast v965
  let c0_771 : Index := 0#32
  ![v966.toNat, 0]
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c1_i32_790 : BitVec 32 := 1#32
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let v1005 : BitVec 32 := Scalar.subi c1_i32_790 v1002
  let c4_i32_791 : BitVec 32 := 4#32
  let v1006 : BitVec 32 := Scalar.muli v1005 c4_i32_791
  let v1007 : BitVec 32 := Scalar.addi v935 v1006
  let c32_i32_792 : BitVec 32 := 32#32
  let v1008 : BitVec 32 := Scalar.muli v1007 c32_i32_792
  let v1009 : Index := Scalar.indexCast v1008
  let c0_793 : Index := 0#32
  ![v1009.toNat, 0]
def k0_dev8 (d0 : Dev nD) : Nat :=
  let c0_i32_800 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_796 : BitVec 32 := 2#32
  let v1015 : BitVec 32 := Scalar.xori v2 c2_i32_796
  let c1_i32_799 : BitVec 32 := 1#32
  let v1016 : BitVec 32 := Scalar.muli v1015 c1_i32_799
  let v1017 : BitVec 32 := Scalar.addi c0_i32_800 v1016
  v1017.toNat
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c32_i32_819 : BitVec 32 := 32#32
  let v1034 : BitVec 32 := Scalar.muli v1004 c32_i32_819
  let v1035 : Index := Scalar.indexCast v1034
  let c0_820 : Index := 0#32
  ![v1035.toNat, 0]
def k0_off7 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c1_i32_839 : BitVec 32 := 1#32
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let v1074 : BitVec 32 := Scalar.subi c1_i32_839 v1071
  let c2_i32_840 : BitVec 32 := 2#32
  let v1075 : BitVec 32 := Scalar.muli v1074 c2_i32_840
  let v1076 : BitVec 32 := Scalar.addi v1004 v1075
  let c32_i32_841 : BitVec 32 := 32#32
  let v1077 : BitVec 32 := Scalar.muli v1076 c32_i32_841
  let v1078 : Index := Scalar.indexCast v1077
  let c0_842 : Index := 0#32
  ![v1078.toNat, 0]
def k0_dev9 (d0 : Dev nD) : Nat :=
  let c0_i32_848 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_845 : BitVec 32 := 4#32
  let v1084 : BitVec 32 := Scalar.xori v2 c4_i32_845
  let c1_i32_847 : BitVec 32 := 1#32
  let v1085 : BitVec 32 := Scalar.muli v1084 c1_i32_847
  let v1086 : BitVec 32 := Scalar.addi c0_i32_848 v1085
  v1086.toNat
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c32_i32_867 : BitVec 32 := 32#32
  let v1103 : BitVec 32 := Scalar.muli v1073 c32_i32_867
  let v1104 : Index := Scalar.indexCast v1103
  let c0_868 : Index := 0#32
  ![v1104.toNat, 0]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c1_i32_887 : BitVec 32 := 1#32
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let v1143 : BitVec 32 := Scalar.subi c1_i32_887 v1140
  let c1_i32_888 : BitVec 32 := 1#32
  let v1144 : BitVec 32 := Scalar.muli v1143 c1_i32_888
  let v1145 : BitVec 32 := Scalar.addi v1073 v1144
  let c32_i32_889 : BitVec 32 := 32#32
  let v1146 : BitVec 32 := Scalar.muli v1145 c32_i32_889
  let v1147 : Index := Scalar.indexCast v1146
  let c0_890 : Index := 0#32
  ![v1147.toNat, 0]
def k0_dev10 (d0 : Dev nD) : Nat :=
  let c0_i32_897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_893 : BitVec 32 := 16#32
  let v1153 : BitVec 32 := Scalar.xori v2 c16_i32_893
  let c1_i32_896 : BitVec 32 := 1#32
  let v1154 : BitVec 32 := Scalar.muli v1153 c1_i32_896
  let v1155 : BitVec 32 := Scalar.addi c0_i32_897 v1154
  v1155.toNat
def k0_off10 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_916 : BitVec 32 := 32#32
  let v1172 : BitVec 32 := Scalar.muli v1142 c32_i32_916
  let v1173 : Index := Scalar.indexCast v1172
  let c0_917 : Index := 0#32
  ![v1173.toNat, 0]
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_922 : BitVec 32 := 32#32
  let v1183 : BitVec 32 := Scalar.muli v1142 c32_i32_922
  let v1184 : Index := Scalar.indexCast v1183
  let c0_923 : Index := 0#32
  ![v1184.toNat, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_924 : BitVec 32 := 32#32
  let v1186 : BitVec 32 := Scalar.muli v1142 c32_i32_924
  let v1187 : Index := Scalar.indexCast v1186
  let c1024_925 : Index := 1024#32
  ![v1187.toNat, 1024]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_928 : BitVec 32 := 32#32
  let v1195 : BitVec 32 := Scalar.muli v1142 c32_i32_928
  let v1196 : Index := Scalar.indexCast v1195
  let c128_929 : Index := 128#32
  ![v1196.toNat, 128]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_930 : BitVec 32 := 32#32
  let v1198 : BitVec 32 := Scalar.muli v1142 c32_i32_930
  let v1199 : Index := Scalar.indexCast v1198
  let c1025_931 : Index := 1025#32
  ![v1199.toNat, 1025]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_934 : BitVec 32 := 32#32
  let v1207 : BitVec 32 := Scalar.muli v1142 c32_i32_934
  let v1208 : Index := Scalar.indexCast v1207
  let c256_935 : Index := 256#32
  ![v1208.toNat, 256]
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_936 : BitVec 32 := 32#32
  let v1210 : BitVec 32 := Scalar.muli v1142 c32_i32_936
  let v1211 : Index := Scalar.indexCast v1210
  let c1026_937 : Index := 1026#32
  ![v1211.toNat, 1026]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_940 : BitVec 32 := 32#32
  let v1219 : BitVec 32 := Scalar.muli v1142 c32_i32_940
  let v1220 : Index := Scalar.indexCast v1219
  let c384_941 : Index := 384#32
  ![v1220.toNat, 384]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_942 : BitVec 32 := 32#32
  let v1222 : BitVec 32 := Scalar.muli v1142 c32_i32_942
  let v1223 : Index := Scalar.indexCast v1222
  let c1027_943 : Index := 1027#32
  ![v1223.toNat, 1027]
def k0_off19 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_946 : BitVec 32 := 32#32
  let v1231 : BitVec 32 := Scalar.muli v1142 c32_i32_946
  let v1232 : Index := Scalar.indexCast v1231
  let c512_947 : Index := 512#32
  ![v1232.toNat, 512]
def k0_off20 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_948 : BitVec 32 := 32#32
  let v1234 : BitVec 32 := Scalar.muli v1142 c32_i32_948
  let v1235 : Index := Scalar.indexCast v1234
  let c1028_949 : Index := 1028#32
  ![v1235.toNat, 1028]
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_952 : BitVec 32 := 32#32
  let v1243 : BitVec 32 := Scalar.muli v1142 c32_i32_952
  let v1244 : Index := Scalar.indexCast v1243
  let c640_953 : Index := 640#32
  ![v1244.toNat, 640]
def k0_off22 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_954 : BitVec 32 := 32#32
  let v1246 : BitVec 32 := Scalar.muli v1142 c32_i32_954
  let v1247 : Index := Scalar.indexCast v1246
  let c1029_955 : Index := 1029#32
  ![v1247.toNat, 1029]
def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_958 : BitVec 32 := 32#32
  let v1255 : BitVec 32 := Scalar.muli v1142 c32_i32_958
  let v1256 : Index := Scalar.indexCast v1255
  let c768_959 : Index := 768#32
  ![v1256.toNat, 768]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_960 : BitVec 32 := 32#32
  let v1258 : BitVec 32 := Scalar.muli v1142 c32_i32_960
  let v1259 : Index := Scalar.indexCast v1258
  let c1030_961 : Index := 1030#32
  ![v1259.toNat, 1030]
def k0_off25 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_964 : BitVec 32 := 32#32
  let v1267 : BitVec 32 := Scalar.muli v1142 c32_i32_964
  let v1268 : Index := Scalar.indexCast v1267
  let c896_965 : Index := 896#32
  ![v1268.toNat, 896]
def k0_off26 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_966 : BitVec 32 := 32#32
  let v1270 : BitVec 32 := Scalar.muli v1142 c32_i32_966
  let v1271 : Index := Scalar.indexCast v1270
  let c1031_967 : Index := 1031#32
  ![v1271.toNat, 1031]
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_975 : BitVec 32 := 32#32
  let v1283 : BitVec 32 := Scalar.muli v1142 c32_i32_975
  let v1284 : Index := Scalar.indexCast v1283
  let c0_976 : Index := 0#32
  ![v1284.toNat, 0]
def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c32_i32_978 : BitVec 32 := 32#32
  let v1289 : BitVec 32 := Scalar.muli v1142 c32_i32_978
  let c0_i32_984 : BitVec 32 := 0#32
  ![v1289.toNat, 0]
def k0_dev11 (d0 : Dev nD) : Nat :=
  let c0_i32_983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_979 : BitVec 32 := 16#32
  let v1290 : BitVec 32 := Scalar.xori v2 c16_i32_979
  let c1_i32_982 : BitVec 32 := 1#32
  let v1291 : BitVec 32 := Scalar.muli v1290 c1_i32_982
  let v1292 : BitVec 32 := Scalar.addi c0_i32_983 v1291
  v1292.toNat
def k0_off29 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_986 : BitVec 32 := 0#32
  let v1299 : BitVec 32 := Scalar.addi v1142 c0_i32_986
  let c32_i32_1015 : BitVec 32 := 32#32
  let v1359 : BitVec 32 := Scalar.muli v1299 c32_i32_1015
  let v1360 : Index := Scalar.indexCast v1359
  let c0_1016 : Index := 0#32
  ![v1360.toNat, 0]
def k0_off30 (d0 : Dev nD) : Fin 2 → Nat :=
  let c4_i32_1000 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_986 : BitVec 32 := 0#32
  let v1299 : BitVec 32 := Scalar.addi v1142 c0_i32_986
  let c8_i32_987 : BitVec 32 := 8#32
  let c0_i32_988 : BitVec 32 := 0#32
  let v1300 : BitVec 1 := Scalar.cmpi .eq c8_i32_987 c0_i32_988
  let c1_i32_989 : BitVec 32 := 1#32
  let v1301 : BitVec 32 := Scalar.select v1300 c1_i32_989 c8_i32_987
  let v1302 : BitVec 32 := Scalar.remsi v1299 v1301
  let c0_i32_991 : BitVec 32 := 0#32
  let v1304 : BitVec 1 := Scalar.cmpi .slt v1302 c0_i32_991
  let c0_i32_992 : BitVec 32 := 0#32
  let v1305 : BitVec 1 := Scalar.cmpi .slt v1301 c0_i32_992
  let v1306 : BitVec 1 := Scalar.xori v1304 v1305
  let c0_i32_990 : BitVec 32 := 0#32
  let v1303 : BitVec 1 := Scalar.cmpi .ne v1302 c0_i32_990
  let v1307 : BitVec 1 := Scalar.andi v1306 v1303
  let v1308 : BitVec 32 := Scalar.addi v1302 v1301
  let v1309 : BitVec 32 := Scalar.select v1307 v1308 v1302
  let c0_i32_994 : BitVec 32 := 0#32
  let v1311 : BitVec 1 := Scalar.cmpi .sgt v1309 c0_i32_994
  let v1312 : BitVec 32 := Scalar.extui v1311
  let c0_i32_995 : BitVec 32 := 0#32
  let v1313 : BitVec 1 := Scalar.cmpi .slt v1309 c0_i32_995
  let v1314 : BitVec 32 := Scalar.extui v1313
  let v1315 : BitVec 32 := Scalar.subi v1312 v1314
  let c2_i32_993 : BitVec 32 := 2#32
  let c0_i32_996 : BitVec 32 := 0#32
  let v1316 : BitVec 1 := Scalar.cmpi .sgt c2_i32_993 c0_i32_996
  let v1317 : BitVec 32 := Scalar.extui v1316
  let c0_i32_997 : BitVec 32 := 0#32
  let v1318 : BitVec 1 := Scalar.cmpi .slt c2_i32_993 c0_i32_997
  let v1319 : BitVec 32 := Scalar.extui v1318
  let v1320 : BitVec 32 := Scalar.subi v1317 v1319
  let v1321 : BitVec 1 := Scalar.cmpi .ne v1315 v1320
  let v1322 : BitVec 32 := Scalar.remsi v1309 c2_i32_993
  let c0_i32_998 : BitVec 32 := 0#32
  let v1323 : BitVec 1 := Scalar.cmpi .ne v1322 c0_i32_998
  let v1324 : BitVec 1 := Scalar.andi v1321 v1323
  let v1310 : BitVec 32 := Scalar.divsi v1309 c2_i32_993
  let c1_i32_999 : BitVec 32 := 1#32
  let v1325 : BitVec 32 := Scalar.subi v1310 c1_i32_999
  let v1326 : BitVec 32 := Scalar.select v1324 v1325 v1310
  let v1327 : BitVec 32 := Scalar.muli c4_i32_1000 v1326
  let c0_i32_1002 : BitVec 32 := 0#32
  let v1329 : BitVec 1 := Scalar.cmpi .sgt v1299 c0_i32_1002
  let v1330 : BitVec 32 := Scalar.extui v1329
  let c0_i32_1003 : BitVec 32 := 0#32
  let v1331 : BitVec 1 := Scalar.cmpi .slt v1299 c0_i32_1003
  let v1332 : BitVec 32 := Scalar.extui v1331
  let v1333 : BitVec 32 := Scalar.subi v1330 v1332
  let c8_i32_1001 : BitVec 32 := 8#32
  let c0_i32_1004 : BitVec 32 := 0#32
  let v1334 : BitVec 1 := Scalar.cmpi .sgt c8_i32_1001 c0_i32_1004
  let v1335 : BitVec 32 := Scalar.extui v1334
  let c0_i32_1005 : BitVec 32 := 0#32
  let v1336 : BitVec 1 := Scalar.cmpi .slt c8_i32_1001 c0_i32_1005
  let v1337 : BitVec 32 := Scalar.extui v1336
  let v1338 : BitVec 32 := Scalar.subi v1335 v1337
  let v1339 : BitVec 1 := Scalar.cmpi .ne v1333 v1338
  let v1340 : BitVec 32 := Scalar.remsi v1299 c8_i32_1001
  let c0_i32_1006 : BitVec 32 := 0#32
  let v1341 : BitVec 1 := Scalar.cmpi .ne v1340 c0_i32_1006
  let v1342 : BitVec 1 := Scalar.andi v1339 v1341
  let v1328 : BitVec 32 := Scalar.divsi v1299 c8_i32_1001
  let c1_i32_1007 : BitVec 32 := 1#32
  let v1343 : BitVec 32 := Scalar.subi v1328 c1_i32_1007
  let v1344 : BitVec 32 := Scalar.select v1342 v1343 v1328
  let v1345 : BitVec 32 := Scalar.addi v1327 v1344
  let c64_i32 : BitVec 32 := 64#32
  let v1346 : BitVec 32 := Scalar.muli v1345 c64_i32
  let c2_i32_1008 : BitVec 32 := 2#32
  let c0_i32_1009 : BitVec 32 := 0#32
  let v1347 : BitVec 1 := Scalar.cmpi .eq c2_i32_1008 c0_i32_1009
  let c1_i32_1010 : BitVec 32 := 1#32
  let v1348 : BitVec 32 := Scalar.select v1347 c1_i32_1010 c2_i32_1008
  let v1349 : BitVec 32 := Scalar.remsi v1299 v1348
  let c0_i32_1012 : BitVec 32 := 0#32
  let v1351 : BitVec 1 := Scalar.cmpi .slt v1349 c0_i32_1012
  let c0_i32_1013 : BitVec 32 := 0#32
  let v1352 : BitVec 1 := Scalar.cmpi .slt v1348 c0_i32_1013
  let v1353 : BitVec 1 := Scalar.xori v1351 v1352
  let c0_i32_1011 : BitVec 32 := 0#32
  let v1350 : BitVec 1 := Scalar.cmpi .ne v1349 c0_i32_1011
  let v1354 : BitVec 1 := Scalar.andi v1353 v1350
  let v1355 : BitVec 32 := Scalar.addi v1349 v1348
  let v1356 : BitVec 32 := Scalar.select v1354 v1355 v1349
  let c32_i32_1014 : BitVec 32 := 32#32
  let v1357 : BitVec 32 := Scalar.muli v1356 c32_i32_1014
  let v1358 : BitVec 32 := Scalar.addi v1346 v1357
  let v1363 : Index := Scalar.indexCast v1358
  let c0_1017 : Index := 0#32
  ![v1363.toNat, 0]
def k0_off31 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_1041 : BitVec 32 := 0#32
  let v1403 : BitVec 1 := Scalar.cmpi .sgt v1142 c0_i32_1041
  let v1404 : BitVec 32 := Scalar.extui v1403
  let c0_i32_1042 : BitVec 32 := 0#32
  let v1405 : BitVec 1 := Scalar.cmpi .slt v1142 c0_i32_1042
  let v1406 : BitVec 32 := Scalar.extui v1405
  let v1407 : BitVec 32 := Scalar.subi v1404 v1406
  let c2_i32_1040 : BitVec 32 := 2#32
  let c0_i32_1043 : BitVec 32 := 0#32
  let v1408 : BitVec 1 := Scalar.cmpi .sgt c2_i32_1040 c0_i32_1043
  let v1409 : BitVec 32 := Scalar.extui v1408
  let c0_i32_1044 : BitVec 32 := 0#32
  let v1410 : BitVec 1 := Scalar.cmpi .slt c2_i32_1040 c0_i32_1044
  let v1411 : BitVec 32 := Scalar.extui v1410
  let v1412 : BitVec 32 := Scalar.subi v1409 v1411
  let v1413 : BitVec 1 := Scalar.cmpi .ne v1407 v1412
  let v1414 : BitVec 32 := Scalar.remsi v1142 c2_i32_1040
  let c0_i32_1045 : BitVec 32 := 0#32
  let v1415 : BitVec 1 := Scalar.cmpi .ne v1414 c0_i32_1045
  let v1416 : BitVec 1 := Scalar.andi v1413 v1415
  let v1402 : BitVec 32 := Scalar.divsi v1142 c2_i32_1040
  let c1_i32_1046 : BitVec 32 := 1#32
  let v1417 : BitVec 32 := Scalar.subi v1402 c1_i32_1046
  let v1418 : BitVec 32 := Scalar.select v1416 v1417 v1402
  let c2_i32_1047 : BitVec 32 := 2#32
  let v1419 : BitVec 32 := Scalar.muli v1418 c2_i32_1047
  let c32_i32_1049 : BitVec 32 := 32#32
  let v1421 : BitVec 32 := Scalar.muli v1419 c32_i32_1049
  let c0_i32_1055 : BitVec 32 := 0#32
  ![v1421.toNat, 0]
def k0_dev12 (d0 : Dev nD) : Nat :=
  let c0_i32_1054 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1050 : BitVec 32 := 4#32
  let v1422 : BitVec 32 := Scalar.xori v2 c4_i32_1050
  let c1_i32_1053 : BitVec 32 := 1#32
  let v1423 : BitVec 32 := Scalar.muli v1422 c1_i32_1053
  let v1424 : BitVec 32 := Scalar.addi c0_i32_1054 v1423
  v1424.toNat
def k0_off32 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c1_i32_1038 : BitVec 32 := 1#32
  let c2_i32_1037 : BitVec 32 := 2#32
  let c0_i32_1025 : BitVec 32 := 0#32
  let v1372 : BitVec 1 := Scalar.cmpi .sgt v1142 c0_i32_1025
  let v1373 : BitVec 32 := Scalar.extui v1372
  let c0_i32_1026 : BitVec 32 := 0#32
  let v1374 : BitVec 1 := Scalar.cmpi .slt v1142 c0_i32_1026
  let v1375 : BitVec 32 := Scalar.extui v1374
  let v1376 : BitVec 32 := Scalar.subi v1373 v1375
  let c1_i32_1024 : BitVec 32 := 1#32
  let c0_i32_1027 : BitVec 32 := 0#32
  let v1377 : BitVec 1 := Scalar.cmpi .sgt c1_i32_1024 c0_i32_1027
  let v1378 : BitVec 32 := Scalar.extui v1377
  let c0_i32_1028 : BitVec 32 := 0#32
  let v1379 : BitVec 1 := Scalar.cmpi .slt c1_i32_1024 c0_i32_1028
  let v1380 : BitVec 32 := Scalar.extui v1379
  let v1381 : BitVec 32 := Scalar.subi v1378 v1380
  let v1382 : BitVec 1 := Scalar.cmpi .ne v1376 v1381
  let v1383 : BitVec 32 := Scalar.remsi v1142 c1_i32_1024
  let c0_i32_1029 : BitVec 32 := 0#32
  let v1384 : BitVec 1 := Scalar.cmpi .ne v1383 c0_i32_1029
  let v1385 : BitVec 1 := Scalar.andi v1382 v1384
  let v1371 : BitVec 32 := Scalar.divsi v1142 c1_i32_1024
  let c1_i32_1030 : BitVec 32 := 1#32
  let v1386 : BitVec 32 := Scalar.subi v1371 c1_i32_1030
  let v1387 : BitVec 32 := Scalar.select v1385 v1386 v1371
  let c2_i32_1031 : BitVec 32 := 2#32
  let c0_i32_1032 : BitVec 32 := 0#32
  let v1388 : BitVec 1 := Scalar.cmpi .eq c2_i32_1031 c0_i32_1032
  let c1_i32_1033 : BitVec 32 := 1#32
  let v1389 : BitVec 32 := Scalar.select v1388 c1_i32_1033 c2_i32_1031
  let v1390 : BitVec 32 := Scalar.remsi v1387 v1389
  let c0_i32_1035 : BitVec 32 := 0#32
  let v1392 : BitVec 1 := Scalar.cmpi .slt v1390 c0_i32_1035
  let c0_i32_1036 : BitVec 32 := 0#32
  let v1393 : BitVec 1 := Scalar.cmpi .slt v1389 c0_i32_1036
  let v1394 : BitVec 1 := Scalar.xori v1392 v1393
  let c0_i32_1034 : BitVec 32 := 0#32
  let v1391 : BitVec 1 := Scalar.cmpi .ne v1390 c0_i32_1034
  let v1395 : BitVec 1 := Scalar.andi v1394 v1391
  let v1396 : BitVec 32 := Scalar.addi v1390 v1389
  let v1397 : BitVec 32 := Scalar.select v1395 v1396 v1390
  let v1398 : BitVec 32 := Scalar.muli c2_i32_1037 v1397
  let v1399 : BitVec 32 := Scalar.subi c1_i32_1038 v1398
  let c1_i32_1039 : BitVec 32 := 1#32
  let v1400 : BitVec 32 := Scalar.muli v1399 c1_i32_1039
  let v1401 : BitVec 32 := Scalar.addi v1142 v1400
  let c0_i32_1057 : BitVec 32 := 0#32
  let v1431 : BitVec 32 := Scalar.addi v1401 c0_i32_1057
  let c32_i32_1087 : BitVec 32 := 32#32
  let v1491 : BitVec 32 := Scalar.muli v1431 c32_i32_1087
  let v1492 : Index := Scalar.indexCast v1491
  let c0_1088 : Index := 0#32
  ![v1492.toNat, 0]
def k0_off33 (d0 : Dev nD) : Fin 2 → Nat :=
  let c4_i32_1071 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c1_i32_1038 : BitVec 32 := 1#32
  let c2_i32_1037 : BitVec 32 := 2#32
  let c0_i32_1025 : BitVec 32 := 0#32
  let v1372 : BitVec 1 := Scalar.cmpi .sgt v1142 c0_i32_1025
  let v1373 : BitVec 32 := Scalar.extui v1372
  let c0_i32_1026 : BitVec 32 := 0#32
  let v1374 : BitVec 1 := Scalar.cmpi .slt v1142 c0_i32_1026
  let v1375 : BitVec 32 := Scalar.extui v1374
  let v1376 : BitVec 32 := Scalar.subi v1373 v1375
  let c1_i32_1024 : BitVec 32 := 1#32
  let c0_i32_1027 : BitVec 32 := 0#32
  let v1377 : BitVec 1 := Scalar.cmpi .sgt c1_i32_1024 c0_i32_1027
  let v1378 : BitVec 32 := Scalar.extui v1377
  let c0_i32_1028 : BitVec 32 := 0#32
  let v1379 : BitVec 1 := Scalar.cmpi .slt c1_i32_1024 c0_i32_1028
  let v1380 : BitVec 32 := Scalar.extui v1379
  let v1381 : BitVec 32 := Scalar.subi v1378 v1380
  let v1382 : BitVec 1 := Scalar.cmpi .ne v1376 v1381
  let v1383 : BitVec 32 := Scalar.remsi v1142 c1_i32_1024
  let c0_i32_1029 : BitVec 32 := 0#32
  let v1384 : BitVec 1 := Scalar.cmpi .ne v1383 c0_i32_1029
  let v1385 : BitVec 1 := Scalar.andi v1382 v1384
  let v1371 : BitVec 32 := Scalar.divsi v1142 c1_i32_1024
  let c1_i32_1030 : BitVec 32 := 1#32
  let v1386 : BitVec 32 := Scalar.subi v1371 c1_i32_1030
  let v1387 : BitVec 32 := Scalar.select v1385 v1386 v1371
  let c2_i32_1031 : BitVec 32 := 2#32
  let c0_i32_1032 : BitVec 32 := 0#32
  let v1388 : BitVec 1 := Scalar.cmpi .eq c2_i32_1031 c0_i32_1032
  let c1_i32_1033 : BitVec 32 := 1#32
  let v1389 : BitVec 32 := Scalar.select v1388 c1_i32_1033 c2_i32_1031
  let v1390 : BitVec 32 := Scalar.remsi v1387 v1389
  let c0_i32_1035 : BitVec 32 := 0#32
  let v1392 : BitVec 1 := Scalar.cmpi .slt v1390 c0_i32_1035
  let c0_i32_1036 : BitVec 32 := 0#32
  let v1393 : BitVec 1 := Scalar.cmpi .slt v1389 c0_i32_1036
  let v1394 : BitVec 1 := Scalar.xori v1392 v1393
  let c0_i32_1034 : BitVec 32 := 0#32
  let v1391 : BitVec 1 := Scalar.cmpi .ne v1390 c0_i32_1034
  let v1395 : BitVec 1 := Scalar.andi v1394 v1391
  let v1396 : BitVec 32 := Scalar.addi v1390 v1389
  let v1397 : BitVec 32 := Scalar.select v1395 v1396 v1390
  let v1398 : BitVec 32 := Scalar.muli c2_i32_1037 v1397
  let v1399 : BitVec 32 := Scalar.subi c1_i32_1038 v1398
  let c1_i32_1039 : BitVec 32 := 1#32
  let v1400 : BitVec 32 := Scalar.muli v1399 c1_i32_1039
  let v1401 : BitVec 32 := Scalar.addi v1142 v1400
  let c0_i32_1057 : BitVec 32 := 0#32
  let v1431 : BitVec 32 := Scalar.addi v1401 c0_i32_1057
  let c8_i32_1058 : BitVec 32 := 8#32
  let c0_i32_1059 : BitVec 32 := 0#32
  let v1432 : BitVec 1 := Scalar.cmpi .eq c8_i32_1058 c0_i32_1059
  let c1_i32_1060 : BitVec 32 := 1#32
  let v1433 : BitVec 32 := Scalar.select v1432 c1_i32_1060 c8_i32_1058
  let v1434 : BitVec 32 := Scalar.remsi v1431 v1433
  let c0_i32_1062 : BitVec 32 := 0#32
  let v1436 : BitVec 1 := Scalar.cmpi .slt v1434 c0_i32_1062
  let c0_i32_1063 : BitVec 32 := 0#32
  let v1437 : BitVec 1 := Scalar.cmpi .slt v1433 c0_i32_1063
  let v1438 : BitVec 1 := Scalar.xori v1436 v1437
  let c0_i32_1061 : BitVec 32 := 0#32
  let v1435 : BitVec 1 := Scalar.cmpi .ne v1434 c0_i32_1061
  let v1439 : BitVec 1 := Scalar.andi v1438 v1435
  let v1440 : BitVec 32 := Scalar.addi v1434 v1433
  let v1441 : BitVec 32 := Scalar.select v1439 v1440 v1434
  let c0_i32_1065 : BitVec 32 := 0#32
  let v1443 : BitVec 1 := Scalar.cmpi .sgt v1441 c0_i32_1065
  let v1444 : BitVec 32 := Scalar.extui v1443
  let c0_i32_1066 : BitVec 32 := 0#32
  let v1445 : BitVec 1 := Scalar.cmpi .slt v1441 c0_i32_1066
  let v1446 : BitVec 32 := Scalar.extui v1445
  let v1447 : BitVec 32 := Scalar.subi v1444 v1446
  let c2_i32_1064 : BitVec 32 := 2#32
  let c0_i32_1067 : BitVec 32 := 0#32
  let v1448 : BitVec 1 := Scalar.cmpi .sgt c2_i32_1064 c0_i32_1067
  let v1449 : BitVec 32 := Scalar.extui v1448
  let c0_i32_1068 : BitVec 32 := 0#32
  let v1450 : BitVec 1 := Scalar.cmpi .slt c2_i32_1064 c0_i32_1068
  let v1451 : BitVec 32 := Scalar.extui v1450
  let v1452 : BitVec 32 := Scalar.subi v1449 v1451
  let v1453 : BitVec 1 := Scalar.cmpi .ne v1447 v1452
  let v1454 : BitVec 32 := Scalar.remsi v1441 c2_i32_1064
  let c0_i32_1069 : BitVec 32 := 0#32
  let v1455 : BitVec 1 := Scalar.cmpi .ne v1454 c0_i32_1069
  let v1456 : BitVec 1 := Scalar.andi v1453 v1455
  let v1442 : BitVec 32 := Scalar.divsi v1441 c2_i32_1064
  let c1_i32_1070 : BitVec 32 := 1#32
  let v1457 : BitVec 32 := Scalar.subi v1442 c1_i32_1070
  let v1458 : BitVec 32 := Scalar.select v1456 v1457 v1442
  let v1459 : BitVec 32 := Scalar.muli c4_i32_1071 v1458
  let c0_i32_1073 : BitVec 32 := 0#32
  let v1461 : BitVec 1 := Scalar.cmpi .sgt v1431 c0_i32_1073
  let v1462 : BitVec 32 := Scalar.extui v1461
  let c0_i32_1074 : BitVec 32 := 0#32
  let v1463 : BitVec 1 := Scalar.cmpi .slt v1431 c0_i32_1074
  let v1464 : BitVec 32 := Scalar.extui v1463
  let v1465 : BitVec 32 := Scalar.subi v1462 v1464
  let c8_i32_1072 : BitVec 32 := 8#32
  let c0_i32_1075 : BitVec 32 := 0#32
  let v1466 : BitVec 1 := Scalar.cmpi .sgt c8_i32_1072 c0_i32_1075
  let v1467 : BitVec 32 := Scalar.extui v1466
  let c0_i32_1076 : BitVec 32 := 0#32
  let v1468 : BitVec 1 := Scalar.cmpi .slt c8_i32_1072 c0_i32_1076
  let v1469 : BitVec 32 := Scalar.extui v1468
  let v1470 : BitVec 32 := Scalar.subi v1467 v1469
  let v1471 : BitVec 1 := Scalar.cmpi .ne v1465 v1470
  let v1472 : BitVec 32 := Scalar.remsi v1431 c8_i32_1072
  let c0_i32_1077 : BitVec 32 := 0#32
  let v1473 : BitVec 1 := Scalar.cmpi .ne v1472 c0_i32_1077
  let v1474 : BitVec 1 := Scalar.andi v1471 v1473
  let v1460 : BitVec 32 := Scalar.divsi v1431 c8_i32_1072
  let c1_i32_1078 : BitVec 32 := 1#32
  let v1475 : BitVec 32 := Scalar.subi v1460 c1_i32_1078
  let v1476 : BitVec 32 := Scalar.select v1474 v1475 v1460
  let v1477 : BitVec 32 := Scalar.addi v1459 v1476
  let c64_i32_1079 : BitVec 32 := 64#32
  let v1478 : BitVec 32 := Scalar.muli v1477 c64_i32_1079
  let c2_i32_1080 : BitVec 32 := 2#32
  let c0_i32_1081 : BitVec 32 := 0#32
  let v1479 : BitVec 1 := Scalar.cmpi .eq c2_i32_1080 c0_i32_1081
  let c1_i32_1082 : BitVec 32 := 1#32
  let v1480 : BitVec 32 := Scalar.select v1479 c1_i32_1082 c2_i32_1080
  let v1481 : BitVec 32 := Scalar.remsi v1431 v1480
  let c0_i32_1084 : BitVec 32 := 0#32
  let v1483 : BitVec 1 := Scalar.cmpi .slt v1481 c0_i32_1084
  let c0_i32_1085 : BitVec 32 := 0#32
  let v1484 : BitVec 1 := Scalar.cmpi .slt v1480 c0_i32_1085
  let v1485 : BitVec 1 := Scalar.xori v1483 v1484
  let c0_i32_1083 : BitVec 32 := 0#32
  let v1482 : BitVec 1 := Scalar.cmpi .ne v1481 c0_i32_1083
  let v1486 : BitVec 1 := Scalar.andi v1485 v1482
  let v1487 : BitVec 32 := Scalar.addi v1481 v1480
  let v1488 : BitVec 32 := Scalar.select v1486 v1487 v1481
  let c32_i32_1086 : BitVec 32 := 32#32
  let v1489 : BitVec 32 := Scalar.muli v1488 c32_i32_1086
  let v1490 : BitVec 32 := Scalar.addi v1478 v1489
  let v1495 : Index := Scalar.indexCast v1490
  let c0_1089 : Index := 0#32
  ![v1495.toNat, 0]
def k0_off34 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_1041 : BitVec 32 := 0#32
  let v1403 : BitVec 1 := Scalar.cmpi .sgt v1142 c0_i32_1041
  let v1404 : BitVec 32 := Scalar.extui v1403
  let c0_i32_1042 : BitVec 32 := 0#32
  let v1405 : BitVec 1 := Scalar.cmpi .slt v1142 c0_i32_1042
  let v1406 : BitVec 32 := Scalar.extui v1405
  let v1407 : BitVec 32 := Scalar.subi v1404 v1406
  let c2_i32_1040 : BitVec 32 := 2#32
  let c0_i32_1043 : BitVec 32 := 0#32
  let v1408 : BitVec 1 := Scalar.cmpi .sgt c2_i32_1040 c0_i32_1043
  let v1409 : BitVec 32 := Scalar.extui v1408
  let c0_i32_1044 : BitVec 32 := 0#32
  let v1410 : BitVec 1 := Scalar.cmpi .slt c2_i32_1040 c0_i32_1044
  let v1411 : BitVec 32 := Scalar.extui v1410
  let v1412 : BitVec 32 := Scalar.subi v1409 v1411
  let v1413 : BitVec 1 := Scalar.cmpi .ne v1407 v1412
  let v1414 : BitVec 32 := Scalar.remsi v1142 c2_i32_1040
  let c0_i32_1045 : BitVec 32 := 0#32
  let v1415 : BitVec 1 := Scalar.cmpi .ne v1414 c0_i32_1045
  let v1416 : BitVec 1 := Scalar.andi v1413 v1415
  let v1402 : BitVec 32 := Scalar.divsi v1142 c2_i32_1040
  let c1_i32_1046 : BitVec 32 := 1#32
  let v1417 : BitVec 32 := Scalar.subi v1402 c1_i32_1046
  let v1418 : BitVec 32 := Scalar.select v1416 v1417 v1402
  let c2_i32_1047 : BitVec 32 := 2#32
  let v1419 : BitVec 32 := Scalar.muli v1418 c2_i32_1047
  let c0_i32_1113 : BitVec 32 := 0#32
  let v1535 : BitVec 1 := Scalar.cmpi .sgt v1419 c0_i32_1113
  let v1536 : BitVec 32 := Scalar.extui v1535
  let c0_i32_1114 : BitVec 32 := 0#32
  let v1537 : BitVec 1 := Scalar.cmpi .slt v1419 c0_i32_1114
  let v1538 : BitVec 32 := Scalar.extui v1537
  let v1539 : BitVec 32 := Scalar.subi v1536 v1538
  let c4_i32_1112 : BitVec 32 := 4#32
  let c0_i32_1115 : BitVec 32 := 0#32
  let v1540 : BitVec 1 := Scalar.cmpi .sgt c4_i32_1112 c0_i32_1115
  let v1541 : BitVec 32 := Scalar.extui v1540
  let c0_i32_1116 : BitVec 32 := 0#32
  let v1542 : BitVec 1 := Scalar.cmpi .slt c4_i32_1112 c0_i32_1116
  let v1543 : BitVec 32 := Scalar.extui v1542
  let v1544 : BitVec 32 := Scalar.subi v1541 v1543
  let v1545 : BitVec 1 := Scalar.cmpi .ne v1539 v1544
  let v1546 : BitVec 32 := Scalar.remsi v1419 c4_i32_1112
  let c0_i32_1117 : BitVec 32 := 0#32
  let v1547 : BitVec 1 := Scalar.cmpi .ne v1546 c0_i32_1117
  let v1548 : BitVec 1 := Scalar.andi v1545 v1547
  let v1534 : BitVec 32 := Scalar.divsi v1419 c4_i32_1112
  let c1_i32_1118 : BitVec 32 := 1#32
  let v1549 : BitVec 32 := Scalar.subi v1534 c1_i32_1118
  let v1550 : BitVec 32 := Scalar.select v1548 v1549 v1534
  let c4_i32_1119 : BitVec 32 := 4#32
  let v1551 : BitVec 32 := Scalar.muli v1550 c4_i32_1119
  let c32_i32_1121 : BitVec 32 := 32#32
  let v1553 : BitVec 32 := Scalar.muli v1551 c32_i32_1121
  let c0_i32_1127 : BitVec 32 := 0#32
  ![v1553.toNat, 0]
def k0_dev13 (d0 : Dev nD) : Nat :=
  let c0_i32_1126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1122 : BitVec 32 := 2#32
  let v1554 : BitVec 32 := Scalar.xori v2 c2_i32_1122
  let c1_i32_1125 : BitVec 32 := 1#32
  let v1555 : BitVec 32 := Scalar.muli v1554 c1_i32_1125
  let v1556 : BitVec 32 := Scalar.addi c0_i32_1126 v1555
  v1556.toNat
def k0_off35 (d0 : Dev nD) (c0_i32_1129 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_1041 : BitVec 32 := 0#32
  let v1403 : BitVec 1 := Scalar.cmpi .sgt v1142 c0_i32_1041
  let v1404 : BitVec 32 := Scalar.extui v1403
  let c0_i32_1042 : BitVec 32 := 0#32
  let v1405 : BitVec 1 := Scalar.cmpi .slt v1142 c0_i32_1042
  let v1406 : BitVec 32 := Scalar.extui v1405
  let v1407 : BitVec 32 := Scalar.subi v1404 v1406
  let c2_i32_1040 : BitVec 32 := 2#32
  let c0_i32_1043 : BitVec 32 := 0#32
  let v1408 : BitVec 1 := Scalar.cmpi .sgt c2_i32_1040 c0_i32_1043
  let v1409 : BitVec 32 := Scalar.extui v1408
  let c0_i32_1044 : BitVec 32 := 0#32
  let v1410 : BitVec 1 := Scalar.cmpi .slt c2_i32_1040 c0_i32_1044
  let v1411 : BitVec 32 := Scalar.extui v1410
  let v1412 : BitVec 32 := Scalar.subi v1409 v1411
  let v1413 : BitVec 1 := Scalar.cmpi .ne v1407 v1412
  let v1414 : BitVec 32 := Scalar.remsi v1142 c2_i32_1040
  let c0_i32_1045 : BitVec 32 := 0#32
  let v1415 : BitVec 1 := Scalar.cmpi .ne v1414 c0_i32_1045
  let v1416 : BitVec 1 := Scalar.andi v1413 v1415
  let v1402 : BitVec 32 := Scalar.divsi v1142 c2_i32_1040
  let c1_i32_1046 : BitVec 32 := 1#32
  let v1417 : BitVec 32 := Scalar.subi v1402 c1_i32_1046
  let v1418 : BitVec 32 := Scalar.select v1416 v1417 v1402
  let c2_i32_1047 : BitVec 32 := 2#32
  let v1419 : BitVec 32 := Scalar.muli v1418 c2_i32_1047
  let c1_i32_1110 : BitVec 32 := 1#32
  let c2_i32_1109 : BitVec 32 := 2#32
  let c0_i32_1097 : BitVec 32 := 0#32
  let v1504 : BitVec 1 := Scalar.cmpi .sgt v1419 c0_i32_1097
  let v1505 : BitVec 32 := Scalar.extui v1504
  let c0_i32_1098 : BitVec 32 := 0#32
  let v1506 : BitVec 1 := Scalar.cmpi .slt v1419 c0_i32_1098
  let v1507 : BitVec 32 := Scalar.extui v1506
  let v1508 : BitVec 32 := Scalar.subi v1505 v1507
  let c2_i32_1096 : BitVec 32 := 2#32
  let c0_i32_1099 : BitVec 32 := 0#32
  let v1509 : BitVec 1 := Scalar.cmpi .sgt c2_i32_1096 c0_i32_1099
  let v1510 : BitVec 32 := Scalar.extui v1509
  let c0_i32_1100 : BitVec 32 := 0#32
  let v1511 : BitVec 1 := Scalar.cmpi .slt c2_i32_1096 c0_i32_1100
  let v1512 : BitVec 32 := Scalar.extui v1511
  let v1513 : BitVec 32 := Scalar.subi v1510 v1512
  let v1514 : BitVec 1 := Scalar.cmpi .ne v1508 v1513
  let v1515 : BitVec 32 := Scalar.remsi v1419 c2_i32_1096
  let c0_i32_1101 : BitVec 32 := 0#32
  let v1516 : BitVec 1 := Scalar.cmpi .ne v1515 c0_i32_1101
  let v1517 : BitVec 1 := Scalar.andi v1514 v1516
  let v1503 : BitVec 32 := Scalar.divsi v1419 c2_i32_1096
  let c1_i32_1102 : BitVec 32 := 1#32
  let v1518 : BitVec 32 := Scalar.subi v1503 c1_i32_1102
  let v1519 : BitVec 32 := Scalar.select v1517 v1518 v1503
  let c2_i32_1103 : BitVec 32 := 2#32
  let c0_i32_1104 : BitVec 32 := 0#32
  let v1520 : BitVec 1 := Scalar.cmpi .eq c2_i32_1103 c0_i32_1104
  let c1_i32_1105 : BitVec 32 := 1#32
  let v1521 : BitVec 32 := Scalar.select v1520 c1_i32_1105 c2_i32_1103
  let v1522 : BitVec 32 := Scalar.remsi v1519 v1521
  let c0_i32_1107 : BitVec 32 := 0#32
  let v1524 : BitVec 1 := Scalar.cmpi .slt v1522 c0_i32_1107
  let c0_i32_1108 : BitVec 32 := 0#32
  let v1525 : BitVec 1 := Scalar.cmpi .slt v1521 c0_i32_1108
  let v1526 : BitVec 1 := Scalar.xori v1524 v1525
  let c0_i32_1106 : BitVec 32 := 0#32
  let v1523 : BitVec 1 := Scalar.cmpi .ne v1522 c0_i32_1106
  let v1527 : BitVec 1 := Scalar.andi v1526 v1523
  let v1528 : BitVec 32 := Scalar.addi v1522 v1521
  let v1529 : BitVec 32 := Scalar.select v1527 v1528 v1522
  let v1530 : BitVec 32 := Scalar.muli c2_i32_1109 v1529
  let v1531 : BitVec 32 := Scalar.subi c1_i32_1110 v1530
  let c2_i32_1111 : BitVec 32 := 2#32
  let v1532 : BitVec 32 := Scalar.muli v1531 c2_i32_1111
  let v1533 : BitVec 32 := Scalar.addi v1419 v1532
  let v1563 : BitVec 32 := Scalar.addi v1533 c0_i32_1129
  let c32_i32_1159 : BitVec 32 := 32#32
  let v1623 : BitVec 32 := Scalar.muli v1563 c32_i32_1159
  let v1624 : Index := Scalar.indexCast v1623
  let c0_1160 : Index := 0#32
  ![v1624.toNat, 0]
def k0_off36 (d0 : Dev nD) (c0_i32_1129 : BitVec 32) : Fin 2 → Nat :=
  let c4_i32_1143 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_1041 : BitVec 32 := 0#32
  let v1403 : BitVec 1 := Scalar.cmpi .sgt v1142 c0_i32_1041
  let v1404 : BitVec 32 := Scalar.extui v1403
  let c0_i32_1042 : BitVec 32 := 0#32
  let v1405 : BitVec 1 := Scalar.cmpi .slt v1142 c0_i32_1042
  let v1406 : BitVec 32 := Scalar.extui v1405
  let v1407 : BitVec 32 := Scalar.subi v1404 v1406
  let c2_i32_1040 : BitVec 32 := 2#32
  let c0_i32_1043 : BitVec 32 := 0#32
  let v1408 : BitVec 1 := Scalar.cmpi .sgt c2_i32_1040 c0_i32_1043
  let v1409 : BitVec 32 := Scalar.extui v1408
  let c0_i32_1044 : BitVec 32 := 0#32
  let v1410 : BitVec 1 := Scalar.cmpi .slt c2_i32_1040 c0_i32_1044
  let v1411 : BitVec 32 := Scalar.extui v1410
  let v1412 : BitVec 32 := Scalar.subi v1409 v1411
  let v1413 : BitVec 1 := Scalar.cmpi .ne v1407 v1412
  let v1414 : BitVec 32 := Scalar.remsi v1142 c2_i32_1040
  let c0_i32_1045 : BitVec 32 := 0#32
  let v1415 : BitVec 1 := Scalar.cmpi .ne v1414 c0_i32_1045
  let v1416 : BitVec 1 := Scalar.andi v1413 v1415
  let v1402 : BitVec 32 := Scalar.divsi v1142 c2_i32_1040
  let c1_i32_1046 : BitVec 32 := 1#32
  let v1417 : BitVec 32 := Scalar.subi v1402 c1_i32_1046
  let v1418 : BitVec 32 := Scalar.select v1416 v1417 v1402
  let c2_i32_1047 : BitVec 32 := 2#32
  let v1419 : BitVec 32 := Scalar.muli v1418 c2_i32_1047
  let c1_i32_1110 : BitVec 32 := 1#32
  let c2_i32_1109 : BitVec 32 := 2#32
  let c0_i32_1097 : BitVec 32 := 0#32
  let v1504 : BitVec 1 := Scalar.cmpi .sgt v1419 c0_i32_1097
  let v1505 : BitVec 32 := Scalar.extui v1504
  let c0_i32_1098 : BitVec 32 := 0#32
  let v1506 : BitVec 1 := Scalar.cmpi .slt v1419 c0_i32_1098
  let v1507 : BitVec 32 := Scalar.extui v1506
  let v1508 : BitVec 32 := Scalar.subi v1505 v1507
  let c2_i32_1096 : BitVec 32 := 2#32
  let c0_i32_1099 : BitVec 32 := 0#32
  let v1509 : BitVec 1 := Scalar.cmpi .sgt c2_i32_1096 c0_i32_1099
  let v1510 : BitVec 32 := Scalar.extui v1509
  let c0_i32_1100 : BitVec 32 := 0#32
  let v1511 : BitVec 1 := Scalar.cmpi .slt c2_i32_1096 c0_i32_1100
  let v1512 : BitVec 32 := Scalar.extui v1511
  let v1513 : BitVec 32 := Scalar.subi v1510 v1512
  let v1514 : BitVec 1 := Scalar.cmpi .ne v1508 v1513
  let v1515 : BitVec 32 := Scalar.remsi v1419 c2_i32_1096
  let c0_i32_1101 : BitVec 32 := 0#32
  let v1516 : BitVec 1 := Scalar.cmpi .ne v1515 c0_i32_1101
  let v1517 : BitVec 1 := Scalar.andi v1514 v1516
  let v1503 : BitVec 32 := Scalar.divsi v1419 c2_i32_1096
  let c1_i32_1102 : BitVec 32 := 1#32
  let v1518 : BitVec 32 := Scalar.subi v1503 c1_i32_1102
  let v1519 : BitVec 32 := Scalar.select v1517 v1518 v1503
  let c2_i32_1103 : BitVec 32 := 2#32
  let c0_i32_1104 : BitVec 32 := 0#32
  let v1520 : BitVec 1 := Scalar.cmpi .eq c2_i32_1103 c0_i32_1104
  let c1_i32_1105 : BitVec 32 := 1#32
  let v1521 : BitVec 32 := Scalar.select v1520 c1_i32_1105 c2_i32_1103
  let v1522 : BitVec 32 := Scalar.remsi v1519 v1521
  let c0_i32_1107 : BitVec 32 := 0#32
  let v1524 : BitVec 1 := Scalar.cmpi .slt v1522 c0_i32_1107
  let c0_i32_1108 : BitVec 32 := 0#32
  let v1525 : BitVec 1 := Scalar.cmpi .slt v1521 c0_i32_1108
  let v1526 : BitVec 1 := Scalar.xori v1524 v1525
  let c0_i32_1106 : BitVec 32 := 0#32
  let v1523 : BitVec 1 := Scalar.cmpi .ne v1522 c0_i32_1106
  let v1527 : BitVec 1 := Scalar.andi v1526 v1523
  let v1528 : BitVec 32 := Scalar.addi v1522 v1521
  let v1529 : BitVec 32 := Scalar.select v1527 v1528 v1522
  let v1530 : BitVec 32 := Scalar.muli c2_i32_1109 v1529
  let v1531 : BitVec 32 := Scalar.subi c1_i32_1110 v1530
  let c2_i32_1111 : BitVec 32 := 2#32
  let v1532 : BitVec 32 := Scalar.muli v1531 c2_i32_1111
  let v1533 : BitVec 32 := Scalar.addi v1419 v1532
  let v1563 : BitVec 32 := Scalar.addi v1533 c0_i32_1129
  let c8_i32_1130 : BitVec 32 := 8#32
  let c0_i32_1131 : BitVec 32 := 0#32
  let v1564 : BitVec 1 := Scalar.cmpi .eq c8_i32_1130 c0_i32_1131
  let c1_i32_1132 : BitVec 32 := 1#32
  let v1565 : BitVec 32 := Scalar.select v1564 c1_i32_1132 c8_i32_1130
  let v1566 : BitVec 32 := Scalar.remsi v1563 v1565
  let c0_i32_1134 : BitVec 32 := 0#32
  let v1568 : BitVec 1 := Scalar.cmpi .slt v1566 c0_i32_1134
  let c0_i32_1135 : BitVec 32 := 0#32
  let v1569 : BitVec 1 := Scalar.cmpi .slt v1565 c0_i32_1135
  let v1570 : BitVec 1 := Scalar.xori v1568 v1569
  let c0_i32_1133 : BitVec 32 := 0#32
  let v1567 : BitVec 1 := Scalar.cmpi .ne v1566 c0_i32_1133
  let v1571 : BitVec 1 := Scalar.andi v1570 v1567
  let v1572 : BitVec 32 := Scalar.addi v1566 v1565
  let v1573 : BitVec 32 := Scalar.select v1571 v1572 v1566
  let c0_i32_1137 : BitVec 32 := 0#32
  let v1575 : BitVec 1 := Scalar.cmpi .sgt v1573 c0_i32_1137
  let v1576 : BitVec 32 := Scalar.extui v1575
  let c0_i32_1138 : BitVec 32 := 0#32
  let v1577 : BitVec 1 := Scalar.cmpi .slt v1573 c0_i32_1138
  let v1578 : BitVec 32 := Scalar.extui v1577
  let v1579 : BitVec 32 := Scalar.subi v1576 v1578
  let c2_i32_1136 : BitVec 32 := 2#32
  let c0_i32_1139 : BitVec 32 := 0#32
  let v1580 : BitVec 1 := Scalar.cmpi .sgt c2_i32_1136 c0_i32_1139
  let v1581 : BitVec 32 := Scalar.extui v1580
  let c0_i32_1140 : BitVec 32 := 0#32
  let v1582 : BitVec 1 := Scalar.cmpi .slt c2_i32_1136 c0_i32_1140
  let v1583 : BitVec 32 := Scalar.extui v1582
  let v1584 : BitVec 32 := Scalar.subi v1581 v1583
  let v1585 : BitVec 1 := Scalar.cmpi .ne v1579 v1584
  let v1586 : BitVec 32 := Scalar.remsi v1573 c2_i32_1136
  let c0_i32_1141 : BitVec 32 := 0#32
  let v1587 : BitVec 1 := Scalar.cmpi .ne v1586 c0_i32_1141
  let v1588 : BitVec 1 := Scalar.andi v1585 v1587
  let v1574 : BitVec 32 := Scalar.divsi v1573 c2_i32_1136
  let c1_i32_1142 : BitVec 32 := 1#32
  let v1589 : BitVec 32 := Scalar.subi v1574 c1_i32_1142
  let v1590 : BitVec 32 := Scalar.select v1588 v1589 v1574
  let v1591 : BitVec 32 := Scalar.muli c4_i32_1143 v1590
  let c0_i32_1145 : BitVec 32 := 0#32
  let v1593 : BitVec 1 := Scalar.cmpi .sgt v1563 c0_i32_1145
  let v1594 : BitVec 32 := Scalar.extui v1593
  let c0_i32_1146 : BitVec 32 := 0#32
  let v1595 : BitVec 1 := Scalar.cmpi .slt v1563 c0_i32_1146
  let v1596 : BitVec 32 := Scalar.extui v1595
  let v1597 : BitVec 32 := Scalar.subi v1594 v1596
  let c8_i32_1144 : BitVec 32 := 8#32
  let c0_i32_1147 : BitVec 32 := 0#32
  let v1598 : BitVec 1 := Scalar.cmpi .sgt c8_i32_1144 c0_i32_1147
  let v1599 : BitVec 32 := Scalar.extui v1598
  let c0_i32_1148 : BitVec 32 := 0#32
  let v1600 : BitVec 1 := Scalar.cmpi .slt c8_i32_1144 c0_i32_1148
  let v1601 : BitVec 32 := Scalar.extui v1600
  let v1602 : BitVec 32 := Scalar.subi v1599 v1601
  let v1603 : BitVec 1 := Scalar.cmpi .ne v1597 v1602
  let v1604 : BitVec 32 := Scalar.remsi v1563 c8_i32_1144
  let c0_i32_1149 : BitVec 32 := 0#32
  let v1605 : BitVec 1 := Scalar.cmpi .ne v1604 c0_i32_1149
  let v1606 : BitVec 1 := Scalar.andi v1603 v1605
  let v1592 : BitVec 32 := Scalar.divsi v1563 c8_i32_1144
  let c1_i32_1150 : BitVec 32 := 1#32
  let v1607 : BitVec 32 := Scalar.subi v1592 c1_i32_1150
  let v1608 : BitVec 32 := Scalar.select v1606 v1607 v1592
  let v1609 : BitVec 32 := Scalar.addi v1591 v1608
  let c64_i32_1151 : BitVec 32 := 64#32
  let v1610 : BitVec 32 := Scalar.muli v1609 c64_i32_1151
  let c2_i32_1152 : BitVec 32 := 2#32
  let c0_i32_1153 : BitVec 32 := 0#32
  let v1611 : BitVec 1 := Scalar.cmpi .eq c2_i32_1152 c0_i32_1153
  let c1_i32_1154 : BitVec 32 := 1#32
  let v1612 : BitVec 32 := Scalar.select v1611 c1_i32_1154 c2_i32_1152
  let v1613 : BitVec 32 := Scalar.remsi v1563 v1612
  let c0_i32_1156 : BitVec 32 := 0#32
  let v1615 : BitVec 1 := Scalar.cmpi .slt v1613 c0_i32_1156
  let c0_i32_1157 : BitVec 32 := 0#32
  let v1616 : BitVec 1 := Scalar.cmpi .slt v1612 c0_i32_1157
  let v1617 : BitVec 1 := Scalar.xori v1615 v1616
  let c0_i32_1155 : BitVec 32 := 0#32
  let v1614 : BitVec 1 := Scalar.cmpi .ne v1613 c0_i32_1155
  let v1618 : BitVec 1 := Scalar.andi v1617 v1614
  let v1619 : BitVec 32 := Scalar.addi v1613 v1612
  let v1620 : BitVec 32 := Scalar.select v1618 v1619 v1613
  let c32_i32_1158 : BitVec 32 := 32#32
  let v1621 : BitVec 32 := Scalar.muli v1620 c32_i32_1158
  let v1622 : BitVec 32 := Scalar.addi v1610 v1621
  let v1627 : Index := Scalar.indexCast v1622
  let c0_1161 : Index := 0#32
  ![v1627.toNat, 0]
def k0_off37 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_1041 : BitVec 32 := 0#32
  let v1403 : BitVec 1 := Scalar.cmpi .sgt v1142 c0_i32_1041
  let v1404 : BitVec 32 := Scalar.extui v1403
  let c0_i32_1042 : BitVec 32 := 0#32
  let v1405 : BitVec 1 := Scalar.cmpi .slt v1142 c0_i32_1042
  let v1406 : BitVec 32 := Scalar.extui v1405
  let v1407 : BitVec 32 := Scalar.subi v1404 v1406
  let c2_i32_1040 : BitVec 32 := 2#32
  let c0_i32_1043 : BitVec 32 := 0#32
  let v1408 : BitVec 1 := Scalar.cmpi .sgt c2_i32_1040 c0_i32_1043
  let v1409 : BitVec 32 := Scalar.extui v1408
  let c0_i32_1044 : BitVec 32 := 0#32
  let v1410 : BitVec 1 := Scalar.cmpi .slt c2_i32_1040 c0_i32_1044
  let v1411 : BitVec 32 := Scalar.extui v1410
  let v1412 : BitVec 32 := Scalar.subi v1409 v1411
  let v1413 : BitVec 1 := Scalar.cmpi .ne v1407 v1412
  let v1414 : BitVec 32 := Scalar.remsi v1142 c2_i32_1040
  let c0_i32_1045 : BitVec 32 := 0#32
  let v1415 : BitVec 1 := Scalar.cmpi .ne v1414 c0_i32_1045
  let v1416 : BitVec 1 := Scalar.andi v1413 v1415
  let v1402 : BitVec 32 := Scalar.divsi v1142 c2_i32_1040
  let c1_i32_1046 : BitVec 32 := 1#32
  let v1417 : BitVec 32 := Scalar.subi v1402 c1_i32_1046
  let v1418 : BitVec 32 := Scalar.select v1416 v1417 v1402
  let c2_i32_1047 : BitVec 32 := 2#32
  let v1419 : BitVec 32 := Scalar.muli v1418 c2_i32_1047
  let c0_i32_1113 : BitVec 32 := 0#32
  let v1535 : BitVec 1 := Scalar.cmpi .sgt v1419 c0_i32_1113
  let v1536 : BitVec 32 := Scalar.extui v1535
  let c0_i32_1114 : BitVec 32 := 0#32
  let v1537 : BitVec 1 := Scalar.cmpi .slt v1419 c0_i32_1114
  let v1538 : BitVec 32 := Scalar.extui v1537
  let v1539 : BitVec 32 := Scalar.subi v1536 v1538
  let c4_i32_1112 : BitVec 32 := 4#32
  let c0_i32_1115 : BitVec 32 := 0#32
  let v1540 : BitVec 1 := Scalar.cmpi .sgt c4_i32_1112 c0_i32_1115
  let v1541 : BitVec 32 := Scalar.extui v1540
  let c0_i32_1116 : BitVec 32 := 0#32
  let v1542 : BitVec 1 := Scalar.cmpi .slt c4_i32_1112 c0_i32_1116
  let v1543 : BitVec 32 := Scalar.extui v1542
  let v1544 : BitVec 32 := Scalar.subi v1541 v1543
  let v1545 : BitVec 1 := Scalar.cmpi .ne v1539 v1544
  let v1546 : BitVec 32 := Scalar.remsi v1419 c4_i32_1112
  let c0_i32_1117 : BitVec 32 := 0#32
  let v1547 : BitVec 1 := Scalar.cmpi .ne v1546 c0_i32_1117
  let v1548 : BitVec 1 := Scalar.andi v1545 v1547
  let v1534 : BitVec 32 := Scalar.divsi v1419 c4_i32_1112
  let c1_i32_1118 : BitVec 32 := 1#32
  let v1549 : BitVec 32 := Scalar.subi v1534 c1_i32_1118
  let v1550 : BitVec 32 := Scalar.select v1548 v1549 v1534
  let c4_i32_1119 : BitVec 32 := 4#32
  let v1551 : BitVec 32 := Scalar.muli v1550 c4_i32_1119
  let c0_i32_1218 : BitVec 32 := 0#32
  let v1733 : BitVec 1 := Scalar.cmpi .sgt v1551 c0_i32_1218
  let v1734 : BitVec 32 := Scalar.extui v1733
  let c0_i32_1219 : BitVec 32 := 0#32
  let v1735 : BitVec 1 := Scalar.cmpi .slt v1551 c0_i32_1219
  let v1736 : BitVec 32 := Scalar.extui v1735
  let v1737 : BitVec 32 := Scalar.subi v1734 v1736
  let c8_i32_1217 : BitVec 32 := 8#32
  let c0_i32_1220 : BitVec 32 := 0#32
  let v1738 : BitVec 1 := Scalar.cmpi .sgt c8_i32_1217 c0_i32_1220
  let v1739 : BitVec 32 := Scalar.extui v1738
  let c0_i32_1221 : BitVec 32 := 0#32
  let v1740 : BitVec 1 := Scalar.cmpi .slt c8_i32_1217 c0_i32_1221
  let v1741 : BitVec 32 := Scalar.extui v1740
  let v1742 : BitVec 32 := Scalar.subi v1739 v1741
  let v1743 : BitVec 1 := Scalar.cmpi .ne v1737 v1742
  let v1744 : BitVec 32 := Scalar.remsi v1551 c8_i32_1217
  let c0_i32_1222 : BitVec 32 := 0#32
  let v1745 : BitVec 1 := Scalar.cmpi .ne v1744 c0_i32_1222
  let v1746 : BitVec 1 := Scalar.andi v1743 v1745
  let v1732 : BitVec 32 := Scalar.divsi v1551 c8_i32_1217
  let c1_i32_1223 : BitVec 32 := 1#32
  let v1747 : BitVec 32 := Scalar.subi v1732 c1_i32_1223
  let v1748 : BitVec 32 := Scalar.select v1746 v1747 v1732
  let c8_i32_1224 : BitVec 32 := 8#32
  let v1749 : BitVec 32 := Scalar.muli v1748 c8_i32_1224
  let c32_i32_1226 : BitVec 32 := 32#32
  let v1751 : BitVec 32 := Scalar.muli v1749 c32_i32_1226
  let c0_i32_1232 : BitVec 32 := 0#32
  ![v1751.toNat, 0]
def k0_dev14 (d0 : Dev nD) : Nat :=
  let c0_i32_1231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1227 : BitVec 32 := 8#32
  let v1752 : BitVec 32 := Scalar.xori v2 c8_i32_1227
  let c1_i32_1230 : BitVec 32 := 1#32
  let v1753 : BitVec 32 := Scalar.muli v1752 c1_i32_1230
  let v1754 : BitVec 32 := Scalar.addi c0_i32_1231 v1753
  v1754.toNat
def k0_off38 (d0 : Dev nD) (c0_i32_1234 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_1041 : BitVec 32 := 0#32
  let v1403 : BitVec 1 := Scalar.cmpi .sgt v1142 c0_i32_1041
  let v1404 : BitVec 32 := Scalar.extui v1403
  let c0_i32_1042 : BitVec 32 := 0#32
  let v1405 : BitVec 1 := Scalar.cmpi .slt v1142 c0_i32_1042
  let v1406 : BitVec 32 := Scalar.extui v1405
  let v1407 : BitVec 32 := Scalar.subi v1404 v1406
  let c2_i32_1040 : BitVec 32 := 2#32
  let c0_i32_1043 : BitVec 32 := 0#32
  let v1408 : BitVec 1 := Scalar.cmpi .sgt c2_i32_1040 c0_i32_1043
  let v1409 : BitVec 32 := Scalar.extui v1408
  let c0_i32_1044 : BitVec 32 := 0#32
  let v1410 : BitVec 1 := Scalar.cmpi .slt c2_i32_1040 c0_i32_1044
  let v1411 : BitVec 32 := Scalar.extui v1410
  let v1412 : BitVec 32 := Scalar.subi v1409 v1411
  let v1413 : BitVec 1 := Scalar.cmpi .ne v1407 v1412
  let v1414 : BitVec 32 := Scalar.remsi v1142 c2_i32_1040
  let c0_i32_1045 : BitVec 32 := 0#32
  let v1415 : BitVec 1 := Scalar.cmpi .ne v1414 c0_i32_1045
  let v1416 : BitVec 1 := Scalar.andi v1413 v1415
  let v1402 : BitVec 32 := Scalar.divsi v1142 c2_i32_1040
  let c1_i32_1046 : BitVec 32 := 1#32
  let v1417 : BitVec 32 := Scalar.subi v1402 c1_i32_1046
  let v1418 : BitVec 32 := Scalar.select v1416 v1417 v1402
  let c2_i32_1047 : BitVec 32 := 2#32
  let v1419 : BitVec 32 := Scalar.muli v1418 c2_i32_1047
  let c0_i32_1113 : BitVec 32 := 0#32
  let v1535 : BitVec 1 := Scalar.cmpi .sgt v1419 c0_i32_1113
  let v1536 : BitVec 32 := Scalar.extui v1535
  let c0_i32_1114 : BitVec 32 := 0#32
  let v1537 : BitVec 1 := Scalar.cmpi .slt v1419 c0_i32_1114
  let v1538 : BitVec 32 := Scalar.extui v1537
  let v1539 : BitVec 32 := Scalar.subi v1536 v1538
  let c4_i32_1112 : BitVec 32 := 4#32
  let c0_i32_1115 : BitVec 32 := 0#32
  let v1540 : BitVec 1 := Scalar.cmpi .sgt c4_i32_1112 c0_i32_1115
  let v1541 : BitVec 32 := Scalar.extui v1540
  let c0_i32_1116 : BitVec 32 := 0#32
  let v1542 : BitVec 1 := Scalar.cmpi .slt c4_i32_1112 c0_i32_1116
  let v1543 : BitVec 32 := Scalar.extui v1542
  let v1544 : BitVec 32 := Scalar.subi v1541 v1543
  let v1545 : BitVec 1 := Scalar.cmpi .ne v1539 v1544
  let v1546 : BitVec 32 := Scalar.remsi v1419 c4_i32_1112
  let c0_i32_1117 : BitVec 32 := 0#32
  let v1547 : BitVec 1 := Scalar.cmpi .ne v1546 c0_i32_1117
  let v1548 : BitVec 1 := Scalar.andi v1545 v1547
  let v1534 : BitVec 32 := Scalar.divsi v1419 c4_i32_1112
  let c1_i32_1118 : BitVec 32 := 1#32
  let v1549 : BitVec 32 := Scalar.subi v1534 c1_i32_1118
  let v1550 : BitVec 32 := Scalar.select v1548 v1549 v1534
  let c4_i32_1119 : BitVec 32 := 4#32
  let v1551 : BitVec 32 := Scalar.muli v1550 c4_i32_1119
  let c1_i32_1215 : BitVec 32 := 1#32
  let c2_i32_1214 : BitVec 32 := 2#32
  let c0_i32_1202 : BitVec 32 := 0#32
  let v1702 : BitVec 1 := Scalar.cmpi .sgt v1551 c0_i32_1202
  let v1703 : BitVec 32 := Scalar.extui v1702
  let c0_i32_1203 : BitVec 32 := 0#32
  let v1704 : BitVec 1 := Scalar.cmpi .slt v1551 c0_i32_1203
  let v1705 : BitVec 32 := Scalar.extui v1704
  let v1706 : BitVec 32 := Scalar.subi v1703 v1705
  let c4_i32_1201 : BitVec 32 := 4#32
  let c0_i32_1204 : BitVec 32 := 0#32
  let v1707 : BitVec 1 := Scalar.cmpi .sgt c4_i32_1201 c0_i32_1204
  let v1708 : BitVec 32 := Scalar.extui v1707
  let c0_i32_1205 : BitVec 32 := 0#32
  let v1709 : BitVec 1 := Scalar.cmpi .slt c4_i32_1201 c0_i32_1205
  let v1710 : BitVec 32 := Scalar.extui v1709
  let v1711 : BitVec 32 := Scalar.subi v1708 v1710
  let v1712 : BitVec 1 := Scalar.cmpi .ne v1706 v1711
  let v1713 : BitVec 32 := Scalar.remsi v1551 c4_i32_1201
  let c0_i32_1206 : BitVec 32 := 0#32
  let v1714 : BitVec 1 := Scalar.cmpi .ne v1713 c0_i32_1206
  let v1715 : BitVec 1 := Scalar.andi v1712 v1714
  let v1701 : BitVec 32 := Scalar.divsi v1551 c4_i32_1201
  let c1_i32_1207 : BitVec 32 := 1#32
  let v1716 : BitVec 32 := Scalar.subi v1701 c1_i32_1207
  let v1717 : BitVec 32 := Scalar.select v1715 v1716 v1701
  let c2_i32_1208 : BitVec 32 := 2#32
  let c0_i32_1209 : BitVec 32 := 0#32
  let v1718 : BitVec 1 := Scalar.cmpi .eq c2_i32_1208 c0_i32_1209
  let c1_i32_1210 : BitVec 32 := 1#32
  let v1719 : BitVec 32 := Scalar.select v1718 c1_i32_1210 c2_i32_1208
  let v1720 : BitVec 32 := Scalar.remsi v1717 v1719
  let c0_i32_1212 : BitVec 32 := 0#32
  let v1722 : BitVec 1 := Scalar.cmpi .slt v1720 c0_i32_1212
  let c0_i32_1213 : BitVec 32 := 0#32
  let v1723 : BitVec 1 := Scalar.cmpi .slt v1719 c0_i32_1213
  let v1724 : BitVec 1 := Scalar.xori v1722 v1723
  let c0_i32_1211 : BitVec 32 := 0#32
  let v1721 : BitVec 1 := Scalar.cmpi .ne v1720 c0_i32_1211
  let v1725 : BitVec 1 := Scalar.andi v1724 v1721
  let v1726 : BitVec 32 := Scalar.addi v1720 v1719
  let v1727 : BitVec 32 := Scalar.select v1725 v1726 v1720
  let v1728 : BitVec 32 := Scalar.muli c2_i32_1214 v1727
  let v1729 : BitVec 32 := Scalar.subi c1_i32_1215 v1728
  let c4_i32_1216 : BitVec 32 := 4#32
  let v1730 : BitVec 32 := Scalar.muli v1729 c4_i32_1216
  let v1731 : BitVec 32 := Scalar.addi v1551 v1730
  let v1761 : BitVec 32 := Scalar.addi v1731 c0_i32_1234
  let c32_i32_1264 : BitVec 32 := 32#32
  let v1821 : BitVec 32 := Scalar.muli v1761 c32_i32_1264
  let v1822 : Index := Scalar.indexCast v1821
  let c0_1265 : Index := 0#32
  ![v1822.toNat, 0]
def k0_off39 (d0 : Dev nD) (c0_i32_1234 : BitVec 32) : Fin 2 → Nat :=
  let c4_i32_1248 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_1041 : BitVec 32 := 0#32
  let v1403 : BitVec 1 := Scalar.cmpi .sgt v1142 c0_i32_1041
  let v1404 : BitVec 32 := Scalar.extui v1403
  let c0_i32_1042 : BitVec 32 := 0#32
  let v1405 : BitVec 1 := Scalar.cmpi .slt v1142 c0_i32_1042
  let v1406 : BitVec 32 := Scalar.extui v1405
  let v1407 : BitVec 32 := Scalar.subi v1404 v1406
  let c2_i32_1040 : BitVec 32 := 2#32
  let c0_i32_1043 : BitVec 32 := 0#32
  let v1408 : BitVec 1 := Scalar.cmpi .sgt c2_i32_1040 c0_i32_1043
  let v1409 : BitVec 32 := Scalar.extui v1408
  let c0_i32_1044 : BitVec 32 := 0#32
  let v1410 : BitVec 1 := Scalar.cmpi .slt c2_i32_1040 c0_i32_1044
  let v1411 : BitVec 32 := Scalar.extui v1410
  let v1412 : BitVec 32 := Scalar.subi v1409 v1411
  let v1413 : BitVec 1 := Scalar.cmpi .ne v1407 v1412
  let v1414 : BitVec 32 := Scalar.remsi v1142 c2_i32_1040
  let c0_i32_1045 : BitVec 32 := 0#32
  let v1415 : BitVec 1 := Scalar.cmpi .ne v1414 c0_i32_1045
  let v1416 : BitVec 1 := Scalar.andi v1413 v1415
  let v1402 : BitVec 32 := Scalar.divsi v1142 c2_i32_1040
  let c1_i32_1046 : BitVec 32 := 1#32
  let v1417 : BitVec 32 := Scalar.subi v1402 c1_i32_1046
  let v1418 : BitVec 32 := Scalar.select v1416 v1417 v1402
  let c2_i32_1047 : BitVec 32 := 2#32
  let v1419 : BitVec 32 := Scalar.muli v1418 c2_i32_1047
  let c0_i32_1113 : BitVec 32 := 0#32
  let v1535 : BitVec 1 := Scalar.cmpi .sgt v1419 c0_i32_1113
  let v1536 : BitVec 32 := Scalar.extui v1535
  let c0_i32_1114 : BitVec 32 := 0#32
  let v1537 : BitVec 1 := Scalar.cmpi .slt v1419 c0_i32_1114
  let v1538 : BitVec 32 := Scalar.extui v1537
  let v1539 : BitVec 32 := Scalar.subi v1536 v1538
  let c4_i32_1112 : BitVec 32 := 4#32
  let c0_i32_1115 : BitVec 32 := 0#32
  let v1540 : BitVec 1 := Scalar.cmpi .sgt c4_i32_1112 c0_i32_1115
  let v1541 : BitVec 32 := Scalar.extui v1540
  let c0_i32_1116 : BitVec 32 := 0#32
  let v1542 : BitVec 1 := Scalar.cmpi .slt c4_i32_1112 c0_i32_1116
  let v1543 : BitVec 32 := Scalar.extui v1542
  let v1544 : BitVec 32 := Scalar.subi v1541 v1543
  let v1545 : BitVec 1 := Scalar.cmpi .ne v1539 v1544
  let v1546 : BitVec 32 := Scalar.remsi v1419 c4_i32_1112
  let c0_i32_1117 : BitVec 32 := 0#32
  let v1547 : BitVec 1 := Scalar.cmpi .ne v1546 c0_i32_1117
  let v1548 : BitVec 1 := Scalar.andi v1545 v1547
  let v1534 : BitVec 32 := Scalar.divsi v1419 c4_i32_1112
  let c1_i32_1118 : BitVec 32 := 1#32
  let v1549 : BitVec 32 := Scalar.subi v1534 c1_i32_1118
  let v1550 : BitVec 32 := Scalar.select v1548 v1549 v1534
  let c4_i32_1119 : BitVec 32 := 4#32
  let v1551 : BitVec 32 := Scalar.muli v1550 c4_i32_1119
  let c1_i32_1215 : BitVec 32 := 1#32
  let c2_i32_1214 : BitVec 32 := 2#32
  let c0_i32_1202 : BitVec 32 := 0#32
  let v1702 : BitVec 1 := Scalar.cmpi .sgt v1551 c0_i32_1202
  let v1703 : BitVec 32 := Scalar.extui v1702
  let c0_i32_1203 : BitVec 32 := 0#32
  let v1704 : BitVec 1 := Scalar.cmpi .slt v1551 c0_i32_1203
  let v1705 : BitVec 32 := Scalar.extui v1704
  let v1706 : BitVec 32 := Scalar.subi v1703 v1705
  let c4_i32_1201 : BitVec 32 := 4#32
  let c0_i32_1204 : BitVec 32 := 0#32
  let v1707 : BitVec 1 := Scalar.cmpi .sgt c4_i32_1201 c0_i32_1204
  let v1708 : BitVec 32 := Scalar.extui v1707
  let c0_i32_1205 : BitVec 32 := 0#32
  let v1709 : BitVec 1 := Scalar.cmpi .slt c4_i32_1201 c0_i32_1205
  let v1710 : BitVec 32 := Scalar.extui v1709
  let v1711 : BitVec 32 := Scalar.subi v1708 v1710
  let v1712 : BitVec 1 := Scalar.cmpi .ne v1706 v1711
  let v1713 : BitVec 32 := Scalar.remsi v1551 c4_i32_1201
  let c0_i32_1206 : BitVec 32 := 0#32
  let v1714 : BitVec 1 := Scalar.cmpi .ne v1713 c0_i32_1206
  let v1715 : BitVec 1 := Scalar.andi v1712 v1714
  let v1701 : BitVec 32 := Scalar.divsi v1551 c4_i32_1201
  let c1_i32_1207 : BitVec 32 := 1#32
  let v1716 : BitVec 32 := Scalar.subi v1701 c1_i32_1207
  let v1717 : BitVec 32 := Scalar.select v1715 v1716 v1701
  let c2_i32_1208 : BitVec 32 := 2#32
  let c0_i32_1209 : BitVec 32 := 0#32
  let v1718 : BitVec 1 := Scalar.cmpi .eq c2_i32_1208 c0_i32_1209
  let c1_i32_1210 : BitVec 32 := 1#32
  let v1719 : BitVec 32 := Scalar.select v1718 c1_i32_1210 c2_i32_1208
  let v1720 : BitVec 32 := Scalar.remsi v1717 v1719
  let c0_i32_1212 : BitVec 32 := 0#32
  let v1722 : BitVec 1 := Scalar.cmpi .slt v1720 c0_i32_1212
  let c0_i32_1213 : BitVec 32 := 0#32
  let v1723 : BitVec 1 := Scalar.cmpi .slt v1719 c0_i32_1213
  let v1724 : BitVec 1 := Scalar.xori v1722 v1723
  let c0_i32_1211 : BitVec 32 := 0#32
  let v1721 : BitVec 1 := Scalar.cmpi .ne v1720 c0_i32_1211
  let v1725 : BitVec 1 := Scalar.andi v1724 v1721
  let v1726 : BitVec 32 := Scalar.addi v1720 v1719
  let v1727 : BitVec 32 := Scalar.select v1725 v1726 v1720
  let v1728 : BitVec 32 := Scalar.muli c2_i32_1214 v1727
  let v1729 : BitVec 32 := Scalar.subi c1_i32_1215 v1728
  let c4_i32_1216 : BitVec 32 := 4#32
  let v1730 : BitVec 32 := Scalar.muli v1729 c4_i32_1216
  let v1731 : BitVec 32 := Scalar.addi v1551 v1730
  let v1761 : BitVec 32 := Scalar.addi v1731 c0_i32_1234
  let c8_i32_1235 : BitVec 32 := 8#32
  let c0_i32_1236 : BitVec 32 := 0#32
  let v1762 : BitVec 1 := Scalar.cmpi .eq c8_i32_1235 c0_i32_1236
  let c1_i32_1237 : BitVec 32 := 1#32
  let v1763 : BitVec 32 := Scalar.select v1762 c1_i32_1237 c8_i32_1235
  let v1764 : BitVec 32 := Scalar.remsi v1761 v1763
  let c0_i32_1239 : BitVec 32 := 0#32
  let v1766 : BitVec 1 := Scalar.cmpi .slt v1764 c0_i32_1239
  let c0_i32_1240 : BitVec 32 := 0#32
  let v1767 : BitVec 1 := Scalar.cmpi .slt v1763 c0_i32_1240
  let v1768 : BitVec 1 := Scalar.xori v1766 v1767
  let c0_i32_1238 : BitVec 32 := 0#32
  let v1765 : BitVec 1 := Scalar.cmpi .ne v1764 c0_i32_1238
  let v1769 : BitVec 1 := Scalar.andi v1768 v1765
  let v1770 : BitVec 32 := Scalar.addi v1764 v1763
  let v1771 : BitVec 32 := Scalar.select v1769 v1770 v1764
  let c0_i32_1242 : BitVec 32 := 0#32
  let v1773 : BitVec 1 := Scalar.cmpi .sgt v1771 c0_i32_1242
  let v1774 : BitVec 32 := Scalar.extui v1773
  let c0_i32_1243 : BitVec 32 := 0#32
  let v1775 : BitVec 1 := Scalar.cmpi .slt v1771 c0_i32_1243
  let v1776 : BitVec 32 := Scalar.extui v1775
  let v1777 : BitVec 32 := Scalar.subi v1774 v1776
  let c2_i32_1241 : BitVec 32 := 2#32
  let c0_i32_1244 : BitVec 32 := 0#32
  let v1778 : BitVec 1 := Scalar.cmpi .sgt c2_i32_1241 c0_i32_1244
  let v1779 : BitVec 32 := Scalar.extui v1778
  let c0_i32_1245 : BitVec 32 := 0#32
  let v1780 : BitVec 1 := Scalar.cmpi .slt c2_i32_1241 c0_i32_1245
  let v1781 : BitVec 32 := Scalar.extui v1780
  let v1782 : BitVec 32 := Scalar.subi v1779 v1781
  let v1783 : BitVec 1 := Scalar.cmpi .ne v1777 v1782
  let v1784 : BitVec 32 := Scalar.remsi v1771 c2_i32_1241
  let c0_i32_1246 : BitVec 32 := 0#32
  let v1785 : BitVec 1 := Scalar.cmpi .ne v1784 c0_i32_1246
  let v1786 : BitVec 1 := Scalar.andi v1783 v1785
  let v1772 : BitVec 32 := Scalar.divsi v1771 c2_i32_1241
  let c1_i32_1247 : BitVec 32 := 1#32
  let v1787 : BitVec 32 := Scalar.subi v1772 c1_i32_1247
  let v1788 : BitVec 32 := Scalar.select v1786 v1787 v1772
  let v1789 : BitVec 32 := Scalar.muli c4_i32_1248 v1788
  let c0_i32_1250 : BitVec 32 := 0#32
  let v1791 : BitVec 1 := Scalar.cmpi .sgt v1761 c0_i32_1250
  let v1792 : BitVec 32 := Scalar.extui v1791
  let c0_i32_1251 : BitVec 32 := 0#32
  let v1793 : BitVec 1 := Scalar.cmpi .slt v1761 c0_i32_1251
  let v1794 : BitVec 32 := Scalar.extui v1793
  let v1795 : BitVec 32 := Scalar.subi v1792 v1794
  let c8_i32_1249 : BitVec 32 := 8#32
  let c0_i32_1252 : BitVec 32 := 0#32
  let v1796 : BitVec 1 := Scalar.cmpi .sgt c8_i32_1249 c0_i32_1252
  let v1797 : BitVec 32 := Scalar.extui v1796
  let c0_i32_1253 : BitVec 32 := 0#32
  let v1798 : BitVec 1 := Scalar.cmpi .slt c8_i32_1249 c0_i32_1253
  let v1799 : BitVec 32 := Scalar.extui v1798
  let v1800 : BitVec 32 := Scalar.subi v1797 v1799
  let v1801 : BitVec 1 := Scalar.cmpi .ne v1795 v1800
  let v1802 : BitVec 32 := Scalar.remsi v1761 c8_i32_1249
  let c0_i32_1254 : BitVec 32 := 0#32
  let v1803 : BitVec 1 := Scalar.cmpi .ne v1802 c0_i32_1254
  let v1804 : BitVec 1 := Scalar.andi v1801 v1803
  let v1790 : BitVec 32 := Scalar.divsi v1761 c8_i32_1249
  let c1_i32_1255 : BitVec 32 := 1#32
  let v1805 : BitVec 32 := Scalar.subi v1790 c1_i32_1255
  let v1806 : BitVec 32 := Scalar.select v1804 v1805 v1790
  let v1807 : BitVec 32 := Scalar.addi v1789 v1806
  let c64_i32_1256 : BitVec 32 := 64#32
  let v1808 : BitVec 32 := Scalar.muli v1807 c64_i32_1256
  let c2_i32_1257 : BitVec 32 := 2#32
  let c0_i32_1258 : BitVec 32 := 0#32
  let v1809 : BitVec 1 := Scalar.cmpi .eq c2_i32_1257 c0_i32_1258
  let c1_i32_1259 : BitVec 32 := 1#32
  let v1810 : BitVec 32 := Scalar.select v1809 c1_i32_1259 c2_i32_1257
  let v1811 : BitVec 32 := Scalar.remsi v1761 v1810
  let c0_i32_1261 : BitVec 32 := 0#32
  let v1813 : BitVec 1 := Scalar.cmpi .slt v1811 c0_i32_1261
  let c0_i32_1262 : BitVec 32 := 0#32
  let v1814 : BitVec 1 := Scalar.cmpi .slt v1810 c0_i32_1262
  let v1815 : BitVec 1 := Scalar.xori v1813 v1814
  let c0_i32_1260 : BitVec 32 := 0#32
  let v1812 : BitVec 1 := Scalar.cmpi .ne v1811 c0_i32_1260
  let v1816 : BitVec 1 := Scalar.andi v1815 v1812
  let v1817 : BitVec 32 := Scalar.addi v1811 v1810
  let v1818 : BitVec 32 := Scalar.select v1816 v1817 v1811
  let c32_i32_1263 : BitVec 32 := 32#32
  let v1819 : BitVec 32 := Scalar.muli v1818 c32_i32_1263
  let v1820 : BitVec 32 := Scalar.addi v1808 v1819
  let v1825 : Index := Scalar.indexCast v1820
  let c0_1266 : Index := 0#32
  ![v1825.toNat, 0]
def k0_off40 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_1041 : BitVec 32 := 0#32
  let v1403 : BitVec 1 := Scalar.cmpi .sgt v1142 c0_i32_1041
  let v1404 : BitVec 32 := Scalar.extui v1403
  let c0_i32_1042 : BitVec 32 := 0#32
  let v1405 : BitVec 1 := Scalar.cmpi .slt v1142 c0_i32_1042
  let v1406 : BitVec 32 := Scalar.extui v1405
  let v1407 : BitVec 32 := Scalar.subi v1404 v1406
  let c2_i32_1040 : BitVec 32 := 2#32
  let c0_i32_1043 : BitVec 32 := 0#32
  let v1408 : BitVec 1 := Scalar.cmpi .sgt c2_i32_1040 c0_i32_1043
  let v1409 : BitVec 32 := Scalar.extui v1408
  let c0_i32_1044 : BitVec 32 := 0#32
  let v1410 : BitVec 1 := Scalar.cmpi .slt c2_i32_1040 c0_i32_1044
  let v1411 : BitVec 32 := Scalar.extui v1410
  let v1412 : BitVec 32 := Scalar.subi v1409 v1411
  let v1413 : BitVec 1 := Scalar.cmpi .ne v1407 v1412
  let v1414 : BitVec 32 := Scalar.remsi v1142 c2_i32_1040
  let c0_i32_1045 : BitVec 32 := 0#32
  let v1415 : BitVec 1 := Scalar.cmpi .ne v1414 c0_i32_1045
  let v1416 : BitVec 1 := Scalar.andi v1413 v1415
  let v1402 : BitVec 32 := Scalar.divsi v1142 c2_i32_1040
  let c1_i32_1046 : BitVec 32 := 1#32
  let v1417 : BitVec 32 := Scalar.subi v1402 c1_i32_1046
  let v1418 : BitVec 32 := Scalar.select v1416 v1417 v1402
  let c2_i32_1047 : BitVec 32 := 2#32
  let v1419 : BitVec 32 := Scalar.muli v1418 c2_i32_1047
  let c0_i32_1113 : BitVec 32 := 0#32
  let v1535 : BitVec 1 := Scalar.cmpi .sgt v1419 c0_i32_1113
  let v1536 : BitVec 32 := Scalar.extui v1535
  let c0_i32_1114 : BitVec 32 := 0#32
  let v1537 : BitVec 1 := Scalar.cmpi .slt v1419 c0_i32_1114
  let v1538 : BitVec 32 := Scalar.extui v1537
  let v1539 : BitVec 32 := Scalar.subi v1536 v1538
  let c4_i32_1112 : BitVec 32 := 4#32
  let c0_i32_1115 : BitVec 32 := 0#32
  let v1540 : BitVec 1 := Scalar.cmpi .sgt c4_i32_1112 c0_i32_1115
  let v1541 : BitVec 32 := Scalar.extui v1540
  let c0_i32_1116 : BitVec 32 := 0#32
  let v1542 : BitVec 1 := Scalar.cmpi .slt c4_i32_1112 c0_i32_1116
  let v1543 : BitVec 32 := Scalar.extui v1542
  let v1544 : BitVec 32 := Scalar.subi v1541 v1543
  let v1545 : BitVec 1 := Scalar.cmpi .ne v1539 v1544
  let v1546 : BitVec 32 := Scalar.remsi v1419 c4_i32_1112
  let c0_i32_1117 : BitVec 32 := 0#32
  let v1547 : BitVec 1 := Scalar.cmpi .ne v1546 c0_i32_1117
  let v1548 : BitVec 1 := Scalar.andi v1545 v1547
  let v1534 : BitVec 32 := Scalar.divsi v1419 c4_i32_1112
  let c1_i32_1118 : BitVec 32 := 1#32
  let v1549 : BitVec 32 := Scalar.subi v1534 c1_i32_1118
  let v1550 : BitVec 32 := Scalar.select v1548 v1549 v1534
  let c4_i32_1119 : BitVec 32 := 4#32
  let v1551 : BitVec 32 := Scalar.muli v1550 c4_i32_1119
  let c0_i32_1218 : BitVec 32 := 0#32
  let v1733 : BitVec 1 := Scalar.cmpi .sgt v1551 c0_i32_1218
  let v1734 : BitVec 32 := Scalar.extui v1733
  let c0_i32_1219 : BitVec 32 := 0#32
  let v1735 : BitVec 1 := Scalar.cmpi .slt v1551 c0_i32_1219
  let v1736 : BitVec 32 := Scalar.extui v1735
  let v1737 : BitVec 32 := Scalar.subi v1734 v1736
  let c8_i32_1217 : BitVec 32 := 8#32
  let c0_i32_1220 : BitVec 32 := 0#32
  let v1738 : BitVec 1 := Scalar.cmpi .sgt c8_i32_1217 c0_i32_1220
  let v1739 : BitVec 32 := Scalar.extui v1738
  let c0_i32_1221 : BitVec 32 := 0#32
  let v1740 : BitVec 1 := Scalar.cmpi .slt c8_i32_1217 c0_i32_1221
  let v1741 : BitVec 32 := Scalar.extui v1740
  let v1742 : BitVec 32 := Scalar.subi v1739 v1741
  let v1743 : BitVec 1 := Scalar.cmpi .ne v1737 v1742
  let v1744 : BitVec 32 := Scalar.remsi v1551 c8_i32_1217
  let c0_i32_1222 : BitVec 32 := 0#32
  let v1745 : BitVec 1 := Scalar.cmpi .ne v1744 c0_i32_1222
  let v1746 : BitVec 1 := Scalar.andi v1743 v1745
  let v1732 : BitVec 32 := Scalar.divsi v1551 c8_i32_1217
  let c1_i32_1223 : BitVec 32 := 1#32
  let v1747 : BitVec 32 := Scalar.subi v1732 c1_i32_1223
  let v1748 : BitVec 32 := Scalar.select v1746 v1747 v1732
  let c8_i32_1224 : BitVec 32 := 8#32
  let v1749 : BitVec 32 := Scalar.muli v1748 c8_i32_1224
  let c0_i32_1389 : BitVec 32 := 0#32
  let v2063 : BitVec 1 := Scalar.cmpi .sgt v1749 c0_i32_1389
  let v2064 : BitVec 32 := Scalar.extui v2063
  let c0_i32_1390 : BitVec 32 := 0#32
  let v2065 : BitVec 1 := Scalar.cmpi .slt v1749 c0_i32_1390
  let v2066 : BitVec 32 := Scalar.extui v2065
  let v2067 : BitVec 32 := Scalar.subi v2064 v2066
  let c16_i32_1388 : BitVec 32 := 16#32
  let c0_i32_1391 : BitVec 32 := 0#32
  let v2068 : BitVec 1 := Scalar.cmpi .sgt c16_i32_1388 c0_i32_1391
  let v2069 : BitVec 32 := Scalar.extui v2068
  let c0_i32_1392 : BitVec 32 := 0#32
  let v2070 : BitVec 1 := Scalar.cmpi .slt c16_i32_1388 c0_i32_1392
  let v2071 : BitVec 32 := Scalar.extui v2070
  let v2072 : BitVec 32 := Scalar.subi v2069 v2071
  let v2073 : BitVec 1 := Scalar.cmpi .ne v2067 v2072
  let v2074 : BitVec 32 := Scalar.remsi v1749 c16_i32_1388
  let c0_i32_1393 : BitVec 32 := 0#32
  let v2075 : BitVec 1 := Scalar.cmpi .ne v2074 c0_i32_1393
  let v2076 : BitVec 1 := Scalar.andi v2073 v2075
  let v2062 : BitVec 32 := Scalar.divsi v1749 c16_i32_1388
  let c1_i32_1394 : BitVec 32 := 1#32
  let v2077 : BitVec 32 := Scalar.subi v2062 c1_i32_1394
  let v2078 : BitVec 32 := Scalar.select v2076 v2077 v2062
  let c16_i32_1395 : BitVec 32 := 16#32
  let v2079 : BitVec 32 := Scalar.muli v2078 c16_i32_1395
  let c32_i32_1397 : BitVec 32 := 32#32
  let v2081 : BitVec 32 := Scalar.muli v2079 c32_i32_1397
  let c0_i32_1403 : BitVec 32 := 0#32
  ![v2081.toNat, 0]
def k0_dev15 (d0 : Dev nD) : Nat :=
  let c0_i32_1402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1398 : BitVec 32 := 1#32
  let v2082 : BitVec 32 := Scalar.xori v2 c1_i32_1398
  let c1_i32_1401 : BitVec 32 := 1#32
  let v2083 : BitVec 32 := Scalar.muli v2082 c1_i32_1401
  let v2084 : BitVec 32 := Scalar.addi c0_i32_1402 v2083
  v2084.toNat
def k0_off41 (d0 : Dev nD) (c0_i32_1405 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_1041 : BitVec 32 := 0#32
  let v1403 : BitVec 1 := Scalar.cmpi .sgt v1142 c0_i32_1041
  let v1404 : BitVec 32 := Scalar.extui v1403
  let c0_i32_1042 : BitVec 32 := 0#32
  let v1405 : BitVec 1 := Scalar.cmpi .slt v1142 c0_i32_1042
  let v1406 : BitVec 32 := Scalar.extui v1405
  let v1407 : BitVec 32 := Scalar.subi v1404 v1406
  let c2_i32_1040 : BitVec 32 := 2#32
  let c0_i32_1043 : BitVec 32 := 0#32
  let v1408 : BitVec 1 := Scalar.cmpi .sgt c2_i32_1040 c0_i32_1043
  let v1409 : BitVec 32 := Scalar.extui v1408
  let c0_i32_1044 : BitVec 32 := 0#32
  let v1410 : BitVec 1 := Scalar.cmpi .slt c2_i32_1040 c0_i32_1044
  let v1411 : BitVec 32 := Scalar.extui v1410
  let v1412 : BitVec 32 := Scalar.subi v1409 v1411
  let v1413 : BitVec 1 := Scalar.cmpi .ne v1407 v1412
  let v1414 : BitVec 32 := Scalar.remsi v1142 c2_i32_1040
  let c0_i32_1045 : BitVec 32 := 0#32
  let v1415 : BitVec 1 := Scalar.cmpi .ne v1414 c0_i32_1045
  let v1416 : BitVec 1 := Scalar.andi v1413 v1415
  let v1402 : BitVec 32 := Scalar.divsi v1142 c2_i32_1040
  let c1_i32_1046 : BitVec 32 := 1#32
  let v1417 : BitVec 32 := Scalar.subi v1402 c1_i32_1046
  let v1418 : BitVec 32 := Scalar.select v1416 v1417 v1402
  let c2_i32_1047 : BitVec 32 := 2#32
  let v1419 : BitVec 32 := Scalar.muli v1418 c2_i32_1047
  let c0_i32_1113 : BitVec 32 := 0#32
  let v1535 : BitVec 1 := Scalar.cmpi .sgt v1419 c0_i32_1113
  let v1536 : BitVec 32 := Scalar.extui v1535
  let c0_i32_1114 : BitVec 32 := 0#32
  let v1537 : BitVec 1 := Scalar.cmpi .slt v1419 c0_i32_1114
  let v1538 : BitVec 32 := Scalar.extui v1537
  let v1539 : BitVec 32 := Scalar.subi v1536 v1538
  let c4_i32_1112 : BitVec 32 := 4#32
  let c0_i32_1115 : BitVec 32 := 0#32
  let v1540 : BitVec 1 := Scalar.cmpi .sgt c4_i32_1112 c0_i32_1115
  let v1541 : BitVec 32 := Scalar.extui v1540
  let c0_i32_1116 : BitVec 32 := 0#32
  let v1542 : BitVec 1 := Scalar.cmpi .slt c4_i32_1112 c0_i32_1116
  let v1543 : BitVec 32 := Scalar.extui v1542
  let v1544 : BitVec 32 := Scalar.subi v1541 v1543
  let v1545 : BitVec 1 := Scalar.cmpi .ne v1539 v1544
  let v1546 : BitVec 32 := Scalar.remsi v1419 c4_i32_1112
  let c0_i32_1117 : BitVec 32 := 0#32
  let v1547 : BitVec 1 := Scalar.cmpi .ne v1546 c0_i32_1117
  let v1548 : BitVec 1 := Scalar.andi v1545 v1547
  let v1534 : BitVec 32 := Scalar.divsi v1419 c4_i32_1112
  let c1_i32_1118 : BitVec 32 := 1#32
  let v1549 : BitVec 32 := Scalar.subi v1534 c1_i32_1118
  let v1550 : BitVec 32 := Scalar.select v1548 v1549 v1534
  let c4_i32_1119 : BitVec 32 := 4#32
  let v1551 : BitVec 32 := Scalar.muli v1550 c4_i32_1119
  let c0_i32_1218 : BitVec 32 := 0#32
  let v1733 : BitVec 1 := Scalar.cmpi .sgt v1551 c0_i32_1218
  let v1734 : BitVec 32 := Scalar.extui v1733
  let c0_i32_1219 : BitVec 32 := 0#32
  let v1735 : BitVec 1 := Scalar.cmpi .slt v1551 c0_i32_1219
  let v1736 : BitVec 32 := Scalar.extui v1735
  let v1737 : BitVec 32 := Scalar.subi v1734 v1736
  let c8_i32_1217 : BitVec 32 := 8#32
  let c0_i32_1220 : BitVec 32 := 0#32
  let v1738 : BitVec 1 := Scalar.cmpi .sgt c8_i32_1217 c0_i32_1220
  let v1739 : BitVec 32 := Scalar.extui v1738
  let c0_i32_1221 : BitVec 32 := 0#32
  let v1740 : BitVec 1 := Scalar.cmpi .slt c8_i32_1217 c0_i32_1221
  let v1741 : BitVec 32 := Scalar.extui v1740
  let v1742 : BitVec 32 := Scalar.subi v1739 v1741
  let v1743 : BitVec 1 := Scalar.cmpi .ne v1737 v1742
  let v1744 : BitVec 32 := Scalar.remsi v1551 c8_i32_1217
  let c0_i32_1222 : BitVec 32 := 0#32
  let v1745 : BitVec 1 := Scalar.cmpi .ne v1744 c0_i32_1222
  let v1746 : BitVec 1 := Scalar.andi v1743 v1745
  let v1732 : BitVec 32 := Scalar.divsi v1551 c8_i32_1217
  let c1_i32_1223 : BitVec 32 := 1#32
  let v1747 : BitVec 32 := Scalar.subi v1732 c1_i32_1223
  let v1748 : BitVec 32 := Scalar.select v1746 v1747 v1732
  let c8_i32_1224 : BitVec 32 := 8#32
  let v1749 : BitVec 32 := Scalar.muli v1748 c8_i32_1224
  let c1_i32_1386 : BitVec 32 := 1#32
  let c2_i32_1385 : BitVec 32 := 2#32
  let c0_i32_1373 : BitVec 32 := 0#32
  let v2032 : BitVec 1 := Scalar.cmpi .sgt v1749 c0_i32_1373
  let v2033 : BitVec 32 := Scalar.extui v2032
  let c0_i32_1374 : BitVec 32 := 0#32
  let v2034 : BitVec 1 := Scalar.cmpi .slt v1749 c0_i32_1374
  let v2035 : BitVec 32 := Scalar.extui v2034
  let v2036 : BitVec 32 := Scalar.subi v2033 v2035
  let c8_i32_1372 : BitVec 32 := 8#32
  let c0_i32_1375 : BitVec 32 := 0#32
  let v2037 : BitVec 1 := Scalar.cmpi .sgt c8_i32_1372 c0_i32_1375
  let v2038 : BitVec 32 := Scalar.extui v2037
  let c0_i32_1376 : BitVec 32 := 0#32
  let v2039 : BitVec 1 := Scalar.cmpi .slt c8_i32_1372 c0_i32_1376
  let v2040 : BitVec 32 := Scalar.extui v2039
  let v2041 : BitVec 32 := Scalar.subi v2038 v2040
  let v2042 : BitVec 1 := Scalar.cmpi .ne v2036 v2041
  let v2043 : BitVec 32 := Scalar.remsi v1749 c8_i32_1372
  let c0_i32_1377 : BitVec 32 := 0#32
  let v2044 : BitVec 1 := Scalar.cmpi .ne v2043 c0_i32_1377
  let v2045 : BitVec 1 := Scalar.andi v2042 v2044
  let v2031 : BitVec 32 := Scalar.divsi v1749 c8_i32_1372
  let c1_i32_1378 : BitVec 32 := 1#32
  let v2046 : BitVec 32 := Scalar.subi v2031 c1_i32_1378
  let v2047 : BitVec 32 := Scalar.select v2045 v2046 v2031
  let c2_i32_1379 : BitVec 32 := 2#32
  let c0_i32_1380 : BitVec 32 := 0#32
  let v2048 : BitVec 1 := Scalar.cmpi .eq c2_i32_1379 c0_i32_1380
  let c1_i32_1381 : BitVec 32 := 1#32
  let v2049 : BitVec 32 := Scalar.select v2048 c1_i32_1381 c2_i32_1379
  let v2050 : BitVec 32 := Scalar.remsi v2047 v2049
  let c0_i32_1383 : BitVec 32 := 0#32
  let v2052 : BitVec 1 := Scalar.cmpi .slt v2050 c0_i32_1383
  let c0_i32_1384 : BitVec 32 := 0#32
  let v2053 : BitVec 1 := Scalar.cmpi .slt v2049 c0_i32_1384
  let v2054 : BitVec 1 := Scalar.xori v2052 v2053
  let c0_i32_1382 : BitVec 32 := 0#32
  let v2051 : BitVec 1 := Scalar.cmpi .ne v2050 c0_i32_1382
  let v2055 : BitVec 1 := Scalar.andi v2054 v2051
  let v2056 : BitVec 32 := Scalar.addi v2050 v2049
  let v2057 : BitVec 32 := Scalar.select v2055 v2056 v2050
  let v2058 : BitVec 32 := Scalar.muli c2_i32_1385 v2057
  let v2059 : BitVec 32 := Scalar.subi c1_i32_1386 v2058
  let c8_i32_1387 : BitVec 32 := 8#32
  let v2060 : BitVec 32 := Scalar.muli v2059 c8_i32_1387
  let v2061 : BitVec 32 := Scalar.addi v1749 v2060
  let v2091 : BitVec 32 := Scalar.addi v2061 c0_i32_1405
  let c32_i32_1435 : BitVec 32 := 32#32
  let v2151 : BitVec 32 := Scalar.muli v2091 c32_i32_1435
  let v2152 : Index := Scalar.indexCast v2151
  let c0_1436 : Index := 0#32
  ![v2152.toNat, 0]
def k0_off42 (d0 : Dev nD) (c0_i32_1405 : BitVec 32) : Fin 2 → Nat :=
  let c4_i32_1419 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_1041 : BitVec 32 := 0#32
  let v1403 : BitVec 1 := Scalar.cmpi .sgt v1142 c0_i32_1041
  let v1404 : BitVec 32 := Scalar.extui v1403
  let c0_i32_1042 : BitVec 32 := 0#32
  let v1405 : BitVec 1 := Scalar.cmpi .slt v1142 c0_i32_1042
  let v1406 : BitVec 32 := Scalar.extui v1405
  let v1407 : BitVec 32 := Scalar.subi v1404 v1406
  let c2_i32_1040 : BitVec 32 := 2#32
  let c0_i32_1043 : BitVec 32 := 0#32
  let v1408 : BitVec 1 := Scalar.cmpi .sgt c2_i32_1040 c0_i32_1043
  let v1409 : BitVec 32 := Scalar.extui v1408
  let c0_i32_1044 : BitVec 32 := 0#32
  let v1410 : BitVec 1 := Scalar.cmpi .slt c2_i32_1040 c0_i32_1044
  let v1411 : BitVec 32 := Scalar.extui v1410
  let v1412 : BitVec 32 := Scalar.subi v1409 v1411
  let v1413 : BitVec 1 := Scalar.cmpi .ne v1407 v1412
  let v1414 : BitVec 32 := Scalar.remsi v1142 c2_i32_1040
  let c0_i32_1045 : BitVec 32 := 0#32
  let v1415 : BitVec 1 := Scalar.cmpi .ne v1414 c0_i32_1045
  let v1416 : BitVec 1 := Scalar.andi v1413 v1415
  let v1402 : BitVec 32 := Scalar.divsi v1142 c2_i32_1040
  let c1_i32_1046 : BitVec 32 := 1#32
  let v1417 : BitVec 32 := Scalar.subi v1402 c1_i32_1046
  let v1418 : BitVec 32 := Scalar.select v1416 v1417 v1402
  let c2_i32_1047 : BitVec 32 := 2#32
  let v1419 : BitVec 32 := Scalar.muli v1418 c2_i32_1047
  let c0_i32_1113 : BitVec 32 := 0#32
  let v1535 : BitVec 1 := Scalar.cmpi .sgt v1419 c0_i32_1113
  let v1536 : BitVec 32 := Scalar.extui v1535
  let c0_i32_1114 : BitVec 32 := 0#32
  let v1537 : BitVec 1 := Scalar.cmpi .slt v1419 c0_i32_1114
  let v1538 : BitVec 32 := Scalar.extui v1537
  let v1539 : BitVec 32 := Scalar.subi v1536 v1538
  let c4_i32_1112 : BitVec 32 := 4#32
  let c0_i32_1115 : BitVec 32 := 0#32
  let v1540 : BitVec 1 := Scalar.cmpi .sgt c4_i32_1112 c0_i32_1115
  let v1541 : BitVec 32 := Scalar.extui v1540
  let c0_i32_1116 : BitVec 32 := 0#32
  let v1542 : BitVec 1 := Scalar.cmpi .slt c4_i32_1112 c0_i32_1116
  let v1543 : BitVec 32 := Scalar.extui v1542
  let v1544 : BitVec 32 := Scalar.subi v1541 v1543
  let v1545 : BitVec 1 := Scalar.cmpi .ne v1539 v1544
  let v1546 : BitVec 32 := Scalar.remsi v1419 c4_i32_1112
  let c0_i32_1117 : BitVec 32 := 0#32
  let v1547 : BitVec 1 := Scalar.cmpi .ne v1546 c0_i32_1117
  let v1548 : BitVec 1 := Scalar.andi v1545 v1547
  let v1534 : BitVec 32 := Scalar.divsi v1419 c4_i32_1112
  let c1_i32_1118 : BitVec 32 := 1#32
  let v1549 : BitVec 32 := Scalar.subi v1534 c1_i32_1118
  let v1550 : BitVec 32 := Scalar.select v1548 v1549 v1534
  let c4_i32_1119 : BitVec 32 := 4#32
  let v1551 : BitVec 32 := Scalar.muli v1550 c4_i32_1119
  let c0_i32_1218 : BitVec 32 := 0#32
  let v1733 : BitVec 1 := Scalar.cmpi .sgt v1551 c0_i32_1218
  let v1734 : BitVec 32 := Scalar.extui v1733
  let c0_i32_1219 : BitVec 32 := 0#32
  let v1735 : BitVec 1 := Scalar.cmpi .slt v1551 c0_i32_1219
  let v1736 : BitVec 32 := Scalar.extui v1735
  let v1737 : BitVec 32 := Scalar.subi v1734 v1736
  let c8_i32_1217 : BitVec 32 := 8#32
  let c0_i32_1220 : BitVec 32 := 0#32
  let v1738 : BitVec 1 := Scalar.cmpi .sgt c8_i32_1217 c0_i32_1220
  let v1739 : BitVec 32 := Scalar.extui v1738
  let c0_i32_1221 : BitVec 32 := 0#32
  let v1740 : BitVec 1 := Scalar.cmpi .slt c8_i32_1217 c0_i32_1221
  let v1741 : BitVec 32 := Scalar.extui v1740
  let v1742 : BitVec 32 := Scalar.subi v1739 v1741
  let v1743 : BitVec 1 := Scalar.cmpi .ne v1737 v1742
  let v1744 : BitVec 32 := Scalar.remsi v1551 c8_i32_1217
  let c0_i32_1222 : BitVec 32 := 0#32
  let v1745 : BitVec 1 := Scalar.cmpi .ne v1744 c0_i32_1222
  let v1746 : BitVec 1 := Scalar.andi v1743 v1745
  let v1732 : BitVec 32 := Scalar.divsi v1551 c8_i32_1217
  let c1_i32_1223 : BitVec 32 := 1#32
  let v1747 : BitVec 32 := Scalar.subi v1732 c1_i32_1223
  let v1748 : BitVec 32 := Scalar.select v1746 v1747 v1732
  let c8_i32_1224 : BitVec 32 := 8#32
  let v1749 : BitVec 32 := Scalar.muli v1748 c8_i32_1224
  let c1_i32_1386 : BitVec 32 := 1#32
  let c2_i32_1385 : BitVec 32 := 2#32
  let c0_i32_1373 : BitVec 32 := 0#32
  let v2032 : BitVec 1 := Scalar.cmpi .sgt v1749 c0_i32_1373
  let v2033 : BitVec 32 := Scalar.extui v2032
  let c0_i32_1374 : BitVec 32 := 0#32
  let v2034 : BitVec 1 := Scalar.cmpi .slt v1749 c0_i32_1374
  let v2035 : BitVec 32 := Scalar.extui v2034
  let v2036 : BitVec 32 := Scalar.subi v2033 v2035
  let c8_i32_1372 : BitVec 32 := 8#32
  let c0_i32_1375 : BitVec 32 := 0#32
  let v2037 : BitVec 1 := Scalar.cmpi .sgt c8_i32_1372 c0_i32_1375
  let v2038 : BitVec 32 := Scalar.extui v2037
  let c0_i32_1376 : BitVec 32 := 0#32
  let v2039 : BitVec 1 := Scalar.cmpi .slt c8_i32_1372 c0_i32_1376
  let v2040 : BitVec 32 := Scalar.extui v2039
  let v2041 : BitVec 32 := Scalar.subi v2038 v2040
  let v2042 : BitVec 1 := Scalar.cmpi .ne v2036 v2041
  let v2043 : BitVec 32 := Scalar.remsi v1749 c8_i32_1372
  let c0_i32_1377 : BitVec 32 := 0#32
  let v2044 : BitVec 1 := Scalar.cmpi .ne v2043 c0_i32_1377
  let v2045 : BitVec 1 := Scalar.andi v2042 v2044
  let v2031 : BitVec 32 := Scalar.divsi v1749 c8_i32_1372
  let c1_i32_1378 : BitVec 32 := 1#32
  let v2046 : BitVec 32 := Scalar.subi v2031 c1_i32_1378
  let v2047 : BitVec 32 := Scalar.select v2045 v2046 v2031
  let c2_i32_1379 : BitVec 32 := 2#32
  let c0_i32_1380 : BitVec 32 := 0#32
  let v2048 : BitVec 1 := Scalar.cmpi .eq c2_i32_1379 c0_i32_1380
  let c1_i32_1381 : BitVec 32 := 1#32
  let v2049 : BitVec 32 := Scalar.select v2048 c1_i32_1381 c2_i32_1379
  let v2050 : BitVec 32 := Scalar.remsi v2047 v2049
  let c0_i32_1383 : BitVec 32 := 0#32
  let v2052 : BitVec 1 := Scalar.cmpi .slt v2050 c0_i32_1383
  let c0_i32_1384 : BitVec 32 := 0#32
  let v2053 : BitVec 1 := Scalar.cmpi .slt v2049 c0_i32_1384
  let v2054 : BitVec 1 := Scalar.xori v2052 v2053
  let c0_i32_1382 : BitVec 32 := 0#32
  let v2051 : BitVec 1 := Scalar.cmpi .ne v2050 c0_i32_1382
  let v2055 : BitVec 1 := Scalar.andi v2054 v2051
  let v2056 : BitVec 32 := Scalar.addi v2050 v2049
  let v2057 : BitVec 32 := Scalar.select v2055 v2056 v2050
  let v2058 : BitVec 32 := Scalar.muli c2_i32_1385 v2057
  let v2059 : BitVec 32 := Scalar.subi c1_i32_1386 v2058
  let c8_i32_1387 : BitVec 32 := 8#32
  let v2060 : BitVec 32 := Scalar.muli v2059 c8_i32_1387
  let v2061 : BitVec 32 := Scalar.addi v1749 v2060
  let v2091 : BitVec 32 := Scalar.addi v2061 c0_i32_1405
  let c8_i32_1406 : BitVec 32 := 8#32
  let c0_i32_1407 : BitVec 32 := 0#32
  let v2092 : BitVec 1 := Scalar.cmpi .eq c8_i32_1406 c0_i32_1407
  let c1_i32_1408 : BitVec 32 := 1#32
  let v2093 : BitVec 32 := Scalar.select v2092 c1_i32_1408 c8_i32_1406
  let v2094 : BitVec 32 := Scalar.remsi v2091 v2093
  let c0_i32_1410 : BitVec 32 := 0#32
  let v2096 : BitVec 1 := Scalar.cmpi .slt v2094 c0_i32_1410
  let c0_i32_1411 : BitVec 32 := 0#32
  let v2097 : BitVec 1 := Scalar.cmpi .slt v2093 c0_i32_1411
  let v2098 : BitVec 1 := Scalar.xori v2096 v2097
  let c0_i32_1409 : BitVec 32 := 0#32
  let v2095 : BitVec 1 := Scalar.cmpi .ne v2094 c0_i32_1409
  let v2099 : BitVec 1 := Scalar.andi v2098 v2095
  let v2100 : BitVec 32 := Scalar.addi v2094 v2093
  let v2101 : BitVec 32 := Scalar.select v2099 v2100 v2094
  let c0_i32_1413 : BitVec 32 := 0#32
  let v2103 : BitVec 1 := Scalar.cmpi .sgt v2101 c0_i32_1413
  let v2104 : BitVec 32 := Scalar.extui v2103
  let c0_i32_1414 : BitVec 32 := 0#32
  let v2105 : BitVec 1 := Scalar.cmpi .slt v2101 c0_i32_1414
  let v2106 : BitVec 32 := Scalar.extui v2105
  let v2107 : BitVec 32 := Scalar.subi v2104 v2106
  let c2_i32_1412 : BitVec 32 := 2#32
  let c0_i32_1415 : BitVec 32 := 0#32
  let v2108 : BitVec 1 := Scalar.cmpi .sgt c2_i32_1412 c0_i32_1415
  let v2109 : BitVec 32 := Scalar.extui v2108
  let c0_i32_1416 : BitVec 32 := 0#32
  let v2110 : BitVec 1 := Scalar.cmpi .slt c2_i32_1412 c0_i32_1416
  let v2111 : BitVec 32 := Scalar.extui v2110
  let v2112 : BitVec 32 := Scalar.subi v2109 v2111
  let v2113 : BitVec 1 := Scalar.cmpi .ne v2107 v2112
  let v2114 : BitVec 32 := Scalar.remsi v2101 c2_i32_1412
  let c0_i32_1417 : BitVec 32 := 0#32
  let v2115 : BitVec 1 := Scalar.cmpi .ne v2114 c0_i32_1417
  let v2116 : BitVec 1 := Scalar.andi v2113 v2115
  let v2102 : BitVec 32 := Scalar.divsi v2101 c2_i32_1412
  let c1_i32_1418 : BitVec 32 := 1#32
  let v2117 : BitVec 32 := Scalar.subi v2102 c1_i32_1418
  let v2118 : BitVec 32 := Scalar.select v2116 v2117 v2102
  let v2119 : BitVec 32 := Scalar.muli c4_i32_1419 v2118
  let c0_i32_1421 : BitVec 32 := 0#32
  let v2121 : BitVec 1 := Scalar.cmpi .sgt v2091 c0_i32_1421
  let v2122 : BitVec 32 := Scalar.extui v2121
  let c0_i32_1422 : BitVec 32 := 0#32
  let v2123 : BitVec 1 := Scalar.cmpi .slt v2091 c0_i32_1422
  let v2124 : BitVec 32 := Scalar.extui v2123
  let v2125 : BitVec 32 := Scalar.subi v2122 v2124
  let c8_i32_1420 : BitVec 32 := 8#32
  let c0_i32_1423 : BitVec 32 := 0#32
  let v2126 : BitVec 1 := Scalar.cmpi .sgt c8_i32_1420 c0_i32_1423
  let v2127 : BitVec 32 := Scalar.extui v2126
  let c0_i32_1424 : BitVec 32 := 0#32
  let v2128 : BitVec 1 := Scalar.cmpi .slt c8_i32_1420 c0_i32_1424
  let v2129 : BitVec 32 := Scalar.extui v2128
  let v2130 : BitVec 32 := Scalar.subi v2127 v2129
  let v2131 : BitVec 1 := Scalar.cmpi .ne v2125 v2130
  let v2132 : BitVec 32 := Scalar.remsi v2091 c8_i32_1420
  let c0_i32_1425 : BitVec 32 := 0#32
  let v2133 : BitVec 1 := Scalar.cmpi .ne v2132 c0_i32_1425
  let v2134 : BitVec 1 := Scalar.andi v2131 v2133
  let v2120 : BitVec 32 := Scalar.divsi v2091 c8_i32_1420
  let c1_i32_1426 : BitVec 32 := 1#32
  let v2135 : BitVec 32 := Scalar.subi v2120 c1_i32_1426
  let v2136 : BitVec 32 := Scalar.select v2134 v2135 v2120
  let v2137 : BitVec 32 := Scalar.addi v2119 v2136
  let c64_i32_1427 : BitVec 32 := 64#32
  let v2138 : BitVec 32 := Scalar.muli v2137 c64_i32_1427
  let c2_i32_1428 : BitVec 32 := 2#32
  let c0_i32_1429 : BitVec 32 := 0#32
  let v2139 : BitVec 1 := Scalar.cmpi .eq c2_i32_1428 c0_i32_1429
  let c1_i32_1430 : BitVec 32 := 1#32
  let v2140 : BitVec 32 := Scalar.select v2139 c1_i32_1430 c2_i32_1428
  let v2141 : BitVec 32 := Scalar.remsi v2091 v2140
  let c0_i32_1432 : BitVec 32 := 0#32
  let v2143 : BitVec 1 := Scalar.cmpi .slt v2141 c0_i32_1432
  let c0_i32_1433 : BitVec 32 := 0#32
  let v2144 : BitVec 1 := Scalar.cmpi .slt v2140 c0_i32_1433
  let v2145 : BitVec 1 := Scalar.xori v2143 v2144
  let c0_i32_1431 : BitVec 32 := 0#32
  let v2142 : BitVec 1 := Scalar.cmpi .ne v2141 c0_i32_1431
  let v2146 : BitVec 1 := Scalar.andi v2145 v2142
  let v2147 : BitVec 32 := Scalar.addi v2141 v2140
  let v2148 : BitVec 32 := Scalar.select v2146 v2147 v2141
  let c32_i32_1434 : BitVec 32 := 32#32
  let v2149 : BitVec 32 := Scalar.muli v2148 c32_i32_1434
  let v2150 : BitVec 32 := Scalar.addi v2138 v2149
  let v2155 : Index := Scalar.indexCast v2150
  let c0_1437 : Index := 0#32
  ![v2155.toNat, 0]
def k0_off43 (d0 : Dev nD) (c0_i32_1689 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_1041 : BitVec 32 := 0#32
  let v1403 : BitVec 1 := Scalar.cmpi .sgt v1142 c0_i32_1041
  let v1404 : BitVec 32 := Scalar.extui v1403
  let c0_i32_1042 : BitVec 32 := 0#32
  let v1405 : BitVec 1 := Scalar.cmpi .slt v1142 c0_i32_1042
  let v1406 : BitVec 32 := Scalar.extui v1405
  let v1407 : BitVec 32 := Scalar.subi v1404 v1406
  let c2_i32_1040 : BitVec 32 := 2#32
  let c0_i32_1043 : BitVec 32 := 0#32
  let v1408 : BitVec 1 := Scalar.cmpi .sgt c2_i32_1040 c0_i32_1043
  let v1409 : BitVec 32 := Scalar.extui v1408
  let c0_i32_1044 : BitVec 32 := 0#32
  let v1410 : BitVec 1 := Scalar.cmpi .slt c2_i32_1040 c0_i32_1044
  let v1411 : BitVec 32 := Scalar.extui v1410
  let v1412 : BitVec 32 := Scalar.subi v1409 v1411
  let v1413 : BitVec 1 := Scalar.cmpi .ne v1407 v1412
  let v1414 : BitVec 32 := Scalar.remsi v1142 c2_i32_1040
  let c0_i32_1045 : BitVec 32 := 0#32
  let v1415 : BitVec 1 := Scalar.cmpi .ne v1414 c0_i32_1045
  let v1416 : BitVec 1 := Scalar.andi v1413 v1415
  let v1402 : BitVec 32 := Scalar.divsi v1142 c2_i32_1040
  let c1_i32_1046 : BitVec 32 := 1#32
  let v1417 : BitVec 32 := Scalar.subi v1402 c1_i32_1046
  let v1418 : BitVec 32 := Scalar.select v1416 v1417 v1402
  let c2_i32_1047 : BitVec 32 := 2#32
  let v1419 : BitVec 32 := Scalar.muli v1418 c2_i32_1047
  let c0_i32_1113 : BitVec 32 := 0#32
  let v1535 : BitVec 1 := Scalar.cmpi .sgt v1419 c0_i32_1113
  let v1536 : BitVec 32 := Scalar.extui v1535
  let c0_i32_1114 : BitVec 32 := 0#32
  let v1537 : BitVec 1 := Scalar.cmpi .slt v1419 c0_i32_1114
  let v1538 : BitVec 32 := Scalar.extui v1537
  let v1539 : BitVec 32 := Scalar.subi v1536 v1538
  let c4_i32_1112 : BitVec 32 := 4#32
  let c0_i32_1115 : BitVec 32 := 0#32
  let v1540 : BitVec 1 := Scalar.cmpi .sgt c4_i32_1112 c0_i32_1115
  let v1541 : BitVec 32 := Scalar.extui v1540
  let c0_i32_1116 : BitVec 32 := 0#32
  let v1542 : BitVec 1 := Scalar.cmpi .slt c4_i32_1112 c0_i32_1116
  let v1543 : BitVec 32 := Scalar.extui v1542
  let v1544 : BitVec 32 := Scalar.subi v1541 v1543
  let v1545 : BitVec 1 := Scalar.cmpi .ne v1539 v1544
  let v1546 : BitVec 32 := Scalar.remsi v1419 c4_i32_1112
  let c0_i32_1117 : BitVec 32 := 0#32
  let v1547 : BitVec 1 := Scalar.cmpi .ne v1546 c0_i32_1117
  let v1548 : BitVec 1 := Scalar.andi v1545 v1547
  let v1534 : BitVec 32 := Scalar.divsi v1419 c4_i32_1112
  let c1_i32_1118 : BitVec 32 := 1#32
  let v1549 : BitVec 32 := Scalar.subi v1534 c1_i32_1118
  let v1550 : BitVec 32 := Scalar.select v1548 v1549 v1534
  let c4_i32_1119 : BitVec 32 := 4#32
  let v1551 : BitVec 32 := Scalar.muli v1550 c4_i32_1119
  let c0_i32_1218 : BitVec 32 := 0#32
  let v1733 : BitVec 1 := Scalar.cmpi .sgt v1551 c0_i32_1218
  let v1734 : BitVec 32 := Scalar.extui v1733
  let c0_i32_1219 : BitVec 32 := 0#32
  let v1735 : BitVec 1 := Scalar.cmpi .slt v1551 c0_i32_1219
  let v1736 : BitVec 32 := Scalar.extui v1735
  let v1737 : BitVec 32 := Scalar.subi v1734 v1736
  let c8_i32_1217 : BitVec 32 := 8#32
  let c0_i32_1220 : BitVec 32 := 0#32
  let v1738 : BitVec 1 := Scalar.cmpi .sgt c8_i32_1217 c0_i32_1220
  let v1739 : BitVec 32 := Scalar.extui v1738
  let c0_i32_1221 : BitVec 32 := 0#32
  let v1740 : BitVec 1 := Scalar.cmpi .slt c8_i32_1217 c0_i32_1221
  let v1741 : BitVec 32 := Scalar.extui v1740
  let v1742 : BitVec 32 := Scalar.subi v1739 v1741
  let v1743 : BitVec 1 := Scalar.cmpi .ne v1737 v1742
  let v1744 : BitVec 32 := Scalar.remsi v1551 c8_i32_1217
  let c0_i32_1222 : BitVec 32 := 0#32
  let v1745 : BitVec 1 := Scalar.cmpi .ne v1744 c0_i32_1222
  let v1746 : BitVec 1 := Scalar.andi v1743 v1745
  let v1732 : BitVec 32 := Scalar.divsi v1551 c8_i32_1217
  let c1_i32_1223 : BitVec 32 := 1#32
  let v1747 : BitVec 32 := Scalar.subi v1732 c1_i32_1223
  let v1748 : BitVec 32 := Scalar.select v1746 v1747 v1732
  let c8_i32_1224 : BitVec 32 := 8#32
  let v1749 : BitVec 32 := Scalar.muli v1748 c8_i32_1224
  let c0_i32_1389 : BitVec 32 := 0#32
  let v2063 : BitVec 1 := Scalar.cmpi .sgt v1749 c0_i32_1389
  let v2064 : BitVec 32 := Scalar.extui v2063
  let c0_i32_1390 : BitVec 32 := 0#32
  let v2065 : BitVec 1 := Scalar.cmpi .slt v1749 c0_i32_1390
  let v2066 : BitVec 32 := Scalar.extui v2065
  let v2067 : BitVec 32 := Scalar.subi v2064 v2066
  let c16_i32_1388 : BitVec 32 := 16#32
  let c0_i32_1391 : BitVec 32 := 0#32
  let v2068 : BitVec 1 := Scalar.cmpi .sgt c16_i32_1388 c0_i32_1391
  let v2069 : BitVec 32 := Scalar.extui v2068
  let c0_i32_1392 : BitVec 32 := 0#32
  let v2070 : BitVec 1 := Scalar.cmpi .slt c16_i32_1388 c0_i32_1392
  let v2071 : BitVec 32 := Scalar.extui v2070
  let v2072 : BitVec 32 := Scalar.subi v2069 v2071
  let v2073 : BitVec 1 := Scalar.cmpi .ne v2067 v2072
  let v2074 : BitVec 32 := Scalar.remsi v1749 c16_i32_1388
  let c0_i32_1393 : BitVec 32 := 0#32
  let v2075 : BitVec 1 := Scalar.cmpi .ne v2074 c0_i32_1393
  let v2076 : BitVec 1 := Scalar.andi v2073 v2075
  let v2062 : BitVec 32 := Scalar.divsi v1749 c16_i32_1388
  let c1_i32_1394 : BitVec 32 := 1#32
  let v2077 : BitVec 32 := Scalar.subi v2062 c1_i32_1394
  let v2078 : BitVec 32 := Scalar.select v2076 v2077 v2062
  let c16_i32_1395 : BitVec 32 := 16#32
  let v2079 : BitVec 32 := Scalar.muli v2078 c16_i32_1395
  let c1_i32_1687 : BitVec 32 := 1#32
  let c2_i32_1686 : BitVec 32 := 2#32
  let c0_i32_1674 : BitVec 32 := 0#32
  let v2626 : BitVec 1 := Scalar.cmpi .sgt v2079 c0_i32_1674
  let v2627 : BitVec 32 := Scalar.extui v2626
  let c0_i32_1675 : BitVec 32 := 0#32
  let v2628 : BitVec 1 := Scalar.cmpi .slt v2079 c0_i32_1675
  let v2629 : BitVec 32 := Scalar.extui v2628
  let v2630 : BitVec 32 := Scalar.subi v2627 v2629
  let c16_i32_1673 : BitVec 32 := 16#32
  let c0_i32_1676 : BitVec 32 := 0#32
  let v2631 : BitVec 1 := Scalar.cmpi .sgt c16_i32_1673 c0_i32_1676
  let v2632 : BitVec 32 := Scalar.extui v2631
  let c0_i32_1677 : BitVec 32 := 0#32
  let v2633 : BitVec 1 := Scalar.cmpi .slt c16_i32_1673 c0_i32_1677
  let v2634 : BitVec 32 := Scalar.extui v2633
  let v2635 : BitVec 32 := Scalar.subi v2632 v2634
  let v2636 : BitVec 1 := Scalar.cmpi .ne v2630 v2635
  let v2637 : BitVec 32 := Scalar.remsi v2079 c16_i32_1673
  let c0_i32_1678 : BitVec 32 := 0#32
  let v2638 : BitVec 1 := Scalar.cmpi .ne v2637 c0_i32_1678
  let v2639 : BitVec 1 := Scalar.andi v2636 v2638
  let v2625 : BitVec 32 := Scalar.divsi v2079 c16_i32_1673
  let c1_i32_1679 : BitVec 32 := 1#32
  let v2640 : BitVec 32 := Scalar.subi v2625 c1_i32_1679
  let v2641 : BitVec 32 := Scalar.select v2639 v2640 v2625
  let c2_i32_1680 : BitVec 32 := 2#32
  let c0_i32_1681 : BitVec 32 := 0#32
  let v2642 : BitVec 1 := Scalar.cmpi .eq c2_i32_1680 c0_i32_1681
  let c1_i32_1682 : BitVec 32 := 1#32
  let v2643 : BitVec 32 := Scalar.select v2642 c1_i32_1682 c2_i32_1680
  let v2644 : BitVec 32 := Scalar.remsi v2641 v2643
  let c0_i32_1684 : BitVec 32 := 0#32
  let v2646 : BitVec 1 := Scalar.cmpi .slt v2644 c0_i32_1684
  let c0_i32_1685 : BitVec 32 := 0#32
  let v2647 : BitVec 1 := Scalar.cmpi .slt v2643 c0_i32_1685
  let v2648 : BitVec 1 := Scalar.xori v2646 v2647
  let c0_i32_1683 : BitVec 32 := 0#32
  let v2645 : BitVec 1 := Scalar.cmpi .ne v2644 c0_i32_1683
  let v2649 : BitVec 1 := Scalar.andi v2648 v2645
  let v2650 : BitVec 32 := Scalar.addi v2644 v2643
  let v2651 : BitVec 32 := Scalar.select v2649 v2650 v2644
  let v2652 : BitVec 32 := Scalar.muli c2_i32_1686 v2651
  let v2653 : BitVec 32 := Scalar.subi c1_i32_1687 v2652
  let c16_i32_1688 : BitVec 32 := 16#32
  let v2654 : BitVec 32 := Scalar.muli v2653 c16_i32_1688
  let v2655 : BitVec 32 := Scalar.addi v2079 v2654
  let v2656 : BitVec 32 := Scalar.addi v2655 c0_i32_1689
  let c32_i32_1719 : BitVec 32 := 32#32
  let v2716 : BitVec 32 := Scalar.muli v2656 c32_i32_1719
  let v2717 : Index := Scalar.indexCast v2716
  let c0_1720 : Index := 0#32
  ![v2717.toNat, 0]
def k0_off44 (d0 : Dev nD) (c0_i32_1689 : BitVec 32) : Fin 2 → Nat :=
  let c4_i32_1703 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_676 : BitVec 32 := 0#32
  let v837 : BitVec 32 := Scalar.muli v2 c0_i32_676
  let c0_i32_678 : BitVec 32 := 0#32
  let v839 : BitVec 1 := Scalar.cmpi .sgt v2 c0_i32_678
  let v840 : BitVec 32 := Scalar.extui v839
  let c0_i32_679 : BitVec 32 := 0#32
  let v841 : BitVec 1 := Scalar.cmpi .slt v2 c0_i32_679
  let v842 : BitVec 32 := Scalar.extui v841
  let v843 : BitVec 32 := Scalar.subi v840 v842
  let c1_i32_677 : BitVec 32 := 1#32
  let c0_i32_680 : BitVec 32 := 0#32
  let v844 : BitVec 1 := Scalar.cmpi .sgt c1_i32_677 c0_i32_680
  let v845 : BitVec 32 := Scalar.extui v844
  let c0_i32_681 : BitVec 32 := 0#32
  let v846 : BitVec 1 := Scalar.cmpi .slt c1_i32_677 c0_i32_681
  let v847 : BitVec 32 := Scalar.extui v846
  let v848 : BitVec 32 := Scalar.subi v845 v847
  let v849 : BitVec 1 := Scalar.cmpi .ne v843 v848
  let v850 : BitVec 32 := Scalar.remsi v2 c1_i32_677
  let c0_i32_682 : BitVec 32 := 0#32
  let v851 : BitVec 1 := Scalar.cmpi .ne v850 c0_i32_682
  let v852 : BitVec 1 := Scalar.andi v849 v851
  let v838 : BitVec 32 := Scalar.divsi v2 c1_i32_677
  let c1_i32_683 : BitVec 32 := 1#32
  let v853 : BitVec 32 := Scalar.subi v838 c1_i32_683
  let v854 : BitVec 32 := Scalar.select v852 v853 v838
  let c2_i32_684 : BitVec 32 := 2#32
  let c0_i32_685 : BitVec 32 := 0#32
  let v855 : BitVec 1 := Scalar.cmpi .eq c2_i32_684 c0_i32_685
  let c1_i32_686 : BitVec 32 := 1#32
  let v856 : BitVec 32 := Scalar.select v855 c1_i32_686 c2_i32_684
  let v857 : BitVec 32 := Scalar.remsi v854 v856
  let c0_i32_688 : BitVec 32 := 0#32
  let v859 : BitVec 1 := Scalar.cmpi .slt v857 c0_i32_688
  let c0_i32_689 : BitVec 32 := 0#32
  let v860 : BitVec 1 := Scalar.cmpi .slt v856 c0_i32_689
  let v861 : BitVec 1 := Scalar.xori v859 v860
  let c0_i32_687 : BitVec 32 := 0#32
  let v858 : BitVec 1 := Scalar.cmpi .ne v857 c0_i32_687
  let v862 : BitVec 1 := Scalar.andi v861 v858
  let v863 : BitVec 32 := Scalar.addi v857 v856
  let v864 : BitVec 32 := Scalar.select v862 v863 v857
  let c16_i32_690 : BitVec 32 := 16#32
  let v865 : BitVec 32 := Scalar.muli v864 c16_i32_690
  let v866 : BitVec 32 := Scalar.addi v837 v865
  let c0_i32_728 : BitVec 32 := 0#32
  let v908 : BitVec 1 := Scalar.cmpi .sgt v2 c0_i32_728
  let v909 : BitVec 32 := Scalar.extui v908
  let c0_i32_729 : BitVec 32 := 0#32
  let v910 : BitVec 1 := Scalar.cmpi .slt v2 c0_i32_729
  let v911 : BitVec 32 := Scalar.extui v910
  let v912 : BitVec 32 := Scalar.subi v909 v911
  let c8_i32_727 : BitVec 32 := 8#32
  let c0_i32_730 : BitVec 32 := 0#32
  let v913 : BitVec 1 := Scalar.cmpi .sgt c8_i32_727 c0_i32_730
  let v914 : BitVec 32 := Scalar.extui v913
  let c0_i32_731 : BitVec 32 := 0#32
  let v915 : BitVec 1 := Scalar.cmpi .slt c8_i32_727 c0_i32_731
  let v916 : BitVec 32 := Scalar.extui v915
  let v917 : BitVec 32 := Scalar.subi v914 v916
  let v918 : BitVec 1 := Scalar.cmpi .ne v912 v917
  let v919 : BitVec 32 := Scalar.remsi v2 c8_i32_727
  let c0_i32_732 : BitVec 32 := 0#32
  let v920 : BitVec 1 := Scalar.cmpi .ne v919 c0_i32_732
  let v921 : BitVec 1 := Scalar.andi v918 v920
  let v907 : BitVec 32 := Scalar.divsi v2 c8_i32_727
  let c1_i32_733 : BitVec 32 := 1#32
  let v922 : BitVec 32 := Scalar.subi v907 c1_i32_733
  let v923 : BitVec 32 := Scalar.select v921 v922 v907
  let c2_i32_734 : BitVec 32 := 2#32
  let c0_i32_735 : BitVec 32 := 0#32
  let v924 : BitVec 1 := Scalar.cmpi .eq c2_i32_734 c0_i32_735
  let c1_i32_736 : BitVec 32 := 1#32
  let v925 : BitVec 32 := Scalar.select v924 c1_i32_736 c2_i32_734
  let v926 : BitVec 32 := Scalar.remsi v923 v925
  let c0_i32_738 : BitVec 32 := 0#32
  let v928 : BitVec 1 := Scalar.cmpi .slt v926 c0_i32_738
  let c0_i32_739 : BitVec 32 := 0#32
  let v929 : BitVec 1 := Scalar.cmpi .slt v925 c0_i32_739
  let v930 : BitVec 1 := Scalar.xori v928 v929
  let c0_i32_737 : BitVec 32 := 0#32
  let v927 : BitVec 1 := Scalar.cmpi .ne v926 c0_i32_737
  let v931 : BitVec 1 := Scalar.andi v930 v927
  let v932 : BitVec 32 := Scalar.addi v926 v925
  let v933 : BitVec 32 := Scalar.select v931 v932 v926
  let c8_i32_740 : BitVec 32 := 8#32
  let v934 : BitVec 32 := Scalar.muli v933 c8_i32_740
  let v935 : BitVec 32 := Scalar.addi v866 v934
  let c0_i32_777 : BitVec 32 := 0#32
  let v977 : BitVec 1 := Scalar.cmpi .sgt v2 c0_i32_777
  let v978 : BitVec 32 := Scalar.extui v977
  let c0_i32_778 : BitVec 32 := 0#32
  let v979 : BitVec 1 := Scalar.cmpi .slt v2 c0_i32_778
  let v980 : BitVec 32 := Scalar.extui v979
  let v981 : BitVec 32 := Scalar.subi v978 v980
  let c2_i32_776 : BitVec 32 := 2#32
  let c0_i32_779 : BitVec 32 := 0#32
  let v982 : BitVec 1 := Scalar.cmpi .sgt c2_i32_776 c0_i32_779
  let v983 : BitVec 32 := Scalar.extui v982
  let c0_i32_780 : BitVec 32 := 0#32
  let v984 : BitVec 1 := Scalar.cmpi .slt c2_i32_776 c0_i32_780
  let v985 : BitVec 32 := Scalar.extui v984
  let v986 : BitVec 32 := Scalar.subi v983 v985
  let v987 : BitVec 1 := Scalar.cmpi .ne v981 v986
  let v988 : BitVec 32 := Scalar.remsi v2 c2_i32_776
  let c0_i32_781 : BitVec 32 := 0#32
  let v989 : BitVec 1 := Scalar.cmpi .ne v988 c0_i32_781
  let v990 : BitVec 1 := Scalar.andi v987 v989
  let v976 : BitVec 32 := Scalar.divsi v2 c2_i32_776
  let c1_i32_782 : BitVec 32 := 1#32
  let v991 : BitVec 32 := Scalar.subi v976 c1_i32_782
  let v992 : BitVec 32 := Scalar.select v990 v991 v976
  let c2_i32_783 : BitVec 32 := 2#32
  let c0_i32_784 : BitVec 32 := 0#32
  let v993 : BitVec 1 := Scalar.cmpi .eq c2_i32_783 c0_i32_784
  let c1_i32_785 : BitVec 32 := 1#32
  let v994 : BitVec 32 := Scalar.select v993 c1_i32_785 c2_i32_783
  let v995 : BitVec 32 := Scalar.remsi v992 v994
  let c0_i32_787 : BitVec 32 := 0#32
  let v997 : BitVec 1 := Scalar.cmpi .slt v995 c0_i32_787
  let c0_i32_788 : BitVec 32 := 0#32
  let v998 : BitVec 1 := Scalar.cmpi .slt v994 c0_i32_788
  let v999 : BitVec 1 := Scalar.xori v997 v998
  let c0_i32_786 : BitVec 32 := 0#32
  let v996 : BitVec 1 := Scalar.cmpi .ne v995 c0_i32_786
  let v1000 : BitVec 1 := Scalar.andi v999 v996
  let v1001 : BitVec 32 := Scalar.addi v995 v994
  let v1002 : BitVec 32 := Scalar.select v1000 v1001 v995
  let c4_i32_789 : BitVec 32 := 4#32
  let v1003 : BitVec 32 := Scalar.muli v1002 c4_i32_789
  let v1004 : BitVec 32 := Scalar.addi v935 v1003
  let c0_i32_826 : BitVec 32 := 0#32
  let v1046 : BitVec 1 := Scalar.cmpi .sgt v2 c0_i32_826
  let v1047 : BitVec 32 := Scalar.extui v1046
  let c0_i32_827 : BitVec 32 := 0#32
  let v1048 : BitVec 1 := Scalar.cmpi .slt v2 c0_i32_827
  let v1049 : BitVec 32 := Scalar.extui v1048
  let v1050 : BitVec 32 := Scalar.subi v1047 v1049
  let c4_i32_825 : BitVec 32 := 4#32
  let c0_i32_828 : BitVec 32 := 0#32
  let v1051 : BitVec 1 := Scalar.cmpi .sgt c4_i32_825 c0_i32_828
  let v1052 : BitVec 32 := Scalar.extui v1051
  let c0_i32_829 : BitVec 32 := 0#32
  let v1053 : BitVec 1 := Scalar.cmpi .slt c4_i32_825 c0_i32_829
  let v1054 : BitVec 32 := Scalar.extui v1053
  let v1055 : BitVec 32 := Scalar.subi v1052 v1054
  let v1056 : BitVec 1 := Scalar.cmpi .ne v1050 v1055
  let v1057 : BitVec 32 := Scalar.remsi v2 c4_i32_825
  let c0_i32_830 : BitVec 32 := 0#32
  let v1058 : BitVec 1 := Scalar.cmpi .ne v1057 c0_i32_830
  let v1059 : BitVec 1 := Scalar.andi v1056 v1058
  let v1045 : BitVec 32 := Scalar.divsi v2 c4_i32_825
  let c1_i32_831 : BitVec 32 := 1#32
  let v1060 : BitVec 32 := Scalar.subi v1045 c1_i32_831
  let v1061 : BitVec 32 := Scalar.select v1059 v1060 v1045
  let c2_i32_832 : BitVec 32 := 2#32
  let c0_i32_833 : BitVec 32 := 0#32
  let v1062 : BitVec 1 := Scalar.cmpi .eq c2_i32_832 c0_i32_833
  let c1_i32_834 : BitVec 32 := 1#32
  let v1063 : BitVec 32 := Scalar.select v1062 c1_i32_834 c2_i32_832
  let v1064 : BitVec 32 := Scalar.remsi v1061 v1063
  let c0_i32_836 : BitVec 32 := 0#32
  let v1066 : BitVec 1 := Scalar.cmpi .slt v1064 c0_i32_836
  let c0_i32_837 : BitVec 32 := 0#32
  let v1067 : BitVec 1 := Scalar.cmpi .slt v1063 c0_i32_837
  let v1068 : BitVec 1 := Scalar.xori v1066 v1067
  let c0_i32_835 : BitVec 32 := 0#32
  let v1065 : BitVec 1 := Scalar.cmpi .ne v1064 c0_i32_835
  let v1069 : BitVec 1 := Scalar.andi v1068 v1065
  let v1070 : BitVec 32 := Scalar.addi v1064 v1063
  let v1071 : BitVec 32 := Scalar.select v1069 v1070 v1064
  let c2_i32_838 : BitVec 32 := 2#32
  let v1072 : BitVec 32 := Scalar.muli v1071 c2_i32_838
  let v1073 : BitVec 32 := Scalar.addi v1004 v1072
  let c0_i32_874 : BitVec 32 := 0#32
  let v1115 : BitVec 1 := Scalar.cmpi .sgt v2 c0_i32_874
  let v1116 : BitVec 32 := Scalar.extui v1115
  let c0_i32_875 : BitVec 32 := 0#32
  let v1117 : BitVec 1 := Scalar.cmpi .slt v2 c0_i32_875
  let v1118 : BitVec 32 := Scalar.extui v1117
  let v1119 : BitVec 32 := Scalar.subi v1116 v1118
  let c16_i32_873 : BitVec 32 := 16#32
  let c0_i32_876 : BitVec 32 := 0#32
  let v1120 : BitVec 1 := Scalar.cmpi .sgt c16_i32_873 c0_i32_876
  let v1121 : BitVec 32 := Scalar.extui v1120
  let c0_i32_877 : BitVec 32 := 0#32
  let v1122 : BitVec 1 := Scalar.cmpi .slt c16_i32_873 c0_i32_877
  let v1123 : BitVec 32 := Scalar.extui v1122
  let v1124 : BitVec 32 := Scalar.subi v1121 v1123
  let v1125 : BitVec 1 := Scalar.cmpi .ne v1119 v1124
  let v1126 : BitVec 32 := Scalar.remsi v2 c16_i32_873
  let c0_i32_878 : BitVec 32 := 0#32
  let v1127 : BitVec 1 := Scalar.cmpi .ne v1126 c0_i32_878
  let v1128 : BitVec 1 := Scalar.andi v1125 v1127
  let v1114 : BitVec 32 := Scalar.divsi v2 c16_i32_873
  let c1_i32_879 : BitVec 32 := 1#32
  let v1129 : BitVec 32 := Scalar.subi v1114 c1_i32_879
  let v1130 : BitVec 32 := Scalar.select v1128 v1129 v1114
  let c2_i32_880 : BitVec 32 := 2#32
  let c0_i32_881 : BitVec 32 := 0#32
  let v1131 : BitVec 1 := Scalar.cmpi .eq c2_i32_880 c0_i32_881
  let c1_i32_882 : BitVec 32 := 1#32
  let v1132 : BitVec 32 := Scalar.select v1131 c1_i32_882 c2_i32_880
  let v1133 : BitVec 32 := Scalar.remsi v1130 v1132
  let c0_i32_884 : BitVec 32 := 0#32
  let v1135 : BitVec 1 := Scalar.cmpi .slt v1133 c0_i32_884
  let c0_i32_885 : BitVec 32 := 0#32
  let v1136 : BitVec 1 := Scalar.cmpi .slt v1132 c0_i32_885
  let v1137 : BitVec 1 := Scalar.xori v1135 v1136
  let c0_i32_883 : BitVec 32 := 0#32
  let v1134 : BitVec 1 := Scalar.cmpi .ne v1133 c0_i32_883
  let v1138 : BitVec 1 := Scalar.andi v1137 v1134
  let v1139 : BitVec 32 := Scalar.addi v1133 v1132
  let v1140 : BitVec 32 := Scalar.select v1138 v1139 v1133
  let c1_i32_886 : BitVec 32 := 1#32
  let v1141 : BitVec 32 := Scalar.muli v1140 c1_i32_886
  let v1142 : BitVec 32 := Scalar.addi v1073 v1141
  let c0_i32_1041 : BitVec 32 := 0#32
  let v1403 : BitVec 1 := Scalar.cmpi .sgt v1142 c0_i32_1041
  let v1404 : BitVec 32 := Scalar.extui v1403
  let c0_i32_1042 : BitVec 32 := 0#32
  let v1405 : BitVec 1 := Scalar.cmpi .slt v1142 c0_i32_1042
  let v1406 : BitVec 32 := Scalar.extui v1405
  let v1407 : BitVec 32 := Scalar.subi v1404 v1406
  let c2_i32_1040 : BitVec 32 := 2#32
  let c0_i32_1043 : BitVec 32 := 0#32
  let v1408 : BitVec 1 := Scalar.cmpi .sgt c2_i32_1040 c0_i32_1043
  let v1409 : BitVec 32 := Scalar.extui v1408
  let c0_i32_1044 : BitVec 32 := 0#32
  let v1410 : BitVec 1 := Scalar.cmpi .slt c2_i32_1040 c0_i32_1044
  let v1411 : BitVec 32 := Scalar.extui v1410
  let v1412 : BitVec 32 := Scalar.subi v1409 v1411
  let v1413 : BitVec 1 := Scalar.cmpi .ne v1407 v1412
  let v1414 : BitVec 32 := Scalar.remsi v1142 c2_i32_1040
  let c0_i32_1045 : BitVec 32 := 0#32
  let v1415 : BitVec 1 := Scalar.cmpi .ne v1414 c0_i32_1045
  let v1416 : BitVec 1 := Scalar.andi v1413 v1415
  let v1402 : BitVec 32 := Scalar.divsi v1142 c2_i32_1040
  let c1_i32_1046 : BitVec 32 := 1#32
  let v1417 : BitVec 32 := Scalar.subi v1402 c1_i32_1046
  let v1418 : BitVec 32 := Scalar.select v1416 v1417 v1402
  let c2_i32_1047 : BitVec 32 := 2#32
  let v1419 : BitVec 32 := Scalar.muli v1418 c2_i32_1047
  let c0_i32_1113 : BitVec 32 := 0#32
  let v1535 : BitVec 1 := Scalar.cmpi .sgt v1419 c0_i32_1113
  let v1536 : BitVec 32 := Scalar.extui v1535
  let c0_i32_1114 : BitVec 32 := 0#32
  let v1537 : BitVec 1 := Scalar.cmpi .slt v1419 c0_i32_1114
  let v1538 : BitVec 32 := Scalar.extui v1537
  let v1539 : BitVec 32 := Scalar.subi v1536 v1538
  let c4_i32_1112 : BitVec 32 := 4#32
  let c0_i32_1115 : BitVec 32 := 0#32
  let v1540 : BitVec 1 := Scalar.cmpi .sgt c4_i32_1112 c0_i32_1115
  let v1541 : BitVec 32 := Scalar.extui v1540
  let c0_i32_1116 : BitVec 32 := 0#32
  let v1542 : BitVec 1 := Scalar.cmpi .slt c4_i32_1112 c0_i32_1116
  let v1543 : BitVec 32 := Scalar.extui v1542
  let v1544 : BitVec 32 := Scalar.subi v1541 v1543
  let v1545 : BitVec 1 := Scalar.cmpi .ne v1539 v1544
  let v1546 : BitVec 32 := Scalar.remsi v1419 c4_i32_1112
  let c0_i32_1117 : BitVec 32 := 0#32
  let v1547 : BitVec 1 := Scalar.cmpi .ne v1546 c0_i32_1117
  let v1548 : BitVec 1 := Scalar.andi v1545 v1547
  let v1534 : BitVec 32 := Scalar.divsi v1419 c4_i32_1112
  let c1_i32_1118 : BitVec 32 := 1#32
  let v1549 : BitVec 32 := Scalar.subi v1534 c1_i32_1118
  let v1550 : BitVec 32 := Scalar.select v1548 v1549 v1534
  let c4_i32_1119 : BitVec 32 := 4#32
  let v1551 : BitVec 32 := Scalar.muli v1550 c4_i32_1119
  let c0_i32_1218 : BitVec 32 := 0#32
  let v1733 : BitVec 1 := Scalar.cmpi .sgt v1551 c0_i32_1218
  let v1734 : BitVec 32 := Scalar.extui v1733
  let c0_i32_1219 : BitVec 32 := 0#32
  let v1735 : BitVec 1 := Scalar.cmpi .slt v1551 c0_i32_1219
  let v1736 : BitVec 32 := Scalar.extui v1735
  let v1737 : BitVec 32 := Scalar.subi v1734 v1736
  let c8_i32_1217 : BitVec 32 := 8#32
  let c0_i32_1220 : BitVec 32 := 0#32
  let v1738 : BitVec 1 := Scalar.cmpi .sgt c8_i32_1217 c0_i32_1220
  let v1739 : BitVec 32 := Scalar.extui v1738
  let c0_i32_1221 : BitVec 32 := 0#32
  let v1740 : BitVec 1 := Scalar.cmpi .slt c8_i32_1217 c0_i32_1221
  let v1741 : BitVec 32 := Scalar.extui v1740
  let v1742 : BitVec 32 := Scalar.subi v1739 v1741
  let v1743 : BitVec 1 := Scalar.cmpi .ne v1737 v1742
  let v1744 : BitVec 32 := Scalar.remsi v1551 c8_i32_1217
  let c0_i32_1222 : BitVec 32 := 0#32
  let v1745 : BitVec 1 := Scalar.cmpi .ne v1744 c0_i32_1222
  let v1746 : BitVec 1 := Scalar.andi v1743 v1745
  let v1732 : BitVec 32 := Scalar.divsi v1551 c8_i32_1217
  let c1_i32_1223 : BitVec 32 := 1#32
  let v1747 : BitVec 32 := Scalar.subi v1732 c1_i32_1223
  let v1748 : BitVec 32 := Scalar.select v1746 v1747 v1732
  let c8_i32_1224 : BitVec 32 := 8#32
  let v1749 : BitVec 32 := Scalar.muli v1748 c8_i32_1224
  let c0_i32_1389 : BitVec 32 := 0#32
  let v2063 : BitVec 1 := Scalar.cmpi .sgt v1749 c0_i32_1389
  let v2064 : BitVec 32 := Scalar.extui v2063
  let c0_i32_1390 : BitVec 32 := 0#32
  let v2065 : BitVec 1 := Scalar.cmpi .slt v1749 c0_i32_1390
  let v2066 : BitVec 32 := Scalar.extui v2065
  let v2067 : BitVec 32 := Scalar.subi v2064 v2066
  let c16_i32_1388 : BitVec 32 := 16#32
  let c0_i32_1391 : BitVec 32 := 0#32
  let v2068 : BitVec 1 := Scalar.cmpi .sgt c16_i32_1388 c0_i32_1391
  let v2069 : BitVec 32 := Scalar.extui v2068
  let c0_i32_1392 : BitVec 32 := 0#32
  let v2070 : BitVec 1 := Scalar.cmpi .slt c16_i32_1388 c0_i32_1392
  let v2071 : BitVec 32 := Scalar.extui v2070
  let v2072 : BitVec 32 := Scalar.subi v2069 v2071
  let v2073 : BitVec 1 := Scalar.cmpi .ne v2067 v2072
  let v2074 : BitVec 32 := Scalar.remsi v1749 c16_i32_1388
  let c0_i32_1393 : BitVec 32 := 0#32
  let v2075 : BitVec 1 := Scalar.cmpi .ne v2074 c0_i32_1393
  let v2076 : BitVec 1 := Scalar.andi v2073 v2075
  let v2062 : BitVec 32 := Scalar.divsi v1749 c16_i32_1388
  let c1_i32_1394 : BitVec 32 := 1#32
  let v2077 : BitVec 32 := Scalar.subi v2062 c1_i32_1394
  let v2078 : BitVec 32 := Scalar.select v2076 v2077 v2062
  let c16_i32_1395 : BitVec 32 := 16#32
  let v2079 : BitVec 32 := Scalar.muli v2078 c16_i32_1395
  let c1_i32_1687 : BitVec 32 := 1#32
  let c2_i32_1686 : BitVec 32 := 2#32
  let c0_i32_1674 : BitVec 32 := 0#32
  let v2626 : BitVec 1 := Scalar.cmpi .sgt v2079 c0_i32_1674
  let v2627 : BitVec 32 := Scalar.extui v2626
  let c0_i32_1675 : BitVec 32 := 0#32
  let v2628 : BitVec 1 := Scalar.cmpi .slt v2079 c0_i32_1675
  let v2629 : BitVec 32 := Scalar.extui v2628
  let v2630 : BitVec 32 := Scalar.subi v2627 v2629
  let c16_i32_1673 : BitVec 32 := 16#32
  let c0_i32_1676 : BitVec 32 := 0#32
  let v2631 : BitVec 1 := Scalar.cmpi .sgt c16_i32_1673 c0_i32_1676
  let v2632 : BitVec 32 := Scalar.extui v2631
  let c0_i32_1677 : BitVec 32 := 0#32
  let v2633 : BitVec 1 := Scalar.cmpi .slt c16_i32_1673 c0_i32_1677
  let v2634 : BitVec 32 := Scalar.extui v2633
  let v2635 : BitVec 32 := Scalar.subi v2632 v2634
  let v2636 : BitVec 1 := Scalar.cmpi .ne v2630 v2635
  let v2637 : BitVec 32 := Scalar.remsi v2079 c16_i32_1673
  let c0_i32_1678 : BitVec 32 := 0#32
  let v2638 : BitVec 1 := Scalar.cmpi .ne v2637 c0_i32_1678
  let v2639 : BitVec 1 := Scalar.andi v2636 v2638
  let v2625 : BitVec 32 := Scalar.divsi v2079 c16_i32_1673
  let c1_i32_1679 : BitVec 32 := 1#32
  let v2640 : BitVec 32 := Scalar.subi v2625 c1_i32_1679
  let v2641 : BitVec 32 := Scalar.select v2639 v2640 v2625
  let c2_i32_1680 : BitVec 32 := 2#32
  let c0_i32_1681 : BitVec 32 := 0#32
  let v2642 : BitVec 1 := Scalar.cmpi .eq c2_i32_1680 c0_i32_1681
  let c1_i32_1682 : BitVec 32 := 1#32
  let v2643 : BitVec 32 := Scalar.select v2642 c1_i32_1682 c2_i32_1680
  let v2644 : BitVec 32 := Scalar.remsi v2641 v2643
  let c0_i32_1684 : BitVec 32 := 0#32
  let v2646 : BitVec 1 := Scalar.cmpi .slt v2644 c0_i32_1684
  let c0_i32_1685 : BitVec 32 := 0#32
  let v2647 : BitVec 1 := Scalar.cmpi .slt v2643 c0_i32_1685
  let v2648 : BitVec 1 := Scalar.xori v2646 v2647
  let c0_i32_1683 : BitVec 32 := 0#32
  let v2645 : BitVec 1 := Scalar.cmpi .ne v2644 c0_i32_1683
  let v2649 : BitVec 1 := Scalar.andi v2648 v2645
  let v2650 : BitVec 32 := Scalar.addi v2644 v2643
  let v2651 : BitVec 32 := Scalar.select v2649 v2650 v2644
  let v2652 : BitVec 32 := Scalar.muli c2_i32_1686 v2651
  let v2653 : BitVec 32 := Scalar.subi c1_i32_1687 v2652
  let c16_i32_1688 : BitVec 32 := 16#32
  let v2654 : BitVec 32 := Scalar.muli v2653 c16_i32_1688
  let v2655 : BitVec 32 := Scalar.addi v2079 v2654
  let v2656 : BitVec 32 := Scalar.addi v2655 c0_i32_1689
  let c8_i32_1690 : BitVec 32 := 8#32
  let c0_i32_1691 : BitVec 32 := 0#32
  let v2657 : BitVec 1 := Scalar.cmpi .eq c8_i32_1690 c0_i32_1691
  let c1_i32_1692 : BitVec 32 := 1#32
  let v2658 : BitVec 32 := Scalar.select v2657 c1_i32_1692 c8_i32_1690
  let v2659 : BitVec 32 := Scalar.remsi v2656 v2658
  let c0_i32_1694 : BitVec 32 := 0#32
  let v2661 : BitVec 1 := Scalar.cmpi .slt v2659 c0_i32_1694
  let c0_i32_1695 : BitVec 32 := 0#32
  let v2662 : BitVec 1 := Scalar.cmpi .slt v2658 c0_i32_1695
  let v2663 : BitVec 1 := Scalar.xori v2661 v2662
  let c0_i32_1693 : BitVec 32 := 0#32
  let v2660 : BitVec 1 := Scalar.cmpi .ne v2659 c0_i32_1693
  let v2664 : BitVec 1 := Scalar.andi v2663 v2660
  let v2665 : BitVec 32 := Scalar.addi v2659 v2658
  let v2666 : BitVec 32 := Scalar.select v2664 v2665 v2659
  let c0_i32_1697 : BitVec 32 := 0#32
  let v2668 : BitVec 1 := Scalar.cmpi .sgt v2666 c0_i32_1697
  let v2669 : BitVec 32 := Scalar.extui v2668
  let c0_i32_1698 : BitVec 32 := 0#32
  let v2670 : BitVec 1 := Scalar.cmpi .slt v2666 c0_i32_1698
  let v2671 : BitVec 32 := Scalar.extui v2670
  let v2672 : BitVec 32 := Scalar.subi v2669 v2671
  let c2_i32_1696 : BitVec 32 := 2#32
  let c0_i32_1699 : BitVec 32 := 0#32
  let v2673 : BitVec 1 := Scalar.cmpi .sgt c2_i32_1696 c0_i32_1699
  let v2674 : BitVec 32 := Scalar.extui v2673
  let c0_i32_1700 : BitVec 32 := 0#32
  let v2675 : BitVec 1 := Scalar.cmpi .slt c2_i32_1696 c0_i32_1700
  let v2676 : BitVec 32 := Scalar.extui v2675
  let v2677 : BitVec 32 := Scalar.subi v2674 v2676
  let v2678 : BitVec 1 := Scalar.cmpi .ne v2672 v2677
  let v2679 : BitVec 32 := Scalar.remsi v2666 c2_i32_1696
  let c0_i32_1701 : BitVec 32 := 0#32
  let v2680 : BitVec 1 := Scalar.cmpi .ne v2679 c0_i32_1701
  let v2681 : BitVec 1 := Scalar.andi v2678 v2680
  let v2667 : BitVec 32 := Scalar.divsi v2666 c2_i32_1696
  let c1_i32_1702 : BitVec 32 := 1#32
  let v2682 : BitVec 32 := Scalar.subi v2667 c1_i32_1702
  let v2683 : BitVec 32 := Scalar.select v2681 v2682 v2667
  let v2684 : BitVec 32 := Scalar.muli c4_i32_1703 v2683
  let c0_i32_1705 : BitVec 32 := 0#32
  let v2686 : BitVec 1 := Scalar.cmpi .sgt v2656 c0_i32_1705
  let v2687 : BitVec 32 := Scalar.extui v2686
  let c0_i32_1706 : BitVec 32 := 0#32
  let v2688 : BitVec 1 := Scalar.cmpi .slt v2656 c0_i32_1706
  let v2689 : BitVec 32 := Scalar.extui v2688
  let v2690 : BitVec 32 := Scalar.subi v2687 v2689
  let c8_i32_1704 : BitVec 32 := 8#32
  let c0_i32_1707 : BitVec 32 := 0#32
  let v2691 : BitVec 1 := Scalar.cmpi .sgt c8_i32_1704 c0_i32_1707
  let v2692 : BitVec 32 := Scalar.extui v2691
  let c0_i32_1708 : BitVec 32 := 0#32
  let v2693 : BitVec 1 := Scalar.cmpi .slt c8_i32_1704 c0_i32_1708
  let v2694 : BitVec 32 := Scalar.extui v2693
  let v2695 : BitVec 32 := Scalar.subi v2692 v2694
  let v2696 : BitVec 1 := Scalar.cmpi .ne v2690 v2695
  let v2697 : BitVec 32 := Scalar.remsi v2656 c8_i32_1704
  let c0_i32_1709 : BitVec 32 := 0#32
  let v2698 : BitVec 1 := Scalar.cmpi .ne v2697 c0_i32_1709
  let v2699 : BitVec 1 := Scalar.andi v2696 v2698
  let v2685 : BitVec 32 := Scalar.divsi v2656 c8_i32_1704
  let c1_i32_1710 : BitVec 32 := 1#32
  let v2700 : BitVec 32 := Scalar.subi v2685 c1_i32_1710
  let v2701 : BitVec 32 := Scalar.select v2699 v2700 v2685
  let v2702 : BitVec 32 := Scalar.addi v2684 v2701
  let c64_i32_1711 : BitVec 32 := 64#32
  let v2703 : BitVec 32 := Scalar.muli v2702 c64_i32_1711
  let c2_i32_1712 : BitVec 32 := 2#32
  let c0_i32_1713 : BitVec 32 := 0#32
  let v2704 : BitVec 1 := Scalar.cmpi .eq c2_i32_1712 c0_i32_1713
  let c1_i32_1714 : BitVec 32 := 1#32
  let v2705 : BitVec 32 := Scalar.select v2704 c1_i32_1714 c2_i32_1712
  let v2706 : BitVec 32 := Scalar.remsi v2656 v2705
  let c0_i32_1716 : BitVec 32 := 0#32
  let v2708 : BitVec 1 := Scalar.cmpi .slt v2706 c0_i32_1716
  let c0_i32_1717 : BitVec 32 := 0#32
  let v2709 : BitVec 1 := Scalar.cmpi .slt v2705 c0_i32_1717
  let v2710 : BitVec 1 := Scalar.xori v2708 v2709
  let c0_i32_1715 : BitVec 32 := 0#32
  let v2707 : BitVec 1 := Scalar.cmpi .ne v2706 c0_i32_1715
  let v2711 : BitVec 1 := Scalar.andi v2710 v2707
  let v2712 : BitVec 32 := Scalar.addi v2706 v2705
  let v2713 : BitVec 32 := Scalar.select v2711 v2712 v2706
  let c32_i32_1718 : BitVec 32 := 32#32
  let v2714 : BitVec 32 := Scalar.muli v2713 c32_i32_1718
  let v2715 : BitVec 32 := Scalar.addi v2703 v2714
  let v2720 : Index := Scalar.indexCast v2715
  let c0_1721 : Index := 0#32
  ![v2720.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x1024 : Shape := ⟨2, ![1024, 1024]⟩
abbrev S32768x8x128 : Shape := ⟨3, ![32768, 8, 128]⟩
abbrev S1024x8x128 : Shape := ⟨3, ![1024, 8, 128]⟩
abbrev S1024 : Shape := ⟨1, ![1024]⟩
abbrev S_ : Shape := ⟨0, ![]⟩
abbrev S1024x1 : Shape := ⟨2, ![1024, 1]⟩
abbrev S32768 : Shape := ⟨1, ![32768]⟩
abbrev S1x32768 : Shape := ⟨2, ![1, 32768]⟩
abbrev S1024x32768 : Shape := ⟨2, ![1024, 32768]⟩
abbrev S8x1024x32768 : Shape := ⟨3, ![8, 1024, 32768]⟩
abbrev S1x1024x32768 : Shape := ⟨3, ![1, 1024, 32768]⟩
abbrev S8x1024 : Shape := ⟨2, ![8, 1024]⟩
abbrev S8x1024x1 : Shape := ⟨3, ![8, 1024, 1]⟩
abbrev S1x1024x1 : Shape := ⟨3, ![1, 1024, 1]⟩
abbrev S8x128x1024 : Shape := ⟨3, ![8, 128, 1024]⟩

abbrev nBuf : Space → Nat
  | .hbm => 142
  | .vmem => 0
  | .smem => 0
  | _ => 0

abbrev hbmTy0_0 (i : Nat) : BufTy := match i % 128 with
  | 0 => ⟨S1024x1024, .bf16⟩
  | 1 => ⟨S1024x1024, .bf16⟩
  | 2 => ⟨S32768x8x128, .bf16⟩
  | 3 => ⟨S32768x8x128, .bf16⟩
  | 4 => ⟨S1024x1024, .bf16⟩
  | 5 => ⟨S1024x1024, .f32⟩
  | 6 => ⟨S1024x1024, .f32⟩
  | 7 => ⟨S32768x8x128, .f32⟩
  | 8 => ⟨S32768x8x128, .f32⟩
  | 9 => ⟨S1024x1024, .f32⟩
  | 10 => ⟨S1024x1024, .f32⟩
  | 11 => ⟨S1024x8x128, .f32⟩
  | 12 => ⟨S1024, .i32⟩
  | 13 => ⟨S_, .i32⟩
  | 14 => ⟨S_, .i32⟩
  | 15 => ⟨S1024, .i32⟩
  | 16 => ⟨S1024, .i32⟩
  | 17 => ⟨S1024, .i32⟩
  | 18 => ⟨S_, .i32⟩
  | 19 => ⟨S1024, .i32⟩
  | 20 => ⟨S1024, .i1⟩
  | 21 => ⟨S1024, .i32⟩
  | 22 => ⟨S1024, .i32⟩
  | 23 => ⟨S_, .i32⟩
  | 24 => ⟨S1024, .i32⟩
  | 25 => ⟨S1024, .i1⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S32768, .i32⟩
  | 33 => ⟨S_, .i32⟩
  | 34 => ⟨S_, .i32⟩
  | 35 => ⟨S32768, .i32⟩
  | 36 => ⟨S32768, .i32⟩
  | 37 => ⟨S32768, .i32⟩
  | 38 => ⟨S_, .i32⟩
  | 39 => ⟨S32768, .i32⟩
  | 40 => ⟨S32768, .i1⟩
  | 41 => ⟨S32768, .i32⟩
  | 42 => ⟨S32768, .i32⟩
  | 43 => ⟨S_, .i32⟩
  | 44 => ⟨S32768, .i32⟩
  | 45 => ⟨S32768, .i1⟩
  | 46 => ⟨S32768, .i1⟩
  | 47 => ⟨S_, .i32⟩
  | 48 => ⟨S32768, .i32⟩
  | 49 => ⟨S32768, .i32⟩
  | 50 => ⟨S32768, .i32⟩
  | 51 => ⟨S1x32768, .i32⟩
  | 52 => ⟨S1024x32768, .i32⟩
  | 53 => ⟨S1024x32768, .i32⟩
  | 54 => ⟨S1024x32768, .i1⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S1x32768, .i32⟩
  | 62 => ⟨S1x32768, .i32⟩
  | 63 => ⟨S_, .i32⟩
  | 64 => ⟨S1x32768, .i32⟩
  | 65 => ⟨S1x32768, .i1⟩
  | 66 => ⟨S_, .i32⟩
  | 67 => ⟨S1x32768, .i32⟩
  | 68 => ⟨S1x32768, .i1⟩
  | 69 => ⟨S_, .i32⟩
  | 70 => ⟨S_, .i1⟩
  | 71 => ⟨S1x32768, .i1⟩
  | 72 => ⟨S1x32768, .i1⟩
  | 73 => ⟨S1x32768, .i1⟩
  | 74 => ⟨S1x32768, .i32⟩
  | 75 => ⟨S1x32768, .i32⟩
  | 76 => ⟨S1x32768, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S1024x1, .i32⟩
  | 84 => ⟨S1024x1, .i32⟩
  | 85 => ⟨S_, .i32⟩
  | 86 => ⟨S1024x1, .i32⟩
  | 87 => ⟨S1024x1, .i1⟩
  | 88 => ⟨S_, .i32⟩
  | 89 => ⟨S1024x1, .i32⟩
  | 90 => ⟨S1024x1, .i1⟩
  | 91 => ⟨S_, .i32⟩
  | 92 => ⟨S_, .i1⟩
  | 93 => ⟨S1024x1, .i1⟩
  | 94 => ⟨S1024x1, .i1⟩
  | 95 => ⟨S1024x1, .i1⟩
  | 96 => ⟨S1024x1, .i32⟩
  | 97 => ⟨S1024x1, .i32⟩
  | 98 => ⟨S1024x1, .i32⟩
  | 99 => ⟨S1024x32768, .i32⟩
  | 100 => ⟨S1024x32768, .i32⟩
  | 101 => ⟨S1024x32768, .i1⟩
  | 102 => ⟨S1024x32768, .i1⟩
  | 103 => ⟨S8x1024x32768, .f32⟩
  | 104 => ⟨S_, .f32⟩
  | 105 => ⟨S8x1024x32768, .f32⟩
  | 106 => ⟨S8x1024x32768, .f32⟩
  | 107 => ⟨S1x1024x32768, .i1⟩
  | 108 => ⟨S_, .f32⟩
  | 109 => ⟨S_, .f32⟩
  | 110 => ⟨S8x1024x32768, .i1⟩
  | 111 => ⟨S8x1024x32768, .f32⟩
  | 112 => ⟨S8x1024x32768, .f32⟩
  | 113 => ⟨S_, .f32⟩
  | 114 => ⟨S8x1024, .f32⟩
  | 115 => ⟨S8x1024x1, .f32⟩
  | 116 => ⟨S8x1024x32768, .f32⟩
  | 117 => ⟨S8x1024x32768, .f32⟩
  | 118 => ⟨S8x1024x32768, .f32⟩
  | 119 => ⟨S_, .i1⟩
  | 120 => ⟨S1024, .i1⟩
  | 121 => ⟨S1x1024x1, .i1⟩
  | 122 => ⟨S_, .f32⟩
  | 123 => ⟨S8x1024, .f32⟩
  | 124 => ⟨S8x1024x1, .f32⟩
  | 125 => ⟨S_, .f32⟩
  | 126 => ⟨S_, .f32⟩
  | 127 => ⟨S8x1024x1, .i1⟩
  | _ => ⟨S1024x1024, .bf16⟩

abbrev hbmTy0_1 (i : Nat) : BufTy := match i % 128 with
  | 0 => ⟨S8x1024x1, .f32⟩
  | 1 => ⟨S8x1024x1, .f32⟩
  | 2 => ⟨S8x1024x32768, .f32⟩
  | 3 => ⟨S8x1024x32768, .f32⟩
  | 4 => ⟨S1x1024x1, .i1⟩
  | 5 => ⟨S_, .f32⟩
  | 6 => ⟨S_, .f32⟩
  | 7 => ⟨S8x1024x32768, .i1⟩
  | 8 => ⟨S8x1024x32768, .f32⟩
  | 9 => ⟨S8x1024x32768, .f32⟩
  | 10 => ⟨S8x128x1024, .f32⟩
  | 11 => ⟨S1024x8x128, .f32⟩
  | 12 => ⟨S1024x1024, .f32⟩
  | 13 => ⟨S1024x1024, .f32⟩
  | _ => ⟨S1024x1024, .bf16⟩

abbrev hbmTy (i : Nat) : BufTy := match i / 128 with
  | 0 => hbmTy0_0 i
  | 1 => hbmTy0_1 i
  | _ => ⟨S1024x1024, .bf16⟩

abbrev bufTy : (tb : Table) → Fin (tcTables nBuf tb) → BufTy
  | .hbm, ⟨i, _⟩ => hbmTy i
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_call2_v0 : Ref sig .tc := ⟨.hbm, 56, rfl⟩
abbrev main_call2_c : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_1 : Ref sig .tc := ⟨.hbm, 63, rfl⟩
abbrev main_call2_v5 : Ref sig .tc := ⟨.hbm, 64, rfl⟩
abbrev main_call2_v6 : Ref sig .tc := ⟨.hbm, 65, rfl⟩
abbrev main_call2_c_2 : Ref sig .tc := ⟨.hbm, 66, rfl⟩
abbrev main_call2_v7 : Ref sig .tc := ⟨.hbm, 67, rfl⟩
abbrev main_call2_v8 : Ref sig .tc := ⟨.hbm, 68, rfl⟩
abbrev main_call2_c_3 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_v12 : Ref sig .tc := ⟨.hbm, 73, rfl⟩
abbrev main_call2_v13 : Ref sig .tc := ⟨.hbm, 74, rfl⟩
abbrev main_call2_v14 : Ref sig .tc := ⟨.hbm, 75, rfl⟩
abbrev main_v16 : Ref sig .tc := ⟨.hbm, 76, rfl⟩
abbrev main_c_2 : Ref sig .tc := ⟨.hbm, 77, rfl⟩
abbrev main_call3_v0 : Ref sig .tc := ⟨.hbm, 78, rfl⟩
abbrev main_call3_c : Ref sig .tc := ⟨.hbm, 79, rfl⟩
abbrev main_call3_v1 : Ref sig .tc := ⟨.hbm, 80, rfl⟩
abbrev main_call3_c_0 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_c_1 : Ref sig .tc := ⟨.hbm, 85, rfl⟩
abbrev main_call3_v5 : Ref sig .tc := ⟨.hbm, 86, rfl⟩
abbrev main_call3_v6 : Ref sig .tc := ⟨.hbm, 87, rfl⟩
abbrev main_call3_c_2 : Ref sig .tc := ⟨.hbm, 88, rfl⟩
abbrev main_call3_v7 : Ref sig .tc := ⟨.hbm, 89, rfl⟩
abbrev main_call3_v8 : Ref sig .tc := ⟨.hbm, 90, rfl⟩
abbrev main_call3_c_3 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_v12 : Ref sig .tc := ⟨.hbm, 95, rfl⟩
abbrev main_call3_v13 : Ref sig .tc := ⟨.hbm, 96, rfl⟩
abbrev main_call3_v14 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_cst : Ref sig .tc := ⟨.hbm, 104, rfl⟩
abbrev main_v23 : Ref sig .tc := ⟨.hbm, 105, rfl⟩
abbrev main_v24 : Ref sig .tc := ⟨.hbm, 106, rfl⟩
abbrev main_v25 : Ref sig .tc := ⟨.hbm, 107, rfl⟩
abbrev main_cst_3 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v26 : Ref sig .tc := ⟨.hbm, 112, rfl⟩
abbrev main_cst_4 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_5 : Ref sig .tc := ⟨.hbm, 119, rfl⟩
abbrev main_v32 : Ref sig .tc := ⟨.hbm, 120, rfl⟩
abbrev main_v33 : Ref sig .tc := ⟨.hbm, 121, rfl⟩
abbrev main_cst_6 : Ref sig .tc := ⟨.hbm, 122, rfl⟩
abbrev main_v34 : Ref sig .tc := ⟨.hbm, 123, rfl⟩
abbrev main_v35 : Ref sig .tc := ⟨.hbm, 124, rfl⟩
abbrev main_cst_7 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_v36 : Ref sig .tc := ⟨.hbm, 129, rfl⟩
abbrev main_v37 : Ref sig .tc := ⟨.hbm, 130, rfl⟩
abbrev main_v38 : Ref sig .tc := ⟨.hbm, 131, rfl⟩
abbrev main_v39 : Ref sig .tc := ⟨.hbm, 132, rfl⟩
abbrev main_cst_8 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Segs.lean ====
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's copy, and the exchange's with five duty names. -/
abbrev UU : Type := UR sig nD τ × URounds (GSem nD τ sig) (Fin 5)

local notation "𝕄" => MT nD τ sig Unit (Elt F) ℕ UU ℕ

abbrev 𝒱₀ : Variants := Variants.none

/-- The local part: projections, block permutation and the unnormalised sums. -/
def localProg (d0 : Dev nD) (v2 : BitVec 32) (Kn : BitVec 32 → BitVec 32 → BitVec 32 → BitVec 32 → Prog (TpuEff nD τ sig (Elt F) Λ₀ .tc) PUnit) : Prog (TpuEff nD τ sig (Elt F) Λ₀ .tc) PUnit := do
  k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13
  let v81 : Vec F S64x1024 .bf16 ← k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13
  let v109 : FVec F S64x1024 .bf16 ← k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v81
  let v139 : Vec F S64x8x128 .bf16 ← k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v109
  let v167 : FVec F S64x1024 .bf16 ← k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v139
  let v197 : Vec F S64x8x128 .bf16 ← k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v167
  let v225 : Vec F S64x1024 .bf16 ← k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v197
  k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v225
  let v285 : FVec F S64x1024 .bf16 ← k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13
  let ⟨v315, v316⟩ : Σ' (v315 : FVec F S256x256 .f32), FVec F S256x256 .bf16 ← k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v285
  let v346 : FVec F S256x256 .f32 ← k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v315 v316
  k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v346
  let v408 : FVec F S256x1 .f32 ← k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13
  let ⟨v434, v440⟩ : Σ' (v434 : FVec F S256x256 .f32), FVec F S256x128 .f32 ← k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v408
  let ⟨v468, v469, v470, cst_376⟩ : Σ' (v468 : FVec F S256x256 .f32) (v469 : FVec F S256x256 .bf16) (v470 : Vec F S256x128 .bf16), FVec F S256x128 .f32 ← k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v434 v440
  let v501 : FVec F S256x256 .f32 ← k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v468 v469 v470 cst_376
  let v531 : Vec F S256x128 .bf16 ← k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v501
  let v564 : FVec F S256x1 .f32 ← k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v531
  let v594 : FVec F S256 .f32 ← k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v564
  let ⟨v621, v624⟩ : Σ' (v621 : FVec F S256x256 .f32), FVec F S256x128 .f32 ← k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v594
  let ⟨v655, v656⟩ : Σ' (v655 : FVec F S256x256 .f32), FVec F S256x256 .bf16 ← k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v621 v624
  let v686 : FVec F S256x256 .f32 ← k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v655 v656
  k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v686
  let v748 : FVec F S256x1 .f32 ← k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13
  let ⟨v774, v780⟩ : Σ' (v774 : FVec F S256x256 .f32), FVec F S256x128 .f32 ← k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v748
  let ⟨v808, v809, v810, cst_656⟩ : Σ' (v808 : FVec F S256x256 .f32) (v809 : FVec F S256x256 .bf16) (v810 : Vec F S256x128 .bf16), FVec F S256x128 .f32 ← k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v774 v780
  let ⟨v837, c1_i32_677, v838, v843⟩ : Σ' (v837 : BitVec 32) (c1_i32_677 : BitVec 32) (v838 : BitVec 32), BitVec 32 ← k0_part28 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v2 v808 v809 v810 cst_656
  Kn v837 c1_i32_677 v838 v843

/-- The reduce-scatter, the division and the output projection of the device's own chunk. -/
def rsProg (d0 : Dev nD) (v2 v837 c1_i32_677 v838 v843 : BitVec 32) (Kn : BitVec 32 → Prog (TpuEff nD τ sig (Elt F) Λ₀ .tc) PUnit) : Prog (TpuEff nD τ sig (Elt F) Λ₀ .tc) PUnit := do
  let ⟨v866, v877⟩ : Σ' (v866 : BitVec 32), BitVec 32 ← k0_part29 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v837 c1_i32_677 v838 v843
  let ⟨c8_i32_727, v907, v909⟩ : Σ' (c8_i32_727 : BitVec 32) (v907 : BitVec 32), BitVec 32 ← k0_part30 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v866 v877
  let ⟨v935, v946, c1_i32_750⟩ : Σ' (v935 : BitVec 32) (v946 : BitVec 32), BitVec 32 ← k0_part31 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v866 c8_i32_727 v907 v909
  let c2_i32_776 : BitVec 32 ← k0_part32 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v935 v946 c1_i32_750
  let ⟨v1004, c2_i32_796⟩ : Σ' (v1004 : BitVec 32), BitVec 32 ← k0_part33 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v935 c2_i32_776
  let ⟨v1039, v1042⟩ : Σ' (v1039 : FVec F S128x1152 .f32), Vec F S128x1152 .f32 ← k0_part34 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v1004 c2_i32_796
  let ⟨v1073, v1080, v1081⟩ : Σ' (v1073 : BitVec 32) (v1080 : FVec F S64x1152 .bf16), Vec F S64x1152 .bf16 ← k0_part35 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v1004 v1039 v1042
  let ⟨v1108, c32_i32_871⟩ : Σ' (v1108 : FVec F S64x1152 .f32), BitVec 32 ← k0_part36 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v1073 v1080 v1081
  let ⟨v1142, v1148⟩ : Σ' (v1142 : BitVec 32), Vec F S32x1152 .f32 ← k0_part37 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v1073 v1108 c32_i32_871
  let v1174 : Vec F S32x1152 .f32 ← k0_part38 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v1142 v1148
  let ⟨v1209, v1213⟩ : Σ' (v1209 : Vec F S32x128 .f32), FVec F S32x128 .f32 ← k0_part39 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1142 v1174
  let v1251 : FVec F S32x128 .bf16 ← k0_part40 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1142 v1209 v1213
  k0_part41 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1142 v1251
  Kn v1142

/-- The all-gather with its copies into the result. -/
def agProg (d0 : Dev nD) (v2 v1142 : BitVec 32) : Prog (TpuEff nD τ sig (Elt F) Λ₀ .tc) PUnit := do
  let ⟨v1290, v1299, v1310, v1324⟩ : Σ' (v1290 : BitVec 32) (v1299 : BitVec 32) (v1310 : BitVec 32), BitVec 1 ← k0_part42 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v1142
  let v1362 : FVec F S32x1024 .f32 ← k0_part43 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1299 v1310 v1324
  let v1400 : BitVec 32 ← k0_part44 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1142 v1290 v1362
  let ⟨v1419, v1422, v1431, v1433, v1434, v1435, v1436⟩ : Σ' (v1419 : BitVec 32) (v1422 : BitVec 32) (v1431 : BitVec 32) (v1433 : BitVec 32) (v1434 : BitVec 32) (v1435 : BitVec 1), BitVec 1 ← k0_part45 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v1142 v1400
  let ⟨v1478, c2_i32_1080⟩ : Σ' (v1478 : BitVec 32), BitVec 32 ← k0_part46 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v1431 v1433 v1434 v1435 v1436
  let ⟨v1503, v1514, v1515, c0_i32_1101⟩ : Σ' (v1503 : BitVec 32) (v1514 : BitVec 1) (v1515 : BitVec 32), BitVec 32 ← k0_part47 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1419 v1422 v1431 v1478 c2_i32_1080
  let ⟨v1533, v1551, v1554⟩ : Σ' (v1533 : BitVec 32) (v1551 : BitVec 32), BitVec 32 ← k0_part48 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v2 v1419 v1503 v1514 v1515 c0_i32_1101
  let ⟨v1563, v1591, c8_i32_1144⟩ : Σ' (v1563 : BitVec 32) (v1591 : BitVec 32), BitVec 32 ← k0_part49 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1533 v1554
  let ⟨v1629, c8_i32_1163, v1630⟩ : Σ' (v1629 : BitVec 32) (c8_i32_1163 : BitVec 32), BitVec 1 ← k0_part50 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1533 v1563 v1591 c8_i32_1144
  let ⟨v1657, v1658, v1672⟩ : Σ' (v1657 : BitVec 32) (v1658 : BitVec 32), BitVec 1 ← k0_part51 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v1629 c8_i32_1163 v1630
  let ⟨c4_i32_1201, v1701, v1706, v1708⟩ : Σ' (c4_i32_1201 : BitVec 32) (v1701 : BitVec 32) (v1706 : BitVec 32), BitVec 32 ← k0_part52 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1551 v1554 v1629 v1657 v1658 v1672
  let ⟨v1731, v1748, c8_i32_1224⟩ : Σ' (v1731 : BitVec 32) (v1748 : BitVec 32), BitVec 32 ← k0_part53 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v1551 c4_i32_1201 v1701 v1706 v1708
  let ⟨v1749, v1752, v1761, v1772, v1783, v1785⟩ : Σ' (v1749 : BitVec 32) (v1752 : BitVec 32) (v1761 : BitVec 32) (v1772 : BitVec 32) (v1783 : BitVec 1), BitVec 1 ← k0_part54 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v1731 v1748 c8_i32_1224
  let v1824 : FVec F S32x1024 .f32 ← k0_part55 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1761 v1772 v1783 v1785
  let ⟨v1827, v1855, c8_i32_1282, v1856, v1861, v1863, v1864⟩ : Σ' (v1827 : BitVec 32) (v1855 : BitVec 32) (c8_i32_1282 : BitVec 32) (v1856 : BitVec 32) (v1861 : BitVec 32) (v1863 : BitVec 32), BitVec 1 ← k0_part56 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1731 v1824
  let ⟨v1893, v1903⟩ : Σ' (v1893 : BitVec 32), BitVec 32 ← k0_part57 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1731 v1827 v1855 c8_i32_1282 v1856 v1861 v1863 v1864
  let ⟨v1940, v1942, v1943, c0_i32_1326⟩ : Σ' (v1940 : BitVec 32) (v1942 : BitVec 32) (v1943 : BitVec 32), BitVec 32 ← k0_part58 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 v1893 v1903
  let ⟨v1959, v1970, v1981, v1983⟩ : Σ' (v1959 : BitVec 32) (v1970 : BitVec 32) (v1981 : BitVec 1), BitVec 1 ← k0_part59 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1731 v1893 v1940 v1942 v1943 c0_i32_1326
  let v2022 : FVec F S32x1024 .f32 ← k0_part60 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v1959 v1970 v1981 v1983
  k0_part105 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 d0 v2 v1749 v1752 v2022
  let v3723 : Memref sig .tc .vmem S128x1024 .bf16 := (Memref.whole cc0_scratch9).slice (Rect.unit (s := S1024x1024) (k0_off34 d0) S128x1024.size (k0_off34_inb d0)) (fun _ => rfl)
  let v3720 : DmaSems sig S1 := cc0_scratch12.slice (Rect.unit (s := S5) ![2] S1.size inb_S5_S1_2)
  let v3721 : DmaSems sig S_ := v3720.squeeze S_ squeezes_S1_S_
  let v3722 : Memref sig .tc .vmem S128x1024 .bf16 := (Memref.whole cc0_scratch9).slice (Rect.unit (s := S1024x1024) (k0_off34 d0) S128x1024.size (k0_off34_inb d0)) (fun _ => rfl)
  Prog.lift (.waitDma2 v3721.sem v3723 v3722 ((Memref.isWhole_whole cc0_scratch9).wordExact_slice rfl _ (k0_off34_wordsbf16 d0)) ((Memref.isWhole_whole cc0_scratch9).wordExact_slice rfl _ (k0_off34_wordsbf16 d0)))
  let c3_i32_2225 : BitVec 32 := 3#32
  let c3_i32_2226 : BitVec 32 := 3#32
  let c0_i32_2227 : BitVec 32 := 0#32
  let v3724 : DmaSems sig S1 := cc0_scratch12.slice (Rect.unit (s := S5) ![3] S1.size inb_S5_S1_3)
  let v3725 : DmaSems sig S_ := v3724.squeeze S_ squeezes_S1_S_
  let c0_i32_2228 : BitVec 32 := 0#32
  let v3726 : Memref sig .tc .vmem S256x1024 .bf16 := (Memref.whole cc0_scratch9).slice (Rect.unit (s := S1024x1024) (k0_off37 d0) S256x1024.size (k0_off37_inb d0)) (fun _ => rfl)
  let c0_i32_2229 : BitVec 32 := 0#32
  let v3727 : Memref sig .tc .vmem S256x1024 .bf16 := (Memref.whole cc0_scratch9).slice (Rect.unit (s := S1024x1024) (k0_off37 d0) S256x1024.size (k0_off37_inb d0)) (fun _ => rfl)
  Prog.lift (.waitDma2 v3725.sem v3727 v3726 ((Memref.isWhole_whole cc0_scratch9).wordExact_slice rfl _ (k0_off37_wordsbf16 d0)) ((Memref.isWhole_whole cc0_scratch9).wordExact_slice rfl _ (k0_off37_wordsbf16 d0)))
  let c4_i32_2230 : BitVec 32 := 4#32
  let c4_i32_2231 : BitVec 32 := 4#32
  let c0_i32_2232 : BitVec 32 := 0#32
  let v3728 : DmaSems sig S1 := cc0_scratch12.slice (Rect.unit (s := S5) ![4] S1.size inb_S5_S1_4)
  let v3729 : DmaSems sig S_ := v3728.squeeze S_ squeezes_S1_S_
  let c0_i32_2233 : BitVec 32 := 0#32
  let v3730 : Memref sig .tc .vmem S512x1024 .bf16 := (Memref.whole cc0_scratch9).slice (Rect.unit (s := S1024x1024) (k0_off40 d0) S512x1024.size (k0_off40_inb d0)) (fun _ => rfl)
  let c0_i32_2234 : BitVec 32 := 0#32
  let v3731 : Memref sig .tc .vmem S512x1024 .bf16 := (Memref.whole cc0_scratch9).slice (Rect.unit (s := S1024x1024) (k0_off40 d0) S512x1024.size (k0_off40_inb d0)) (fun _ => rfl)
  Prog.lift (.waitDma2 v3729.sem v3731 v3730 ((Memref.isWhole_whole cc0_scratch9).wordExact_slice rfl _ (k0_off40_wordsbf16 d0)) ((Memref.isWhole_whole cc0_scratch9).wordExact_slice rfl _ (k0_off40_wordsbf16 d0)))
  pure ⟨⟩

/-- The kernel's body is these three after the handshake. -/
theorem body_eq : cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 =
    (do let ⟨d0, v2⟩ : Σ' (d0 : Dev nD), BitVec 32 ← k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13
        localProg d0 v2 fun a b d e => rsProg d0 v2 a b d e fun v => agProg d0 v2 v) := by
  unfold cc0_body k0_part104 localProg rsProg agProg
  simp only [Prog.bind_assoc, Prog.pure_eq_ret, Prog.bind_ret]

end Cert.KernelIdealProof

end
-- ==== Proof.Local.lean ====
module

public import proofs.«01_k».proof.Proof.Segs

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Memref `M`'s buffer on core `c`, whole, at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

def localRun (c : Dev nD) (fx : Buf (Elt F) ((c : Thread nD τ).loc cc0_stg0_0)) (fw : Buf (Elt F) ((c : Thread nD τ).loc cc0_stg1_0))
    (fk : Buf (Elt F) ((c : Thread nD τ).loc cc0_stg2_0)) (fv : Buf (Elt F) ((c : Thread nD τ).loc cc0_stg3_0)) :
    { E : Buf (Elt F) ((c : Thread nD τ).loc cc0_scratch5) //
      ∀ (v2 : BitVec 32) (Kn : BitVec 32 → BitVec 32 → BitVec 32 → BitVec 32 → Prog (TpuEff nD τ sig (Elt F) Λ₀ .tc) PUnit) (Q : PUnit → sProp 𝕄) f0 f1 f2 f3 f5,
        iprop(pt c (Memref.whole cc0_stg0_0) fx ∗ pt c (Memref.whole cc0_stg1_0) fw ∗ pt c (Memref.whole cc0_stg2_0) fk ∗ pt c (Memref.whole cc0_stg3_0) fv
          ∗ pt c (Memref.whole cc0_scratch0) f0 ∗ pt c (Memref.whole cc0_scratch1) f1 ∗ pt c (Memref.whole cc0_scratch2) f2 ∗ pt c (Memref.whole cc0_scratch3) f3 ∗ pt c (Memref.whole cc0_scratch5) f5
          ∗ (∀ a b d e, (pt c (Memref.whole cc0_stg0_0) fx ∗ pt c (Memref.whole cc0_stg1_0) fw ∗ pt c (Memref.whole cc0_stg2_0) fk ∗ pt c (Memref.whole cc0_stg3_0) fv
            ∗ pt c (Memref.whole cc0_scratch5) E ∗ (∃ g, pt c (Memref.whole cc0_scratch0) g) ∗ (∃ g, pt c (Memref.whole cc0_scratch1) g) ∗ (∃ g, pt c (Memref.whole cc0_scratch2) g) ∗ (∃ g, pt c (Memref.whole cc0_scratch3) g))
              -∗ wp frame (wpE (defs₀ (F := F)) 𝒱₀ (c : Thread nD τ) none) Set.univ (Kn a b d e) Q))
        ⊢ wp frame (wpE (defs₀ (F := F)) 𝒱₀ (c : Thread nD τ) none) Set.univ (localProg c v2 Kn) Q } := by
  refine ⟨?_, fun v2 Kn Q f0 f1 f2 f3 f5 => ?run⟩
  case run =>
    unfold localProg
    iintro ⟨Hx, Hw, Hk, Hv, H0, H1, H2, H3, H5, HK⟩
    sl_exec!
    iapply HK
    isplitl [Hx]; · iexact Hx
    isplitl [Hw]; · iexact Hw
    isplitl [Hk]; · iexact Hk
    isplitl [Hv]; · iexact Hv
    isplitl [H5]; · iexact H5
    isplitl [H0]; · iexists _; iexact H0
    isplitl [H1]; · iexists _; iexact H1
    isplitl [H2]; · iexists _; iexact H2
    iexists _; iexact H3

end Cert.KernelIdealProof

end
-- ==== Proof.Cells.lean ====
module

public import proofs.«01_k».proof.Proof.Local

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The hypercube: partners, row groups, and the closed forms of the kernel's own index arithmetic -/

/-- The bit of the device number that round `k` flips. -/
def msk : ℕ → ℕ | 0 => 1 | 1 => 8 | 2 => 2 | 3 => 4 | _ => 16

set_option backward.proofsInPublic true in
/-- The partner of device `c` in round `k`. -/
def peer (k : ℕ) (c : Dev nD) : Dev nD := ⟨(c.val ^^^ msk k) % 32, Nat.mod_lt _ (by decide)⟩

/-- The row group (of 32 rows) that device `c` ends up owning. -/
def sg (c : Dev nD) : ℕ := 16 * (c.val % 2) + 8 * (c.val / 8 % 2) + 4 * (c.val / 2 % 2) + 2 * (c.val / 4 % 2) + c.val / 16 % 2

set_option backward.proofsInPublic true in
/-- The device that owns row group `s`. -/
def sgInv (s : ℕ) : Dev nD := ⟨(s / 16 % 2 + 2 * (s / 4 % 2) + 4 * (s / 2 % 2) + 8 * (s / 8 % 2) + 16 * (s % 2)) % 32, Nat.mod_lt _ (by decide)⟩

theorem sgInv_sg (c : Dev nD) : sgInv (sg c) = c := by revert c; decide +kernel
theorem sg_lt (c : Dev nD) : sg c < 32 := by revert c; decide +kernel
theorem sg_sgInv : ∀ s : Fin 32, sg (sgInv s.val) = s.val := by decide +kernel
theorem peer_peer5 : ∀ (k : Fin 5) (c : Dev nD), peer k.val (peer k.val c) = c := by decide +kernel

/-- Rows exchanged in round `k` of the reduction, and where they land. -/
def nr (k : ℕ) : ℕ := 512 / 2 ^ k
def ofr (k : ℕ) : ℕ := 1024 - 2 * nr k

/-- The partner keeps the rows this device sends, and the two halves make up what both held. -/
theorem keep_facts : ∀ (k : Fin 5) (c : Dev nD), 32 * sg (peer k.val c) / nr k.val ≠ 32 * sg c / nr k.val
    ∧ 32 * sg (peer k.val c) / (2 * nr k.val) = 32 * sg c / (2 * nr k.val) := by decide +kernel

/-- In gathering step `j` the partner's block is the sibling of this device's. -/
theorem block_facts : ∀ (j : Fin 5) (c : Dev nD), sg (peer (4 - j.val) c) / 2 ^ j.val = (sg c / 2 ^ j.val) ^^^ 1 := by decide +kernel

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 4 c := by revert c; decide +kernel
theorem dev6_eq (c : Dev nD) : (⟨k0_dev6 c, k0_dev6_lt c⟩ : Dev nD) = peer 0 c := by revert c; decide +kernel
theorem dev7_eq (c : Dev nD) : (⟨k0_dev7 c, k0_dev7_lt c⟩ : Dev nD) = peer 1 c := by revert c; decide +kernel
theorem dev8_eq (c : Dev nD) : (⟨k0_dev8 c, k0_dev8_lt c⟩ : Dev nD) = peer 2 c := by revert c; decide +kernel
theorem dev9_eq (c : Dev nD) : (⟨k0_dev9 c, k0_dev9_lt c⟩ : Dev nD) = peer 3 c := by revert c; decide +kernel
theorem dev10_eq (c : Dev nD) : (⟨k0_dev10 c, k0_dev10_lt c⟩ : Dev nD) = peer 4 c := by revert c; decide +kernel
theorem dev11_eq (c : Dev nD) : (⟨k0_dev11 c, k0_dev11_lt c⟩ : Dev nD) = peer 4 c := by revert c; decide +kernel
theorem dev12_eq (c : Dev nD) : (⟨k0_dev12 c, k0_dev12_lt c⟩ : Dev nD) = peer 3 c := by revert c; decide +kernel
theorem dev13_eq (c : Dev nD) : (⟨k0_dev13 c, k0_dev13_lt c⟩ : Dev nD) = peer 2 c := by revert c; decide +kernel
theorem dev14_eq (c : Dev nD) : (⟨k0_dev14 c, k0_dev14_lt c⟩ : Dev nD) = peer 1 c := by revert c; decide +kernel
theorem dev15_eq (c : Dev nD) : (⟨k0_dev15 c, k0_dev15_lt c⟩ : Dev nD) = peer 0 c := by revert c; decide +kernel

theorem off1_eq (c : Dev nD) : k0_off1 c = ![nr 0 * (32 * sg (peer 0 c) / nr 0), 0] := by revert c; decide +kernel
theorem off2_eq (c : Dev nD) : k0_off2 c = ![nr 0 * (32 * sg c / nr 0), 0] := by revert c; decide +kernel
theorem off3_eq (c : Dev nD) : k0_off3 c = ![nr 1 * (32 * sg (peer 1 c) / nr 1), 0] := by revert c; decide +kernel
theorem off4_eq (c : Dev nD) : k0_off4 c = ![nr 1 * (32 * sg c / nr 1), 0] := by revert c; decide +kernel
theorem off5_eq (c : Dev nD) : k0_off5 c = ![nr 2 * (32 * sg (peer 2 c) / nr 2), 0] := by revert c; decide +kernel
theorem off6_eq (c : Dev nD) : k0_off6 c = ![nr 2 * (32 * sg c / nr 2), 0] := by revert c; decide +kernel
theorem off7_eq (c : Dev nD) : k0_off7 c = ![nr 3 * (32 * sg (peer 3 c) / nr 3), 0] := by revert c; decide +kernel
theorem off8_eq (c : Dev nD) : k0_off8 c = ![nr 3 * (32 * sg c / nr 3), 0] := by revert c; decide +kernel
theorem off9_eq (c : Dev nD) : k0_off9 c = ![nr 4 * (32 * sg (peer 4 c) / nr 4), 0] := by revert c; decide +kernel
theorem off10_eq (c : Dev nD) : k0_off10 c = ![nr 4 * (32 * sg c / nr 4), 0] := by revert c; decide +kernel
theorem off11_eq (c : Dev nD) : k0_off11 c = ![32 * sg c, 0] := by revert c; decide +kernel
theorem off12_eq (c : Dev nD) : k0_off12 c = ![32 * sg c, 1024] := by revert c; decide +kernel
theorem off13_eq (c : Dev nD) : k0_off13 c = ![32 * sg c, 128] := by revert c; decide +kernel
theorem off14_eq (c : Dev nD) : k0_off14 c = ![32 * sg c, 1025] := by revert c; decide +kernel
theorem off15_eq (c : Dev nD) : k0_off15 c = ![32 * sg c, 256] := by revert c; decide +kernel
theorem off16_eq (c : Dev nD) : k0_off16 c = ![32 * sg c, 1026] := by revert c; decide +kernel
theorem off17_eq (c : Dev nD) : k0_off17 c = ![32 * sg c, 384] := by revert c; decide +kernel
theorem off18_eq (c : Dev nD) : k0_off18 c = ![32 * sg c, 1027] := by revert c; decide +kernel
theorem off19_eq (c : Dev nD) : k0_off19 c = ![32 * sg c, 512] := by revert c; decide +kernel
theorem off20_eq (c : Dev nD) : k0_off20 c = ![32 * sg c, 1028] := by revert c; decide +kernel
theorem off21_eq (c : Dev nD) : k0_off21 c = ![32 * sg c, 640] := by revert c; decide +kernel
theorem off22_eq (c : Dev nD) : k0_off22 c = ![32 * sg c, 1029] := by revert c; decide +kernel
theorem off23_eq (c : Dev nD) : k0_off23 c = ![32 * sg c, 768] := by revert c; decide +kernel
theorem off24_eq (c : Dev nD) : k0_off24 c = ![32 * sg c, 1030] := by revert c; decide +kernel
theorem off25_eq (c : Dev nD) : k0_off25 c = ![32 * sg c, 896] := by revert c; decide +kernel
theorem off26_eq (c : Dev nD) : k0_off26 c = ![32 * sg c, 1031] := by revert c; decide +kernel
theorem off27_eq (c : Dev nD) : k0_off27 c = ![32 * sg c, 0] := by revert c; decide +kernel
theorem off28_eq (c : Dev nD) : k0_off28 c = ![32 * 2 ^ 0 * (sg c / 2 ^ 0), 0] := by revert c; decide +kernel
theorem off31_eq (c : Dev nD) : k0_off31 c = ![32 * 2 ^ 1 * (sg c / 2 ^ 1), 0] := by revert c; decide +kernel
theorem off34_eq (c : Dev nD) : k0_off34 c = ![32 * 2 ^ 2 * (sg c / 2 ^ 2), 0] := by revert c; decide +kernel
theorem off37_eq (c : Dev nD) : k0_off37 c = ![32 * 2 ^ 3 * (sg c / 2 ^ 3), 0] := by revert c; decide +kernel
theorem off40_eq (c : Dev nD) : k0_off40 c = ![32 * 2 ^ 4 * (sg c / 2 ^ 4), 0] := by revert c; decide +kernel

/-- Where row group `h` of the permuted rows goes in the result. -/
def orow (h : ℕ) : ℕ := (4 * (h % 8 / 2) + h / 8) * 64 + h % 2 * 32

/-- The `i`-th row group of the sibling block of gathering step `j`. -/
def sib (c : Dev nD) (j i : ℕ) : ℕ := 2 ^ j * (sg c / 2 ^ j ^^^ 1) + i

theorem off29_eq (c : Dev nD) : k0_off29 c = ![32 * sg c, 0] := by revert c; decide +kernel
theorem off30_eq (c : Dev nD) : k0_off30 c = ![orow (sg c), 0] := by revert c; decide +kernel
theorem off32_eq (c : Dev nD) : k0_off32 c = ![32 * sib c 0 0, 0] := by revert c; decide +kernel
theorem off33_eq (c : Dev nD) : k0_off33 c = ![orow (sib c 0 0), 0] := by revert c; decide +kernel
theorem off35_eq (c : Dev nD) : ∀ i : Fin 2, k0_off35 c (BitVec.ofNat 32 i.val) = ![32 * sib c 1 i.val, 0] := by revert c; decide +kernel
theorem off36_eq (c : Dev nD) : ∀ i : Fin 2, k0_off36 c (BitVec.ofNat 32 i.val) = ![orow (sib c 1 i.val), 0] := by revert c; decide +kernel
theorem off38_eq (c : Dev nD) : ∀ i : Fin 4, k0_off38 c (BitVec.ofNat 32 i.val) = ![32 * sib c 2 i.val, 0] := by revert c; decide +kernel
theorem off39_eq (c : Dev nD) : ∀ i : Fin 4, k0_off39 c (BitVec.ofNat 32 i.val) = ![orow (sib c 2 i.val), 0] := by revert c; decide +kernel
theorem off41_eq (c : Dev nD) : ∀ i : Fin 8, k0_off41 c (BitVec.ofNat 32 i.val) = ![32 * sib c 3 i.val, 0] := by revert c; decide +kernel
theorem off42_eq (c : Dev nD) : ∀ i : Fin 8, k0_off42 c (BitVec.ofNat 32 i.val) = ![orow (sib c 3 i.val), 0] := by revert c; decide +kernel
theorem off43_eq (c : Dev nD) : ∀ i : Fin 16, k0_off43 c (BitVec.ofNat 32 i.val) = ![32 * sib c 4 i.val, 0] := by revert c; decide +kernel
theorem off44_eq (c : Dev nD) : ∀ i : Fin 16, k0_off44 c (BitVec.ofNat 32 i.val) = ![orow (sib c 4 i.val), 0] := by revert c; decide +kernel

/-! ## Semaphores and cells -/

/-- The runtime's barrier semaphore. -/
abbrev barS : Sem sig := (SemArray.scalar (sig.barrier 0 rfl) : Sems sig S_).sem

set_option backward.proofsInPublic true in
/-- The kernel's transfer semaphores: reduction sends 0–4, reduction arrivals 5–9, gathering sends 10–14, gathering arrivals 15–19. -/
abbrev dsem (i : Fin 20) : DmaSem sig := ⟨6 + i.val, by have := i.isLt; show 6 + i.val < 26; omega⟩

abbrev osem (i : Fin 20) : SemLoc sig := .dma (dsem i)
abbrev csem (i : Fin 21) : SemLoc sig := Fin.cases (.reg barS) osem i

abbrev barCell (c : Dev nD) : GSem nD τ sig := ((c : Thread nD τ), .reg barS)
abbrev dcell (i : Fin 20) (c : Dev nD) : GSem nD τ sig := ((c : Thread nD τ), .dma (dsem i))
abbrev kcell (ck : Dev nD × Fin 21) : GSem nD τ sig := ((ck.1 : Thread nD τ), csem ck.2)

/-- What a transfer credits. -/
def amt (i : Fin 20) : ℕ := if i.val < 10 then 72 * nr (i.val % 5) else 2048 * 2 ^ (i.val % 5)

theorem amt_pos : ∀ i : Fin 20, 0 < amt i := by decide

/-! ## Rows -/

/-- Rows `[lo, lo + n)` of a matrix. -/
def rowsF {d : Fin 2 → ℕ} (lo n : ℕ) : Finset (⟨2, d⟩ : Shape).Idx :=
  Finset.univ.filter fun i => lo ≤ (i (0 : Fin 2)).val ∧ (i (0 : Fin 2)).val < lo + n

theorem mem_rowsF {d : Fin 2 → ℕ} {lo n : ℕ} {i : (⟨2, d⟩ : Shape).Idx} : i ∈ rowsF lo n ↔ lo ≤ (i (0 : Fin 2)).val ∧ (i (0 : Fin 2)).val < lo + n := by
  unfold rowsF; rw [Finset.mem_filter]; exact ⟨fun h => h.2, fun h => ⟨Finset.mem_univ _, h⟩⟩

/-- A rectangle of whole rows. -/
theorem rect_rows {d : Fin 2 → ℕ} {off size : Fin 2 → ℕ} {inb : ∀ a : Fin 2, off a + size a ≤ d a} {lo n : ℕ}
    (ho : off = ![lo, 0]) (hs : size = ![n, d 1]) : (Rect.unit (s := ⟨2, d⟩) off size inb).set = rowsF lo n := by
  subst ho hs
  ext i
  rw [Rect.mem_set_unit, mem_rowsF]
  refine ⟨fun h => h 0, fun h a => ?_⟩
  fin_cases a
  · exact h
  · exact ⟨Nat.zero_le _, by show (i (1 : Fin 2)).val < 0 + d 1; rw [Nat.zero_add]; exact (i (1 : Fin 2)).isLt⟩

/-- Row `r`, column `j` of the accumulator. -/
def ix5 (r j : ℕ) : S1024x1152.Idx := fun a => match a with
  | ⟨0, _⟩ => ⟨r % 1024, Nat.mod_lt _ (by decide)⟩
  | ⟨1, _⟩ => ⟨j % 1152, Nat.mod_lt _ (by decide)⟩
def ix32 (r j : ℕ) : S32x1024.Idx := fun a => match a with
  | ⟨0, _⟩ => ⟨r % 32, Nat.mod_lt _ (by decide)⟩
  | ⟨1, _⟩ => ⟨j % 1024, Nat.mod_lt _ (by decide)⟩
def ix9 (r j : ℕ) : S1024x1024.Idx := fun a => match a with
  | ⟨0, _⟩ => ⟨r % 1024, Nat.mod_lt _ (by decide)⟩
  | ⟨1, _⟩ => ⟨j % 1024, Nat.mod_lt _ (by decide)⟩

/-! ## The values -/

/-- Rounding to sixteen bits, and back. -/
def trS (x : F .f32) : F .bf16 := FloatOps.truncf .bf16 bitsLt_bf16_f32 x
def exS (x : F .bf16) : F .f32 := FloatOps.extf .f32 bitsLt_bf16_f32 x
def adS (x y : F .f32) : F .f32 := FloatOps.addf x y
def dvS (x y : F .f32) : F .f32 := FloatOps.divf x y

/-- The accumulator on every device after `k` reduction rounds. -/
def EE (E0 : Dev nD → Vec F S1024x1152 .f32) : ℕ → Dev nD → Vec F S1024x1152 .f32
  | 0, c => E0 c
  | k + 1, c => fun i => if (i (0 : Fin 2)).val / nr k = 32 * sg c / nr k then adS (EE E0 k c i) (exS (trS (EE E0 k (peer k c) i))) else EE E0 k c i

/-- The normalised context rows of device `c`. -/
def CTX (E0 : Dev nD → Vec F S1024x1152 .f32) (c : Dev nD) : Vec F S32x1024 .bf16 := fun i =>
  trS (dvS (EE E0 5 c (ix5 (32 * sg c + (i (0 : Fin 2)).val) (i (1 : Fin 2)).val)) (EE E0 5 c (ix5 (32 * sg c + (i (0 : Fin 2)).val) (1024 + (i (1 : Fin 2)).val / 128))))

/-- The output rows device `c` computes. -/
def CH (E0 : Dev nD → Vec F S1024x1152 .f32) (WB : Dev nD → Vec F S1024x1024 .bf16) (c : Dev nD) : Vec F S32x1024 .bf16 := k0_pay185 (CTX E0 c) (WB c)

/-- The permuted result, once gathered: the same on every device. -/
def OP (E0 : Dev nD → Vec F S1024x1152 .f32) (WB : Dev nD → Vec F S1024x1024 .bf16) : Vec F S1024x1024 .bf16 := fun i =>
  CH E0 WB (sgInv ((i (0 : Fin 2)).val / 32)) (ix32 (i (0 : Fin 2)).val (i (1 : Fin 2)).val)

/-- The row group whose rows go to result row `r`. -/
def ogrp (r : ℕ) : ℕ := r / 64 % 4 * 8 + r / 256 * 2 + r / 32 % 2
theorem ogrp_orow : ∀ h : Fin 32, ∀ t : Fin 32, ogrp (orow h.val + t.val) = h.val := by decide +kernel
theorem orow_ogrp : ∀ r : Fin 1024, orow (ogrp r.val) + r.val % 32 = r.val := by decide +kernel

/-- The kernel's result. -/
def OUT (E0 : Dev nD → Vec F S1024x1152 .f32) (WB : Dev nD → Vec F S1024x1024 .bf16) : Vec F S1024x1024 .f32 := fun i =>
  exS (OP E0 WB (ix9 (32 * ogrp (i (0 : Fin 2)).val + (i (0 : Fin 2)).val % 32) (i (1 : Fin 2)).val))

end Cert.KernelIdealProof

end
-- ==== Proof.Sched.lean ====
module

public import proofs.«01_k».proof.Proof.Cells

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL
abbrev ER : Emb (URounds (GSem nD τ sig) (Fin 5)) (MT nD τ sig Unit (Elt F) ℕ UU ℕ) := embR

variable (E0 : Dev nD → Vec F S1024x1152 .f32) (WB : Dev nD → Vec F S1024x1024 .bf16)

/-! ## What the cells hand over -/

/-- Device `c`'s rows `[lo, lo+n)` of its send, landing and gathered buffers. -/
abbrev r7 (c : Dev nD) (lo n : ℕ) (f : Vec F S512x1152 .bf16) : sProp 𝕄 :=
  ((c : Thread nD τ).loc cc0_scratch7) ↦[rowsF (d := ![512, 1152]) lo n]{fullShare} f
abbrev r8 (c : Dev nD) (lo n : ℕ) (f : Vec F S992x1152 .bf16) : sProp 𝕄 :=
  ((c : Thread nD τ).loc cc0_scratch8) ↦[rowsF (d := ![992, 1152]) lo n]{fullShare} f
abbrev r9 (c : Dev nD) (lo n : ℕ) (q : PosShare TreeShare) (f : Vec F S1024x1024 .bf16) : sProp 𝕄 :=
  ((c : Thread nD τ).loc cc0_scratch9) ↦[rowsF (d := ![1024, 1024]) lo n]{q} f

/-- First row of device `c`'s block of gathering step `j`. -/
def blo (j : ℕ) (c : Dev nD) : ℕ := 32 * 2 ^ j * (sg c / 2 ^ j)

/-- The share of its block a device keeps while steps before `j` are in flight, and the one step `j` sends. -/
def shL : ℕ → PosShare TreeShare | 0 => fullShare | j + 1 => (shL j).left
def shR (j : ℕ) : PosShare TreeShare := (shL j).right

/-- The landing rows of round `k` hold the partner's rows, rounded. -/
def RP (k : ℕ) (c : Dev nD) (f : Vec F S992x1152 .bf16) : Prop :=
  ∀ i : S992x1152.Idx, ofr k ≤ (i (0 : Fin 2)).val → (i (0 : Fin 2)).val < ofr k + nr k →
    f i = trS (EE E0 k (peer k c) (ix5 (nr k * (32 * sg c / nr k) + ((i (0 : Fin 2)).val - ofr k)) (i (1 : Fin 2)).val))

/-- Partner `k`'s signal hands over where this device may write there: the landing rows of round `k` and the place of
    this device's block of gathering step `4 - k`. -/
def barPay (k : ℕ) (c : Dev nD) : sProp 𝕄 :=
  iprop((∃ f, r8 (peer k c) (ofr k) (nr k) f) ∗ (∃ f, r9 (peer k c) (blo (4 - k) c) (32 * 2 ^ (4 - k)) fullShare f))
def rsS (k : ℕ) (c : Dev nD) : sProp 𝕄 := iprop(∃ f, r7 c 0 (nr k) f)
def rsR (k : ℕ) (c : Dev nD) : sProp 𝕄 := iprop(∃ f, ⌜RP E0 k c f⌝ ∗ r8 c (ofr k) (nr k) f)
def agS (j : ℕ) (c : Dev nD) : sProp 𝕄 := r9 c (blo j c) (32 * 2 ^ j) (shR j) (OP E0 WB)
def agR (j : ℕ) (c : Dev nD) : sProp 𝕄 := r9 c (blo j (peer (4 - j) c)) (32 * 2 ^ j) fullShare (OP E0 WB)

def dpay (i : Fin 20) (c : Dev nD) : sProp 𝕄 :=
  if i.val < 5 then rsS i.val c else if i.val < 10 then rsR E0 (i.val - 5) c
    else if i.val < 15 then agS E0 WB (i.val - 10) c else agR E0 WB (i.val - 15) c

instance barPay_storable (k : ℕ) (c : Dev nD) : BI.Storable (upEmb : UEmb _ 𝕄) (barPay (F := F) k c) := by unfold barPay; infer_instance
instance dpay_storable (i : Fin 20) (c : Dev nD) : BI.Storable (upEmb : UEmb _ 𝕄) (dpay E0 WB i c) := by
  unfold dpay rsS rsR agS agR
  (repeat' split) <;> infer_instance

abbrev iRS (k : Fin 5) : Fin 20 := ⟨k.val, by omega⟩
abbrev iRR (k : Fin 5) : Fin 20 := ⟨5 + k.val, by omega⟩
abbrev iAS (k : Fin 5) : Fin 20 := ⟨10 + k.val, by omega⟩
abbrev iAR (k : Fin 5) : Fin 20 := ⟨15 + k.val, by omega⟩

theorem dpay_RS (k : Fin 5) (c : Dev nD) : dpay E0 WB (iRS k) c = rsS k.val c := by unfold dpay; rw [if_pos k.isLt]
theorem dpay_RR (k : Fin 5) (c : Dev nD) : dpay E0 WB (iRR k) c = rsR E0 k.val c := by
  have := k.isLt
  unfold dpay; rw [if_neg (by show ¬ 5 + k.val < 5; omega), if_pos (by show 5 + k.val < 10; omega), show (iRR k).val - 5 = k.val from by show 5 + k.val - 5 = k.val; omega]
theorem dpay_AS (k : Fin 5) (c : Dev nD) : dpay E0 WB (iAS k) c = agS E0 WB k.val c := by
  have := k.isLt
  unfold dpay; rw [if_neg (by show ¬ 10 + k.val < 5; omega), if_neg (by show ¬ 10 + k.val < 10; omega), if_pos (by show 10 + k.val < 15; omega), show (iAS k).val - 10 = k.val from by show 10 + k.val - 10 = k.val; omega]
theorem dpay_AR (k : Fin 5) (c : Dev nD) : dpay E0 WB (iAR k) c = agR E0 WB k.val c := by
  have := k.isLt
  unfold dpay; rw [if_neg (by show ¬ 15 + k.val < 5; omega), if_neg (by show ¬ 15 + k.val < 10; omega), if_neg (by show ¬ 15 + k.val < 15; omega), show (iAR k).val - 15 = k.val from by show 15 + k.val - 15 = k.val; omega]

/-! ## The schedule: one round per cell -/

def dix (q : DmaSem sig) : Fin 20 := ⟨q.val - 6, by have : q.val < 26 := q.isLt; omega⟩
theorem dix_dsem (i : Fin 20) : dix (dsem i) = i := Fin.ext (by show 6 + i.val - 6 = i.val; omega)

def dutiesOf : SemLoc sig → Finset (Fin 5)
  | .reg _ => Finset.univ
  | .dma q => if 6 ≤ q.val then {0} else ∅
def amountOf : SemLoc sig → ℕ
  | .reg _ => 1
  | .dma q => amt (dix q)
def payOf (c : Dev nD) (d : Fin 5) : SemLoc sig → sProp 𝕄
  | .reg _ => barPay d.val c
  | .dma q => dpay E0 WB (dix q) c

instance payOf_storable (c : Dev nD) (d : Fin 5) (sm : SemLoc sig) : BI.Storable (upEmb : UEmb _ 𝕄) (payOf E0 WB c d sm) := by
  cases sm <;> unfold payOf <;> infer_instance

def Rd : Rounds.Schedule (GSem nD τ sig) (Fin 5) 𝕄 where
  duties g r := if r = 0 ∧ g.1.2 = .tc then dutiesOf g.2 else ∅
  unitless _ := False
  amount g _ _ := amountOf g.2
  payload g _ d := payOf E0 WB g.1.1 d g.2
  amount_pos g _ _ _ := by
    cases g.2 with
    | reg s => exact Nat.one_pos
    | dma q => exact amt_pos _

instance Rd_payload_storable (g : GSem nD τ sig) (r : ℕ) (d : Fin 5) : BI.Storable (upEmb : UEmb _ 𝕄) ((Rd E0 WB).payload g r d) :=
  payOf_storable E0 WB g.1.1 d g.2

section Sched
variable (c : Dev nD)

theorem duties_bar : (Rd E0 WB).duties (barCell c) 0 = Finset.univ := by dsimp only [Rd]; rw [if_pos ⟨rfl, rfl⟩]; rfl
theorem duties_d (i : Fin 20) : (Rd E0 WB).duties (dcell i c) 0 = {0} := by
  dsimp only [Rd]; rw [if_pos ⟨rfl, rfl⟩]; exact if_pos (Nat.le_add_right 6 i.val)
theorem duties_later (g : GSem nD τ sig) : ∀ r, 1 ≤ r → (Rd E0 WB).duties g r = ∅ :=
  fun r hr => by dsimp only [Rd]; rw [if_neg fun h => by omega]
theorem amount_bar (d : Fin 5) : (Rd E0 WB).amount (barCell c) 0 d = 1 := rfl
theorem amount_d (i : Fin 20) (d : Fin 5) : (Rd E0 WB).amount (dcell i c) 0 d = amt i := congrArg amt (dix_dsem i)
theorem payload_bar (d : Fin 5) : (Rd E0 WB).payload (barCell c) 0 d = barPay d.val c := rfl
theorem payload_d (i : Fin 20) (d : Fin 5) : (Rd E0 WB).payload (dcell i c) 0 d = dpay E0 WB i c := congrArg (fun i => dpay E0 WB i c) (dix_dsem i)
theorem expect_bar : (Rd E0 WB).expect (barCell c) 0 = 5 := by
  unfold Schedule.expect Schedule.amountOf
  rw [duties_bar, Finset.sum_congr rfl fun d _ => amount_bar E0 WB c d, Finset.sum_const, Finset.card_univ, Fintype.card_fin, smul_eq_mul]
theorem expect_d (i : Fin 20) : (Rd E0 WB).expect (dcell i c) 0 = amt i := by
  unfold Schedule.expect Schedule.amountOf; rw [duties_d, Finset.sum_singleton, amount_d]
theorem rest_bar : bigSep ((Rd E0 WB).duties (barCell c) 0 \ ∅) (fun d => (Rd E0 WB).payload (barCell c) 0 d)
    = iprop(barPay 0 c ∗ barPay 1 c ∗ barPay 2 c ∗ barPay 3 c ∗ barPay 4 c) := by
  rw [Finset.sdiff_empty, duties_bar, bigSep_univ_eq_bigSepL [0, 1, 2, 3, 4] (by decide) (by decide)]
  rfl
theorem rest_d (i : Fin 20) : bigSep ((Rd E0 WB).duties (dcell i c) 0 \ ∅) (fun d => (Rd E0 WB).payload (dcell i c) 0 d) = dpay E0 WB i c := by
  rw [Finset.sdiff_empty, duties_d, bigSep_singleton, payload_d]

end Sched

/-! ## What each device owes, in the order it pays, and the levels -/

/-- The `t`-th payment of device `c`: five signals, five reduction transfers, five gathering transfers. -/
def pcell (c : Dev nD) (t : ℕ) : GSem nD τ sig :=
  if t < 5 then barCell (peer t c) else if h : t < 15 then (if t < 10 then dcell ⟨t % 20, Nat.mod_lt _ (by decide)⟩ (peer (t - 5) c) else dcell ⟨(t + 5) % 20, Nat.mod_lt _ (by decide)⟩ (peer (14 - t) c)) else barCell c
def pamt (t : ℕ) : ℕ := if t < 5 then 1 else if t < 10 then amt ⟨t % 20, Nat.mod_lt _ (by decide)⟩ else amt ⟨(t + 5) % 20, Nat.mod_lt _ (by decide)⟩

/-- What is left to pay before the last `n` payments. -/
def owedN (c : Dev nD) : ℕ → CellTallies nD τ sig Unit
  | 0 => 0
  | n + 1 => owedN c n + tallyAt (pcell c (14 - n)) () (pamt (14 - n))

def L (g : GSem nD τ sig) : Finset Unit := if g.1.2 = .tc then {()} else ∅
def lvOf : SemLoc sig → ℕ
  | .reg _ => 1
  | .dma q => if 21 ≤ q.val then 7 + (q.val - 21) else if 16 ≤ q.val then 0 else if 11 ≤ q.val then 2 + (q.val - 11) else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_RS : ∀ k : Fin 5, lvOf (.dma (dsem (iRS k))) = 0 := by decide
theorem lv_RR : ∀ k : Fin 5, lvOf (.dma (dsem (iRR k))) = 2 + k.val := by decide
theorem lv_AS : ∀ k : Fin 5, lvOf (.dma (dsem (iAS k))) = 0 := by decide
theorem lv_AR : ∀ k : Fin 5, lvOf (.dma (dsem (iAR k))) = 7 + k.val := by decide

theorem pcell_tc (c : Dev nD) (t : ℕ) : (pcell c t).1.2 = .tc := by unfold pcell; (repeat' split) <;> rfl
theorem lv_pcell (c : Dev nD) : ∀ t : Fin 15, lvOf (pcell c t.val).2 = if t.val < 5 then 1 else t.val - 3 := by
  have h : ∀ t : Fin 15, (pcell c t.val).2 = (pcell ⟨0, by decide⟩ t.val).2 := fun t => by unfold pcell; (repeat' split) <;> rfl
  intro t; rw [h t]; revert t; decide

theorem owedN_pos {c : Dev nD} {g : GSem nD τ sig} {u : Unit} : ∀ {n : ℕ}, n ≤ 15 → 0 < owedN c n g u → ∃ t : Fin 15, 15 - n ≤ t.val ∧ g = pcell c t.val
  | 0, _, h => absurd h (by show ¬ 0 < (0 : CellTallies nD τ sig Unit) g u; exact Nat.lt_irrefl 0)
  | n + 1, hn, h => by
    unfold owedN at h
    rw [Pi.add_apply, Finsupp.add_apply, tallyAt_apply] at h
    by_cases hg : g = pcell c (14 - n) ∧ u = ()
    · exact ⟨⟨14 - n, by omega⟩, by show 15 - (n + 1) ≤ 14 - n; omega, hg.1⟩
    · rw [if_neg hg, Nat.add_zero] at h
      obtain ⟨t, ht, hgt⟩ := owedN_pos (by omega) h
      exact ⟨t, by omega, hgt⟩

/-- Waiting below everything still owed. -/
theorem mayWait (c : Dev nD) (sm : SemLoc sig) (n l : ℕ) (hn : n ≤ 15) (hl : lvOf sm = l)
    (h : ∀ t : Fin 15, 15 - n ≤ t.val → l < if t.val < 5 then 1 else t.val - 3) :
    (levAts L lv : sProp 𝕄) ⊢ MayWait (c : Thread nD τ) sm () (owedN c n) :=
  MayOwe.of_cut (L := L) (lev := lv) l (fun p hp => by rw [Finset.mem_singleton.mp hp, L_tc]; exact Finset.mem_singleton_self _)
    (fun g u hg => by
      obtain ⟨t, _, rfl⟩ := owedN_pos hn hg
      unfold L; rw [if_pos (pcell_tc c t.val)]; exact Finset.mem_singleton_self _)
    (fun p hp => by rw [Finset.mem_singleton.mp hp]; exact le_of_eq hl)
    (fun g u hg => by
      obtain ⟨t, ht, rfl⟩ := owedN_pos hn hg
      show l < lvOf (pcell c t.val).2
      rw [lv_pcell c t]; exact h t ht)

theorem mayWait_bar (c : Dev nD) : (levAts L lv : sProp 𝕄) ⊢ MayWait (c : Thread nD τ) (.reg barS) () (owedN c 10) :=
  mayWait c _ 10 1 (by decide) rfl (by decide)
theorem mayWait_RS (k : Fin 5) (c : Dev nD) : (levAts L lv : sProp 𝕄) ⊢ MayWait (c : Thread nD τ) (.dma (dsem (iRS k))) () (owedN c (9 - k.val)) :=
  mayWait c _ _ 0 (by omega) (lv_RS k) (by revert k; decide)
theorem mayWait_RR (k : Fin 5) (c : Dev nD) : (levAts L lv : sProp 𝕄) ⊢ MayWait (c : Thread nD τ) (.dma (dsem (iRR k))) () (owedN c (9 - k.val)) :=
  mayWait c _ _ _ (by omega) (lv_RR k) (by revert k; decide)
theorem mayWait_AR (k : Fin 5) (c : Dev nD) : (levAts L lv : sProp 𝕄) ⊢ MayWait (c : Thread nD τ) (.dma (dsem (iAR k))) () (owedN c (4 - k.val)) :=
  mayWait c _ _ _ (by omega) (lv_AR k) (by revert k; decide)
theorem mayWait_stage (c : Dev nD) (sm : SemLoc sig) (hsm : lvOf sm = 0) (n : ℕ) (hn : n ≤ 15) : (levAts L lv : sProp 𝕄) ⊢ MayWait (c : Thread nD τ) sm () (owedN c n) :=
  mayWait c _ n 0 hn hsm (fun t _ => (by decide : ∀ t : Fin 15, 0 < if t.val < 5 then 1 else t.val - 3) t)

end Cert.KernelIdealProof

end
-- ==== Proof.Xfer.lean ====
module

public import proofs.«01_k».proof.Proof.Sched

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (E0 : Dev nD → Vec F S1024x1152 .f32) (WB : Dev nD → Vec F S1024x1024 .bf16)

/-- All cells' invariants, at the names the launch found, and that round 0 is under way everywhere. -/
def records (K : Dev nD × Fin 21 → ℕ) : sProp 𝕄 :=
  iprop((bigSep Finset.univ fun ck : Dev nD × Fin 21 => cellInv ER (Rd E0 WB) (K ck) (kcell ck))
    ∗ bigSep Finset.univ fun ck : Dev nD × Fin 21 => reached ER (kcell ck) 0)

instance records_persistent (K : Dev nD × Fin 21 → ℕ) : BI.Persistent (records E0 WB K) := by unfold records; infer_instance

theorem inv_at (K : Dev nD × Fin 21 → ℕ) (ck : Dev nD × Fin 21) :
    (bigSep Finset.univ fun ck : Dev nD × Fin 21 => (cellInv ER (Rd E0 WB) (K ck) (kcell ck) : sProp 𝕄)) ⊢ cellInv ER (Rd E0 WB) (K ck) (kcell ck) :=
  bigSep_elim (Finset.mem_univ ck)
theorem reached_at (ck : Dev nD × Fin 21) :
    (bigSep Finset.univ fun ck : Dev nD × Fin 21 => (reached ER (kcell ck) 0 : sProp 𝕄)) ⊢ reached ER (kcell ck) 0 :=
  bigSep_elim (Finset.mem_univ ck)

theorem rec_inv (K : Dev nD × Fin 21 → ℕ) (ck : Dev nD × Fin 21) : records E0 WB K ⊢ cellInv ER (Rd E0 WB) (K ck) (kcell ck) := by
  unfold records
  iintro ⟨#HI, -⟩
  iapply (inv_at E0 WB K ck); iexact HI
theorem rec_reached (K : Dev nD × Fin 21 → ℕ) (ck : Dev nD × Fin 21) : records E0 WB K ⊢ reached ER (kcell ck) 0 := by
  unfold records
  iintro ⟨-, #HR⟩
  iapply (reached_at (F := F) ck); iexact HR

/-- What device `c` still owes, having waited on anything. -/
def ow (c : Dev nD) (n : ℕ) : sProp 𝕄 := iprop(∃ W, owes (c : Thread nD τ) (owedN c n) W)

section Ops
variable (K : Dev nD × Fin 21 → ℕ) (c : Dev nD)

/-- A transfer to device `p`, paying its arrival cell `i₂` and this device's send cell `i₁`. -/
theorem wp_tx {α : Type} {Q : α → sProp 𝕄} {k : PUnit → Prog (TpuEff nD τ sig (Elt F) Λ₀ .tc) α} (i₁ i₂ : Fin 20) (n p : Dev nD) (hn : n = p) (o : ℕ) (hO : owedN c (o + 1) = owedN c o + tallyAt (dcell i₂ p) () (amt i₂)) (ha : amt i₁ = amt i₂)
    {sS sR : DmaSem sig} (hS : sS = dsem i₁) (hR : sR = dsem i₂) {s : Shape}
    {src : Memref sig .tc .vmem s .bf16} {dst : Memref sig (Dev.tc n : Thread nD τ).2.kind .vmem s .bf16} {hsc : dst.view.ref.isScScratch = false}
    {hsrc : src.view.WordExact} {hdst : dst.view.WordExact}
    {hsem : DmaTarget.Typed .vmem (.dma sR) (.remote (Dev.tc n : Thread nD τ) dst (.dma sS) hsc)}
    {q : PosShare TreeShare} (fs : Buf (Elt F) (src.view.loc (c : Thread nD τ))) (fd : Buf (Elt F) (dst.view.loc (n : Thread nD τ)))
    (hN : dst.view.amount (.dma sR) = amt i₂)
    (hpay₁ : (src.view.loc (c : Thread nD τ) ↦[src.view.set]{q} fs) ⊢ dpay E0 WB i₁ c)
    (hpay₂ : (dst.view.loc (n : Thread nD τ) ↦[dst.view.set]{fullShare} (dst.view.write (Elt F) fd (src.view.read (Elt F) fs) Finset.univ)) ⊢ dpay E0 WB i₂ n) :
    iprop(records E0 WB K ∗ (src.view.loc (c : Thread nD τ) ↦[src.view.set]{q} fs) ∗ (dst.view.loc (n : Thread nD τ) ↦[dst.view.set]{fullShare} fd)
        ∗ ow c (o + 1) ∗ dutyTok ER (dcell i₁ c) 0 0 ∗ dutyTok ER (dcell i₂ p) 0 0)
      ⊢ iprop(((cred (tallyAt (dcell i₁ c) () (amt i₁)) ∗ ow c o) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn hS hR
  have hd₁ : (0 : Fin 5) ∈ (Rd E0 WB).duties (dcell i₁ c) 0 := by rw [duties_d]; exact Finset.mem_singleton_self _
  have hd₂ : (0 : Fin 5) ∈ (Rd E0 WB).duties (dcell i₂ n) 0 := by rw [duties_d]; exact Finset.mem_singleton_self _
  have hp₁ : (src.view.loc (c : Thread nD τ) ↦[src.view.set]{q} fs) ⊢ (Rd E0 WB).payload (dcell i₁ c) 0 0 := by rw [payload_d]; exact hpay₁
  have hp₂ : (dst.view.loc (n : Thread nD τ) ↦[dst.view.set]{fullShare} (dst.view.write (Elt F) fd (src.view.read (Elt F) fs) Finset.univ)) ⊢ (Rd E0 WB).payload (dcell i₂ n) 0 0 := by rw [payload_d]; exact hpay₂
  unfold ow
  iintro ⟨#HR, Hs, Hd, ⟨%W, HO⟩, Ht1, Ht2⟩ Hk
  iapply (Rounds.wp_send_pointsTo 𝒱₀ ER (Rd E0 WB) (c : Thread nD τ) none (κ₁ := K (c, i₁.succ)) (κ₂ := K (n, i₂.succ))
    (r₁ := 0) (r₂ := 0) (d₁ := 0) (d₂ := 0) (fd := fd)
    hd₁ hd₂
    () () (amt i₂) hN ((amount_d E0 WB c i₁ 0).trans ha) (amount_d E0 WB n i₂ 0) (owedN c o) hO (W := W)
    hp₁ hp₂) $$ [Hs Hd HO Ht1 Ht2]
  · isplitr; · iapply (rec_inv E0 WB K (c, i₁.succ)); iexact HR
    isplitr; · iapply (rec_inv E0 WB K (n, i₂.succ)); iexact HR
    isplitl [Hs]; · iexact Hs
    isplitl [Hd]; · iexact Hd
    isplitl [HO]; · iexact HO
    isplitl [Ht1]; · iexact Ht1
    isplitr; · iapply (rec_reached E0 WB K (c, i₁.succ)); iexact HR
    isplitl [Ht2]; · iexact Ht2
    iapply (rec_reached E0 WB K (n, i₂.succ)); iexact HR
  iintro ⟨Hc, HO⟩
  iapply Hk
  isplitl [Hc]; · rw [ha]; iexact Hc
  iexists W; iexact HO

/-- Waiting for one of this device's transfers: what it hands over, and the semaphore back at zero. -/
theorem wp_rx {α : Type} {Q : α → sProp 𝕄} {k : PUnit → Prog (TpuEff nD τ sig (Elt F) Λ₀ .tc) α} (i : Fin 20) (o : ℕ) {q : DmaSem sig} (hq : q = dsem i) {s : Shape} {sp sp' : Space} {e : EltTy} {κ' : Kind}
    {src : Memref sig .tc sp s e} {dst : Memref sig κ' sp' s e} {hs : src.view.WordExact} {hd : dst.view.WordExact}
    (hN : dst.view.dmaCredit = amt i)
    (hm : (levAts L lv : sProp 𝕄) ⊢ MayWait (c : Thread nD τ) (.dma (dsem i)) () (owedN c o)) :
    iprop(records E0 WB K ∗ levAts L lv ∗ cred (tallyAt (dcell i c) () (amt i)) ∗ ow c o ∗ atPos ER (dcell i c) 0 ∅ 0)
      ⊢ iprop(((ow c o ∗ semVal (dcell i c) 0 ∗ dpay E0 WB i c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hs hd) k) Q) := by
  subst hq
  have he : 0 + dst.view.dmaCredit = (Rd E0 WB).expect (dcell i c) 0 := by rw [Nat.zero_add, expect_d]; exact hN
  unfold ow
  iintro ⟨#HR, #Hlev, Hc, ⟨%W, HO⟩, Hat⟩ Hk
  iapply (Rounds.wp_wait_rest_token 𝒱₀ ER (Rd E0 WB) (c : Thread nD τ) none (κ := K (c, i.succ))
      (wpE_waitDma2_eq 𝒱₀ (c : Thread nD τ) none Set.univ) (Set.mem_univ _) () (O := owedN c o) (W := W) (R := 0) (m := 0) (T := ∅)
      he) $$ [Hc HO Hat]
  · isplitr; · iapply (rec_inv E0 WB K (c, i.succ)); iexact HR
    isplitl [Hc]; · rw [hN]; iexact Hc
    isplitl [HO]; · iexact HO
    isplitr; · iapply hm; iexact Hlev
    iexact Hat
  iintro ⟨HO, Hat, -, Hpay⟩
  imod (Rounds.cell_close ER (Rd E0 WB) (Set.mem_univ (K (c, i.succ))) (fun h => h) (R := 0 + 1) (duties_later E0 WB (dcell i c))) $$ [Hat] with Hz
  · isplitr; · iapply (rec_inv E0 WB K (c, i.succ)); iexact HR
    iexact Hat
  iapply Hk
  isplitl [HO]; · iexists _; iexact HO
  isplitl [Hz]; · iexact Hz
  ihave Hp := (Entails.of_eq (rest_d E0 WB c i)) $$ Hpay
  iexact Hp

/-- Signalling partner `j`'s barrier, handing over what it may write here. -/
theorem wp_sig {α : Type} {Q : α → sProp 𝕄} {k : PUnit → Prog (TpuEff nD τ sig (Elt F) Λ₀ .tc) α} (j : Fin 5) (n : Dev nD) (hn : n = peer j.val c) (o : ℕ) (hO : owedN c (o + 1) = owedN c o + tallyAt (barCell (peer j.val c)) () 1)
    (w : BitVec 32) (hw : w.toNat = 1) {v : Sem sig} (hv : v = barS) :
    iprop(records E0 WB K ∗ ow c (o + 1) ∗ dutyTok ER (barCell (peer j.val c)) 0 j ∗ barPay (F := F) j.val (peer j.val c))
      ⊢ iprop((ow c o -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) v w.toNat) k) Q) := by
  subst hn hv
  unfold ow
  iintro ⟨#HR, ⟨%W, HO⟩, Ht, Hp⟩ Hk
  iapply (Rounds.wp_signal 𝒱₀ ER (Rd E0 WB) (c : Thread nD τ) none (dst := (peer j.val c : Thread nD τ)) (κ := K (peer j.val c, 0)) (W := W)
      (d := j) (r := 0) (by rw [duties_bar]; exact Finset.mem_univ _) ((amount_bar E0 WB (peer j.val c) j).trans hw.symm) () (owedN c o) (hO.trans (by rw [hw])))
    $$ [HO Ht Hp]
  · isplitr; · iapply (rec_inv E0 WB K (peer j.val c, 0)); iexact HR
    isplitl [HO]; · iexact HO
    isplitl [Ht]; · iexact Ht
    isplitl [Hp]; · rw [payload_bar]; iexact Hp
    iapply (rec_reached E0 WB K (peer j.val c, 0)); iexact HR
  iintro HO
  iapply Hk
  iexists W; iexact HO

/-- The barrier: all five partners are ready. -/
theorem wp_bar {α : Type} {Q : α → sProp 𝕄} {k : PUnit → Prog (TpuEff nD τ sig (Elt F) Λ₀ .tc) α} (w : BitVec 32) (hw : w.toNat = 5) {v : Sem sig} (hv : v = barS) :
    iprop(records E0 WB K ∗ levAts L lv ∗ cred (tallyAt (barCell c) () 5) ∗ ow c 10 ∗ atPos ER (barCell c) 0 ∅ 0)
      ⊢ iprop(((ow c 10 ∗ semVal (barCell c) 0 ∗ (barPay (F := F) 0 c ∗ barPay (F := F) 1 c ∗ barPay (F := F) 2 c ∗ barPay (F := F) 3 c ∗ barPay (F := F) 4 c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait v w.toNat) k) Q) := by
  subst hv
  have he : 0 + w.toNat = (Rd E0 WB).expect (barCell c) 0 := by rw [Nat.zero_add, expect_bar, hw]
  unfold ow
  iintro ⟨#HR, #Hlev, Hc, ⟨%W, HO⟩, Hat⟩ Hk
  iapply (Rounds.wp_wait_rest_token 𝒱₀ ER (Rd E0 WB) (c : Thread nD τ) none (κ := K (c, 0))
      (wpE_semWait_eq 𝒱₀ (c : Thread nD τ) none Set.univ) (Set.mem_univ _) () (O := owedN c 10) (W := W) (R := 0) (m := 0) (T := ∅)
      he) $$ [Hc HO Hat]
  · isplitr; · iapply (rec_inv E0 WB K (c, 0)); iexact HR
    isplitl [Hc]; · rw [hw]; iexact Hc
    isplitl [HO]; · iexact HO
    isplitr; · iapply (mayWait_bar c); iexact Hlev
    iexact Hat
  iintro ⟨HO, Hat, -, Hpay⟩
  imod (Rounds.cell_close ER (Rd E0 WB) (Set.mem_univ (K (c, 0))) (fun h => h) (R := 0 + 1) (duties_later E0 WB (barCell c))) $$ [Hat] with Hz
  · isplitr; · iapply (rec_inv E0 WB K (c, 0)); iexact HR
    iexact Hat
  iapply Hk
  isplitl [HO]; · iexists _; iexact HO
  isplitl [Hz]; · iexact Hz
  ihave Hp := (Entails.of_eq (rest_bar E0 WB c)) $$ Hpay
  iexact Hp

end Ops

theorem owed_bar (c : Dev nD) : ∀ j : Fin 5, owedN c (14 - j.val + 1) = owedN c (14 - j.val) + tallyAt (barCell (peer j.val c)) () 1 := by
  intro j; fin_cases j <;> rfl
theorem owed_rs (c : Dev nD) : ∀ j : Fin 5, owedN c (9 - j.val + 1) = owedN c (9 - j.val) + tallyAt (dcell (iRR j) (peer j.val c)) () (amt (iRR j)) := by
  intro j; fin_cases j <;> rfl
theorem owed_ag (c : Dev nD) : ∀ j : Fin 5, owedN c (4 - j.val + 1) = owedN c (4 - j.val) + tallyAt (dcell (iAR j) (peer (4 - j.val) c)) () (amt (iAR j)) := by
  intro j; fin_cases j <;> rfl
theorem amt_rs : ∀ k : Fin 5, amt (iRS k) = amt (iRR k) := by decide
theorem amt_ag : ∀ k : Fin 5, amt (iAS k) = amt (iAR k) := by decide

end Cert.KernelIdealProof

end
-- ==== Proof.Rows.lean ====
module

public import proofs.«01_k».proof.Proof.Xfer
public import Idealize.ShloMosaic.Lib.WritesUnit

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (E0 : Dev nD → Vec F S1024x1152 .f32) (WB : Dev nD → Vec F S1024x1024 .bf16)

/-! ## Rectangles of whole rows -/

/-- Element `x` of a rectangle of rows from `lo` on. -/
theorem emb_row {d : Fin 2 → ℕ} {off size : Fin 2 → ℕ} {inb : ∀ a : Fin 2, off a + size a ≤ d a} {lo : ℕ} (ho : off = ![lo, 0])
    (x : (Rect.unit (s := ⟨2, d⟩) off size inb).shape.Idx) (y : (⟨2, d⟩ : Shape).Idx)
    (h0 : (y (0 : Fin 2)).val = lo + (x (0 : Fin 2)).val) (h1 : (y (1 : Fin 2)).val = (x (1 : Fin 2)).val) :
    (Rect.unit (s := ⟨2, d⟩) off size inb).emb x = y := by
  subst ho
  funext a
  apply Fin.ext
  rw [Rect.emb_apply]
  show ![lo, 0] a + 1 * (x a).val = _
  fin_cases a
  · show lo + 1 * (x (0 : Fin 2)).val = (y (0 : Fin 2)).val
    omega
  · show 0 + 1 * (x (1 : Fin 2)).val = (y (1 : Fin 2)).val
    omega

/-- The place of `y` within such a rectangle. -/
def loc2 {n D : ℕ} (i j : ℕ) (hi : i < n) (hj : j < D) : (⟨2, ![n, D]⟩ : Shape).Idx := fun a => match a with
  | ⟨0, _⟩ => ⟨i, hi⟩
  | ⟨1, _⟩ => ⟨j, hj⟩

theorem ix5_eq (i : S1024x1152.Idx) (r j : ℕ) (h0 : (i (0 : Fin 2)).val = r) (h1 : (i (1 : Fin 2)).val = j) : ix5 r j = i := by
  subst h0 h1
  funext a; apply Fin.ext; fin_cases a
  · exact Nat.mod_eq_of_lt (i (0 : Fin 2)).isLt
  · exact Nat.mod_eq_of_lt (i (1 : Fin 2)).isLt

theorem ix9_eq (i : S1024x1024.Idx) (r j : ℕ) (h0 : (i (0 : Fin 2)).val = r) (h1 : (i (1 : Fin 2)).val = j) : ix9 r j = i := by
  subst h0 h1
  funext a; apply Fin.ext; fin_cases a
  · exact Nat.mod_eq_of_lt (i (0 : Fin 2)).isLt
  · exact Nat.mod_eq_of_lt (i (1 : Fin 2)).isLt

theorem ix32_eq (i : S32x1024.Idx) (r j : ℕ) (h0 : (i (0 : Fin 2)).val = r % 32) (h1 : (i (1 : Fin 2)).val = j) : ix32 r j = i := by
  subst h1
  funext a; apply Fin.ext; fin_cases a
  · exact h0.symm
  · exact Nat.mod_eq_of_lt (i (1 : Fin 2)).isLt

/-- What a load of the accumulator's rows reads. -/
theorem rd5 {off : Fin 2 → ℕ} {n lo : ℕ} (ho : off = ![lo, 0]) {inb : ∀ a : Fin 2, off a + ![n, 1152] a ≤ S1024x1152.size a} (f : Vec F S1024x1152 .f32)
    (x : (⟨2, ![n, 1152]⟩ : Shape).Idx) (y : S1024x1152.Idx) (h0 : (y (0 : Fin 2)).val = lo + (x (0 : Fin 2)).val) (h1 : (y (1 : Fin 2)).val = (x (1 : Fin 2)).val) :
    View.readAt (Elt F) (Memref.whole cc0_scratch5).view (Rect.unit (s := S1024x1152) off ![n, 1152] inb).toLoadRect f x = f y :=
  congrArg f (emb_row (d := S1024x1152.size) ho x y h0 h1)

/-- What a load of the landing rows reads. -/
theorem rd8 {off : Fin 2 → ℕ} {n lo : ℕ} (ho : off = ![lo, 0]) {inb : ∀ a : Fin 2, off a + ![n, 1152] a ≤ S992x1152.size a} (f : Vec F S992x1152 .bf16)
    (x : (⟨2, ![n, 1152]⟩ : Shape).Idx) (y : S992x1152.Idx) (h0 : (y (0 : Fin 2)).val = lo + (x (0 : Fin 2)).val) (h1 : (y (1 : Fin 2)).val = (x (1 : Fin 2)).val) :
    View.readAt (Elt F) (Memref.whole cc0_scratch8).view (Rect.unit (s := S992x1152) off ![n, 1152] inb).toLoadRect f x = f y :=
  congrArg f (emb_row (d := S992x1152.size) ho x y h0 h1)

theorem blk_iff (k : Fin 5) (A y : ℕ) : y / nr k = A / nr k ↔ nr k * (A / nr k) ≤ y ∧ y < nr k * (A / nr k) + nr k := by
  fin_cases k <;> simp [nr] <;> omega

theorem blk_bound (k : Fin 5) (A : ℕ) (hA : A < 1024) : nr k * (A / nr k) + nr k ≤ 1024 := by
  fin_cases k <;> simp [nr] <;> omega

theorem ofr_bound (k : Fin 5) : ofr k + nr k ≤ 992 := by revert k; decide

theorem nr_le (k : Fin 5) : nr k ≤ 512 := by revert k; decide

/-- The rows a round adds: the accumulator after it. -/
theorem acc_val (k : Fin 5) (c : Dev nD) {off off8 : Fin 2 → ℕ} {n : ℕ} (ho : off = ![nr k * (32 * sg c / nr k), 0]) (ho8 : off8 = ![ofr k, 0]) (hn : n = nr k)
    {inb inb' : ∀ a : Fin 2, off a + ![n, 1152] a ≤ S1024x1152.size a} {inb8 : ∀ a : Fin 2, off8 a + ![n, 1152] a ≤ S992x1152.size a}
    (g8 : Vec F S992x1152 .bf16) (h8 : RP E0 k c g8) (w : (⟨2, ![n, 1152]⟩ : Shape).Idx → Elt F .f32)
    (hw : ∀ x, w x = adS (View.readAt (Elt F) (Memref.whole cc0_scratch5).view (Rect.unit (s := S1024x1152) off ![n, 1152] inb').toLoadRect (EE E0 k c) x)
      (exS (View.readAt (Elt F) (Memref.whole cc0_scratch8).view (Rect.unit (s := S992x1152) off8 ![n, 1152] inb8).toLoadRect g8 x))) :
    (Memref.whole cc0_scratch5).view.writes (Elt F) (EE E0 k c) [⟨Rect.unit (s := S1024x1152) off ![n, 1152] inb, w⟩] = EE E0 (k.val + 1) c := by
  subst hn
  funext y
  have hb := blk_bound k (32 * sg c) (by have := sg_lt c; omega)
  by_cases hy : (y (0 : Fin 2)).val / nr k = 32 * sg c / nr k
  · have hyr := (blk_iff k _ _).mp hy
    have hy1 : (y (1 : Fin 2)).val < 1152 := (y (1 : Fin 2)).isLt
    let x : (⟨2, ![nr k, 1152]⟩ : Shape).Idx := loc2 ((y (0 : Fin 2)).val - nr k * (32 * sg c / nr k)) (y (1 : Fin 2)).val (by omega) hy1
    have hx0 : (y (0 : Fin 2)).val = nr k * (32 * sg c / nr k) + (x (0 : Fin 2)).val := by
      show _ = _ + ((y (0 : Fin 2)).val - nr k * (32 * sg c / nr k)); omega
    refine (View.read_writes_cons_rows_of_mem (d := S1024x1152.size) (Memref.whole cc0_scratch5).view (EE E0 k c) inb w [] y x ho hx0 rfl).trans ?_
    rw [hw, rd5 ho (EE E0 k c) x y hx0 rfl]
    have hz : ofr k + (x (0 : Fin 2)).val < 992 := by
      have h1 : (x (0 : Fin 2)).val < nr k := (x (0 : Fin 2)).isLt
      have := ofr_bound k; omega
    let z : S992x1152.Idx := loc2 (ofr k + (x (0 : Fin 2)).val) (y (1 : Fin 2)).val hz hy1
    rw [rd8 ho8 g8 x z rfl rfl, h8 z (Nat.le_add_right _ _) (Nat.add_lt_add_left (x (0 : Fin 2)).isLt _)]
    refine (congrArg (fun i => adS (EE E0 k c y) (exS (trS (EE E0 k (peer k c) i)))) (ix5_eq y _ _ ?_ rfl)).trans ?_
    · refine hx0.trans ?_
      show _ = _ + ((ofr k + (x (0 : Fin 2)).val) - ofr k)
      rw [Nat.add_sub_cancel_left]
    show _ = if _ then _ else _
    rw [if_pos hy]
  · have hyr : (y (0 : Fin 2)).val < nr k * (32 * sg c / nr k) ∨ nr k * (32 * sg c / nr k) + nr k ≤ (y (0 : Fin 2)).val := by
      by_contra hc
      exact hy ((blk_iff k _ _).mpr (by omega))
    refine (View.read_writes_cons_rows_of_not_mem (d := S1024x1152.size) (Memref.whole cc0_scratch5).view (EE E0 k c) inb w [] y ho rfl hyr).trans ?_
    show EE E0 k c y = if _ then _ else _
    rw [if_neg hy]

/-- What a round stages to send. -/
theorem stage_val (k : Fin 5) (c : Dev nD) {off : Fin 2 → ℕ} {n : ℕ} (ho : off = ![nr k * (32 * sg (peer k c) / nr k), 0]) (hn : n = nr k)
    {inb : ∀ a : Fin 2, off a + ![n, 1152] a ≤ S1024x1152.size a} {inb7 : ∀ a : Fin 2, ![0, 0] a + ![n, 1152] a ≤ S512x1152.size a}
    (f7 : Vec F S512x1152 .bf16) (w : (⟨2, ![n, 1152]⟩ : Shape).Idx → Elt F .bf16)
    (hw : ∀ x, w x = trS (View.readAt (Elt F) (Memref.whole cc0_scratch5).view (Rect.unit (s := S1024x1152) off ![n, 1152] inb).toLoadRect (EE E0 k c) x))
    (i : S512x1152.Idx) (hi : (i (0 : Fin 2)).val < nr k) :
    (Memref.whole cc0_scratch7).view.writes (Elt F) f7 [⟨Rect.unit (s := S512x1152) ![0, 0] ![n, 1152] inb7, w⟩] i
      = trS (EE E0 k c (ix5 (nr k * (32 * sg (peer k c) / nr k) + (i (0 : Fin 2)).val) (i (1 : Fin 2)).val)) := by
  subst hn
  have hb := blk_bound k (32 * sg (peer k c)) (by have := sg_lt (peer k c); omega)
  have hi1 : (i (1 : Fin 2)).val < 1152 := (i (1 : Fin 2)).isLt
  let x : (⟨2, ![nr k, 1152]⟩ : Shape).Idx := loc2 (i (0 : Fin 2)).val (i (1 : Fin 2)).val hi hi1
  refine (View.read_writes_cons_rows_of_mem (d := S512x1152.size) (Memref.whole cc0_scratch7).view f7 inb7 w [] i x rfl (Nat.zero_add _).symm rfl).trans ?_
  rw [hw]
  exact congrArg trS (rd5 ho (EE E0 k c) x _ (Nat.mod_eq_of_lt (by have : (x (0 : Fin 2)).val < nr k := (x (0 : Fin 2)).isLt; exact lt_of_lt_of_le (Nat.add_lt_add_left this _) hb)) (Nat.mod_eq_of_lt hi1))

/-! ## A round's transfer -/

theorem set7 {off : Fin 2 → ℕ} {n lo : ℕ} (ho : off = ![lo, 0]) {inb : ∀ a : Fin 2, off a + ![n, 1152] a ≤ S512x1152.size a} {h} :
    ((Memref.whole cc0_scratch7).slice (Rect.unit (s := S512x1152) off ![n, 1152] inb) h).view.set = rowsF (d := S512x1152.size) lo n :=
  (View.set_slice_whole cc0_scratch7 _).trans (rect_rows ho rfl)
theorem set8 {off : Fin 2 → ℕ} {n lo : ℕ} (ho : off = ![lo, 0]) {inb : ∀ a : Fin 2, off a + ![n, 1152] a ≤ S992x1152.size a} {h} :
    ((Memref.whole cc0_scratch8).slice (Rect.unit (s := S992x1152) off ![n, 1152] inb) h).view.set = rowsF (d := S992x1152.size) lo n :=
  (View.set_slice_whole cc0_scratch8 _).trans (rect_rows ho rfl)
theorem set9 {off : Fin 2 → ℕ} {n lo : ℕ} (ho : off = ![lo, 0]) {inb : ∀ a : Fin 2, off a + ![n, 1024] a ≤ S1024x1024.size a} {h} :
    ((Memref.whole cc0_scratch9).slice (Rect.unit (s := S1024x1024) off ![n, 1024] inb) h).view.set = rowsF (d := S1024x1024.size) lo n :=
  (View.set_slice_whole cc0_scratch9 _).trans (rect_rows ho rfl)

/-- The landing rows after the transfer. -/
theorem land_val (k : Fin 5) (c : Dev nD) {off8 : Fin 2 → ℕ} {n : ℕ} (ho8 : off8 = ![ofr k, 0]) (hn : n = nr k)
    {inb7 : ∀ a : Fin 2, ![0, 0] a + ![n, 1152] a ≤ S512x1152.size a} {inb8 : ∀ a : Fin 2, off8 a + ![n, 1152] a ≤ S992x1152.size a} {h7 h8}
    (g : Vec F S512x1152 .bf16) (f8 : Vec F S992x1152 .bf16)
    (hg : ∀ i : S512x1152.Idx, (i (0 : Fin 2)).val < nr k → g i = trS (EE E0 k c (ix5 (nr k * (32 * sg (peer k c) / nr k) + (i (0 : Fin 2)).val) (i (1 : Fin 2)).val))) :
    RP E0 k (peer k c) (((Memref.whole cc0_scratch8).slice (Rect.unit (s := S992x1152) off8 ![n, 1152] inb8) h8).view.write (Elt F) f8
      (((Memref.whole cc0_scratch7).slice (Rect.unit (s := S512x1152) ![0, 0] ![n, 1152] inb7) h7).view.read (Elt F) g) Finset.univ) := by
  subst hn
  intro i hlo hhi
  rw [peer_peer5]
  have hi1 : (i (1 : Fin 2)).val < 1152 := (i (1 : Fin 2)).isLt
  let x : (⟨2, ![nr k, 1152]⟩ : Shape).Idx := loc2 ((i (0 : Fin 2)).val - ofr k) (i (1 : Fin 2)).val (by omega) hi1
  have he : (Rect.unit (s := S992x1152) off8 ![nr k, 1152] inb8).emb x = i :=
    emb_row (d := S992x1152.size) ho8 x i (by show _ = _ + ((i (0 : Fin 2)).val - ofr k); omega) rfl
  have hw := View.read_slice_write_emb (Val := Elt F) (v := (Memref.whole cc0_scratch8).view) (Rect.unit (s := S992x1152) off8 ![nr k, 1152] inb8) f8
    (((Memref.whole cc0_scratch7).slice (Rect.unit (s := S512x1152) ![0, 0] ![nr k, 1152] inb7) h7).view.read (Elt F) g) (M := Finset.univ) (x := x) (Finset.mem_univ x)
  rw [he] at hw
  refine Eq.trans hw ?_
  have hb : nr k ≤ 512 := nr_le k
  let y : S512x1152.Idx := loc2 ((i (0 : Fin 2)).val - ofr k) (i (1 : Fin 2)).val (by omega) hi1
  refine (congrArg g (emb_row (d := S512x1152.size) (lo := 0) rfl x y (Nat.zero_add _).symm rfl)).trans ?_
  exact hg y (by show (i (0 : Fin 2)).val - ofr k < _; omega)

section Ops
variable (K : Dev nD × Fin 21 → ℕ) (c : Dev nD)

/-- A round's transfer: the staged rows go to the partner's landing rows. -/
theorem wp_rs_tx {α : Type} {Q : α → sProp 𝕄} {kk : PUnit → Prog (TpuEff nD τ sig (Elt F) Λ₀ .tc) α} (k : Fin 5) (m : Dev nD) (hm : m = peer k c) (o : ℕ) (ho : o = 9 - k.val)
    {n : ℕ} (hn : n = nr k) {off8 : Fin 2 → ℕ} (ho8 : off8 = ![ofr k, 0])
    {inb7 : ∀ a : Fin 2, ![0, 0] a + ![n, 1152] a ≤ S512x1152.size a} {inb8 : ∀ a : Fin 2, off8 a + ![n, 1152] a ≤ S992x1152.size a} {h7 h8}
    {sS sR : DmaSem sig} (hS : sS = dsem (iRS k)) (hR : sR = dsem (iRR k))
    {hsc : ((Memref.whole cc0_scratch8).slice (Rect.unit (s := S992x1152) off8 ![n, 1152] inb8) h8).view.ref.isScScratch = false}
    {hsrc : ((Memref.whole cc0_scratch7).slice (Rect.unit (s := S512x1152) ![0, 0] ![n, 1152] inb7) h7).view.WordExact}
    {hdst : ((Memref.whole cc0_scratch8).slice (Rect.unit (s := S992x1152) off8 ![n, 1152] inb8) h8).view.WordExact}
    {hsem : DmaTarget.Typed .vmem (.dma sR) (.remote (Dev.tc m : Thread nD τ) ((Memref.whole cc0_scratch8).slice (Rect.unit (s := S992x1152) off8 ![n, 1152] inb8) h8) (.dma sS) hsc)}
    (hN : ((Memref.whole cc0_scratch8).slice (Rect.unit (s := S992x1152) off8 ![n, 1152] inb8) h8).view.amount (.dma sR) = amt (iRR k))
    (g : Vec F S512x1152 .bf16)
    (hg : ∀ i : S512x1152.Idx, (i (0 : Fin 2)).val < nr k → g i = trS (EE E0 k c (ix5 (nr k * (32 * sg (peer k c) / nr k) + (i (0 : Fin 2)).val) (i (1 : Fin 2)).val))) :
    iprop(records E0 WB K ∗ pt c (Memref.whole cc0_scratch7) g ∗ (∃ f, r8 (peer k c) (ofr k) (nr k) f)
        ∗ ow c (o + 1) ∗ dutyTok ER (dcell (iRS k) c) 0 0 ∗ dutyTok ER (dcell (iRR k) (peer k c)) 0 0)
      ⊢ iprop(((cred (tallyAt (dcell (iRS k) c) () (amt (iRS k))) ∗ ow c o
            ∗ (rsS (F := F) k c -∗ ∃ f, pt c (Memref.whole cc0_scratch7) f)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((Memref.whole cc0_scratch7).slice (Rect.unit (s := S512x1152) ![0, 0] ![n, 1152] inb7) h7)
                (.remote (Dev.tc m : Thread nD τ) ((Memref.whole cc0_scratch8).slice (Rect.unit (s := S992x1152) off8 ![n, 1152] inb8) h8) (.dma sS) hsc) (.dma sR) hsrc hdst hsem) kk) Q) := by
  subst hm hn ho
  have hsub : rowsF (d := S512x1152.size) 0 (nr k) ⊆ Finset.univ := Finset.subset_univ _
  have hs7 := set7 (off := ![0, 0]) (lo := 0) rfl (inb := inb7) (h := h7)
  have hs8 := set8 (off := off8) ho8 (inb := inb8) (h := h8)
  iintro ⟨#HR, H7, ⟨%f8, H8⟩, HO, Ht1, Ht2⟩ Hk
  ihave ⟨H7a, H7b⟩ := (pointsTo_split_subset hsub).1 $$ H7
  iapply (wp_tx E0 WB K c (iRS k) (iRR k) (peer k c) (peer k c) rfl (9 - k.val) (owed_rs c k) (amt_rs k) hS hR (q := fullShare) g f8 hN ?_ ?_) $$ [H7a H8 HO Ht1 Ht2]
  · rw [dpay_RS, hs7]
    unfold rsS r7
    iintro H; iexists g; iexact H
  · rw [dpay_RR, hs8]
    unfold rsR r8
    iintro H
    iexists _
    isplitr; · ipureintro; exact land_val E0 k c ho8 rfl (h7 := h7) (h8 := h8) (inb7 := inb7) (inb8 := inb8) g f8 hg
    iexact H
  · isplitr; · iexact HR
    rw [hs7, hs8]
    isplitl [H7a]; · iexact H7a
    isplitl [H8]; · unfold r8; iexact H8
    isplitl [HO]; · iexact HO
    isplitl [Ht1]; · iexact Ht1
    iexact Ht2
  iintro ⟨Hc, HO⟩
  iapply Hk
  isplitl [Hc]; · iexact Hc
  isplitl [HO]; · iexact HO
  unfold rsS r7
  iintro ⟨%f, Hf⟩
  iexists _
  iapply (pointsTo_join_subset hsub)
  isplitl [Hf]; · iexact Hf
  iexact H7b

end Ops

end Cert.KernelIdealProof

end
-- ==== Proof.Rows2.lean ====
module

public import proofs.«01_k».proof.Proof.Rows
public import Idealize.ShloMosaic.Lib.Pipeline.Value
public import Idealize.ShloMosaic.Lib.Pipeline.ReadBack

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (E0 : Dev nD → Vec F S1024x1152 .f32) (WB : Dev nD → Vec F S1024x1024 .bf16)

/-- Writes that are all blocks of `G` leave `G` wherever one of them reaches. -/
theorem read_blocks {sig : RefSig} {κ : Kind} {sp : Space} {s : Shape} {e : EltTy} {Val : EltTy → Type} (v : View sig κ sp s e) (f : v.ty.Contents Val) (G : s.Idx → Val e) :
    ∀ L : List (View.Piece Val s e), View.PiecesOf G L → ∀ y : s.Idx, (∃ p ∈ L, y ∈ p.1.set) → v.read Val (v.writes Val f L) y = G y
  | [], _, y, h => absurd h (by simp)
  | p :: L, hp, y, h => by
    rw [View.writes_cons]
    by_cases hy : y ∈ p.1.set
    · rw [← Rect.map_emb_univ] at hy
      obtain ⟨x, -, rfl⟩ := Finset.mem_map.mp hy
      rw [View.read_slice_write_emb _ _ _ (Finset.mem_univ x)]
      exact hp.1 x
    · rw [View.read_slice_write_of_not_mem _ _ _ _ (by rwa [Rect.map_emb_univ])]
      refine read_blocks v f G L hp.2 y ?_
      obtain ⟨q, hq, hyq⟩ := h
      rcases List.mem_cons.mp hq with rfl | hq
      · exact absurd hyq hy
      · exact ⟨q, hq, hyq⟩

/-- One head's normalised columns. -/
theorem ctx_piece (c : Dev nD) (h : ℕ) (hh : h < 8) {off off' : Fin 2 → ℕ} (ho : off = ![32 * sg c, 128 * h]) (ho' : off' = ![32 * sg c, 1024 + h]) {off6 : Fin 2 → ℕ} (ho6 : off6 = ![0, 128 * h])
    {inb : ∀ a : Fin 2, off a + ![32, 128] a ≤ S1024x1152.size a} {inb' : ∀ a : Fin 2, off' a + ![32, 1] a ≤ S1024x1152.size a}
    {inb6 : ∀ a : Fin 2, off6 a + ![32, 128] a ≤ S32x1024.size a} (w : S32x128.Idx → F .bf16)
    (hw : ∀ x : S32x128.Idx, w x = trS (dvS (View.readAt (Elt F) (Memref.whole cc0_scratch5).view (Rect.unit (s := S1024x1152) off ![32, 128] inb).toLoadRect (EE E0 5 c) x)
      (broadcastTo S32x128 (s := S32x1) (View.readAt (Elt F) (Memref.whole cc0_scratch5).view (Rect.unit (s := S1024x1152) off' ![32, 1] inb').toLoadRect (EE E0 5 c)) broadcasts_S32x1_S32x128 x)))
    (x : S32x128.Idx) : w x = CTX E0 c ((Rect.unit (s := S32x1024) off6 ![32, 128] inb6).emb x) := by
  subst ho ho' ho6
  rw [hw]
  have hx0 : (x (0 : Fin 2)).val < 32 := (x (0 : Fin 2)).isLt
  have hx1 : (x (1 : Fin 2)).val < 128 := (x (1 : Fin 2)).isLt
  have hsg := sg_lt c
  unfold CTX
  have e0 : ((Rect.unit (s := S32x1024) ![0, 128 * h] ![32, 128] inb6).emb x (0 : Fin 2)).val = (x (0 : Fin 2)).val := by
    rw [Rect.emb_apply]; show 0 + 1 * _ = _; omega
  have e1 : ((Rect.unit (s := S32x1024) ![0, 128 * h] ![32, 128] inb6).emb x (1 : Fin 2)).val = 128 * h + (x (1 : Fin 2)).val := by
    rw [Rect.emb_apply]; show 128 * h + 1 * _ = _; omega
  rw [e0, e1]
  refine congrArg trS (congrArg₂ dvS ?_ ?_)
  · refine congrArg (EE E0 5 c) ?_
    refine (ix5_eq _ _ _ ?_ ?_).symm
    · show 32 * sg c + 1 * (x (0 : Fin 2)).val = _; omega
    · show 128 * h + 1 * (x (1 : Fin 2)).val = _; omega
  · refine (broadcastTo_apply _ _ x (fun a => match a with | ⟨0, _⟩ => ⟨(x (0 : Fin 2)).val, hx0⟩ | ⟨1, _⟩ => ⟨0, Nat.one_pos⟩) ?_).trans ?_
    · intro a; fin_cases a <;> rfl
    refine congrArg (EE E0 5 c) ?_
    refine (ix5_eq _ _ _ ?_ ?_).symm
    · show 32 * sg c + 1 * (x (0 : Fin 2)).val = _; omega
    · show 1024 + h + 1 * 0 = _
      rw [show (128 * h + (x (1 : Fin 2)).val) / 128 = h from by omega]
      omega

/-- The rows of the gathered buffer device `c` fills itself. -/
theorem own_val (c : Dev nD) {n : ℕ} (hn : n = 32) {off : Fin 2 → ℕ} (ho : off = ![32 * sg c, 0]) {inb : ∀ a : Fin 2, off a + ![n, 1024] a ≤ S1024x1024.size a}
    (f : Vec F S1024x1024 .bf16) (w : (⟨2, ![n, 1024]⟩ : Shape).Idx → Elt F .bf16) (hw : ∀ (x : (⟨2, ![n, 1024]⟩ : Shape).Idx) (y : S32x1024.Idx), (x (0 : Fin 2)).val = (y (0 : Fin 2)).val → (x (1 : Fin 2)).val = (y (1 : Fin 2)).val → w x = CH E0 WB c y) (i : S1024x1024.Idx) (hi : i ∈ rowsF (d := S1024x1024.size) (blo 0 c) 32) :
    (Memref.whole cc0_scratch9).view.writes (Elt F) f [⟨Rect.unit (s := S1024x1024) off ![n, 1024] inb, w⟩] i = OP E0 WB i := by
  have hi' := mem_rowsF.mp hi
  have hb : blo 0 c = 32 * sg c := by unfold blo; simp
  rw [hb] at hi'
  have hi1 : (i (1 : Fin 2)).val < 1024 := (i (1 : Fin 2)).isLt
  let x : (⟨2, ![n, 1024]⟩ : Shape).Idx := loc2 ((i (0 : Fin 2)).val - 32 * sg c) (i (1 : Fin 2)).val (by omega) hi1
  refine (View.read_writes_cons_rows_of_mem (d := S1024x1024.size) (Memref.whole cc0_scratch9).view f inb w [] i x ho (by show _ = _ + ((i (0 : Fin 2)).val - 32 * sg c); omega) rfl).trans ?_
  show w x = CH E0 WB (sgInv ((i (0 : Fin 2)).val / 32)) (ix32 (i (0 : Fin 2)).val (i (1 : Fin 2)).val)
  rw [show (i (0 : Fin 2)).val / 32 = sg c from by omega, sgInv_sg]
  refine hw x _ ?_ (Nat.mod_eq_of_lt hi1).symm
  show (i (0 : Fin 2)).val - 32 * sg c = (i (0 : Fin 2)).val % 32
  omega

theorem acc9 {off : Fin 2 → ℕ} {n lo : ℕ} (ho : off = ![lo, 0]) {inb : ∀ a : Fin 2, off a + ![n, 1024] a ≤ S1024x1024.size a} :
    ((Memref.whole cc0_scratch9).access (Rect.unit (s := S1024x1024) off ![n, 1024] inb)).setOn Finset.univ = rowsF (d := S1024x1024.size) lo n :=
  (View.set_slice_whole cc0_scratch9 _).trans (rect_rows ho rfl)

theorem load9 {off : Fin 2 → ℕ} {n lo : ℕ} (ho : off = ![lo, 0]) {inb : ∀ a : Fin 2, off a + ![n, 1024] a ≤ S1024x1024.size a} :
    (Memref.whole cc0_scratch9).view.setOn (Rect.unit (s := S1024x1024) off ![n, 1024] inb).toLoadRect.set = rowsF (d := S1024x1024.size) lo n := by
  rw [← rect_rows (d := S1024x1024.size) (inb := inb) ho rfl]
  exact Finset.map_refl

end Cert.KernelIdealProof

end
-- ==== Proof.Rs.lean ====
module

public import proofs.«01_k».proof.Proof.Rows2
public import Idealize.ShloMosaic.Lib.Pipeline.Value

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (E0 : Dev nD → Vec F S1024x1152 .f32) (WB : Dev nD → Vec F S1024x1024 .bf16)

/-- What device `c` brings to reduction round `k`. -/
def rsG (k : Fin 5) (c : Dev nD) : sProp 𝕄 :=
  iprop(atPos ER (dcell (iRS k) c) 0 ∅ 0 ∗ atPos ER (dcell (iRR k) c) 0 ∅ 0 ∗ dutyTok ER (dcell (iRS k) c) 0 0 ∗ dutyTok ER (dcell (iRR k) (peer k c)) 0 0
    ∗ cred (tallyAt (dcell (iRR k) c) () (amt (iRR k))) ∗ (∃ f, r8 (peer k c) (ofr k) (nr k) f))

/-- What it has after it. -/
def rsZ (k : Fin 5) (c : Dev nD) : sProp 𝕄 :=
  iprop(semVal (dcell (iRS k) c) 0 ∗ semVal (dcell (iRR k) c) 0 ∗ ∃ f, r8 (F := F) c (ofr k) (nr k) f)

variable (K : Dev nD × Fin 21 → ℕ)

theorem stage_pack (k : Fin 5) (kv : ℕ) (hk : kv = k.val) (c : Dev nD) {off : Fin 2 → ℕ} {n : ℕ} (ho : off = ![nr k * (32 * sg (peer k c) / nr k), 0]) (hn : n = nr k)
    {inb : ∀ a : Fin 2, off a + ![n, 1152] a ≤ S1024x1152.size a} {inb7 : ∀ a : Fin 2, ![0, 0] a + ![n, 1152] a ≤ S512x1152.size a}
    (f7 : Vec F S512x1152 .bf16) (w : (⟨2, ![n, 1152]⟩ : Shape).Idx → Elt F .bf16)
    (hw : ∀ x, w x = trS (View.readAt (Elt F) (Memref.whole cc0_scratch5).view (Rect.unit (s := S1024x1152) off ![n, 1152] inb).toLoadRect (EE E0 kv c) x)) :
    (pt c (Memref.whole cc0_scratch7) ((Memref.whole cc0_scratch7).view.writes (Elt F) f7 [⟨Rect.unit (s := S512x1152) ![0, 0] ![n, 1152] inb7, w⟩]) : sProp 𝕄)
      ⊢ iprop(∃ g : Vec F S512x1152 .bf16, ⌜∀ i : S512x1152.Idx, (i (0 : Fin 2)).val < nr k → g i = trS (EE E0 k c (ix5 (nr k * (32 * sg (peer k c) / nr k) + (i (0 : Fin 2)).val) (i (1 : Fin 2)).val))⌝ ∗ pt c (Memref.whole cc0_scratch7) g) := by
  subst hk
  iintro H
  iexists _
  isplitr
  · ipureintro; exact stage_val E0 k c ho hn (inb7 := inb7) f7 w hw
  iexact H

/-- The eight heads' column blocks fill the row block. -/
theorem ctx_cover (y : S32x1024.Idx) (w0 w1 w2 w3 w4 w5 w6 w7 : S32x128.Idx → Elt F .bf16) :
    ∃ p ∈ ([⟨Rect.unit ![0, 896] S32x128.size inb_S32x1024_S32x128_0_896, w7⟩, ⟨Rect.unit ![0, 768] S32x128.size inb_S32x1024_S32x128_0_768, w6⟩, ⟨Rect.unit ![0, 640] S32x128.size inb_S32x1024_S32x128_0_640, w5⟩, ⟨Rect.unit ![0, 512] S32x128.size inb_S32x1024_S32x128_0_512, w4⟩, ⟨Rect.unit ![0, 384] S32x128.size inb_S32x1024_S32x128_0_384, w3⟩, ⟨Rect.unit ![0, 256] S32x128.size inb_S32x1024_S32x128_0_256, w2⟩, ⟨Rect.unit ![0, 128] S32x128.size inb_S32x1024_S32x128_0_128, w1⟩, ⟨Rect.unit ![0, 0] S32x128.size inb_S32x1024_S32x128_0_0, w0⟩] : List (View.Piece (Elt F) S32x1024 .bf16)), y ∈ p.1.set := by
  have h0 : (y (0 : Fin 2)).val < 32 := (y (0 : Fin 2)).isLt
  have h1 : (y (1 : Fin 2)).val < 1024 := (y (1 : Fin 2)).isLt
  have key : ∀ h : ℕ, 128 * h ≤ (y (1 : Fin 2)).val → (y (1 : Fin 2)).val < 128 * h + 128 → ∀ {off : Fin 2 → ℕ} (_ : off = ![0, 128 * h]) {inb : ∀ a : Fin 2, off a + ![32, 128] a ≤ S32x1024.size a},
      y ∈ (Rect.unit (s := S32x1024) off ![32, 128] inb).set := by
    intro h ha hb off ho inb
    subst ho
    refine Rect.mem_set_unit.mpr fun a => ?_
    fin_cases a
    · exact ⟨Nat.zero_le _, by show (y (0 : Fin 2)).val < 0 + 32; omega⟩
    · exact ⟨ha, hb⟩
  simp only [List.exists_mem_cons_iff]
  rcases (by omega : (y (1 : Fin 2)).val / 128 = 7 ∨ (y (1 : Fin 2)).val / 128 = 6 ∨ (y (1 : Fin 2)).val / 128 = 5 ∨ (y (1 : Fin 2)).val / 128 = 4 ∨ (y (1 : Fin 2)).val / 128 = 3 ∨ (y (1 : Fin 2)).val / 128 = 2 ∨ (y (1 : Fin 2)).val / 128 = 1 ∨ (y (1 : Fin 2)).val / 128 = 0) with h | h | h | h | h | h | h | h
  · exact Or.inl (key 7 (by omega) (by omega) rfl)
  · exact Or.inr (Or.inl (key 6 (by omega) (by omega) rfl))
  · exact Or.inr (Or.inr (Or.inl (key 5 (by omega) (by omega) rfl)))
  · exact Or.inr (Or.inr (Or.inr (Or.inl (key 4 (by omega) (by omega) rfl))))
  · exact Or.inr (Or.inr (Or.inr (Or.inr (Or.inl (key 3 (by omega) (by omega) rfl)))))
  · exact Or.inr (Or.inr (Or.inr (Or.inr (Or.inr (Or.inl (key 2 (by omega) (by omega) rfl))))))
  · exact Or.inr (Or.inr (Or.inr (Or.inr (Or.inr (Or.inr (Or.inl (key 1 (by omega) (by omega) rfl)))))))
  · exact Or.inr (Or.inr (Or.inr (Or.inr (Or.inr (Or.inr (Or.inr (Or.inl (key 0 (by omega) (by omega) rfl))))))))

theorem off27_blo (c : Dev nD) : k0_off27 c = ![blo 0 c, 0] := by rw [off27_eq]; unfold blo; simp

theorem own_eq (c : Dev nD) {inb : ∀ a : Fin 2, ![0, 0] a + S1024x1024.size a ≤ S1024x1024.size a} (x y : S32x1024.Idx) (h0 : (x (0 : Fin 2)).val = (y (0 : Fin 2)).val) (h1 : (x (1 : Fin 2)).val = (y (1 : Fin 2)).val) :
    k0_pay185 (CTX E0 c) (View.readAt (Elt F) (Memref.whole cc0_scratch4).view (Rect.unit (s := S1024x1024) ![0, 0] S1024x1024.size inb).toLoadRect (WB c)) x = CH E0 WB c y := by
  have hxy : x = y := by funext a; fin_cases a; exacts [Fin.ext h0, Fin.ext h1]
  subst hxy
  refine congrArg (fun u => k0_pay185 (CTX E0 c) u x) ?_
  funext z
  exact congrArg (WB c) (emb_row (d := S1024x1024.size) (lo := 0) rfl z z (Nat.zero_add _).symm rfl)

theorem own_pack (c : Dev nD) {n : ℕ} (hn : n = 32) {off : Fin 2 → ℕ} (ho : off = ![32 * sg c, 0]) {inb : ∀ a : Fin 2, off a + ![n, 1024] a ≤ S1024x1024.size a}
    (f : Vec F S1024x1024 .bf16) (w : (⟨2, ![n, 1024]⟩ : Shape).Idx → Elt F .bf16) (hw : ∀ (x : (⟨2, ![n, 1024]⟩ : Shape).Idx) (y : S32x1024.Idx), (x (0 : Fin 2)).val = (y (0 : Fin 2)).val → (x (1 : Fin 2)).val = (y (1 : Fin 2)).val → w x = CH E0 WB c y) :
    ((Memref.whole cc0_scratch9).view.loc (c : Thread nD τ) ↦[rowsF (d := S1024x1024.size) (blo 0 c) 32]{fullShare} (((Memref.whole cc0_scratch9).access (Rect.unit (s := S1024x1024) off ![n, 1024] inb)).write (Elt F) f w Finset.univ) : sProp 𝕄)
      ⊢ r9 c (blo 0 c) 32 fullShare (OP E0 WB) :=
  Entails.of_eq (pointsTo_congr fun i hi => own_val E0 WB c hn ho (inb := inb) f w hw i hi)

theorem load8 (k : Fin 5) {off : Fin 2 → ℕ} (ho : off = ![ofr k, 0]) {n : ℕ} (hn : n = nr k) {inb : ∀ a : Fin 2, off a + ![n, 1152] a ≤ S992x1152.size a} :
    (Memref.whole cc0_scratch8).view.setOn (Rect.unit (s := S992x1152) off ![n, 1152] inb).toLoadRect.set ⊆ rowsF (d := S992x1152.size) (ofr k) (nr k) := by
  subst hn
  have h := rect_rows (d := S992x1152.size) (inb := inb) ho rfl
  intro i hi
  rw [← h]
  obtain ⟨y, hy, rfl⟩ := Finset.mem_map.mp hi
  exact hy

theorem acc_pack (k : Fin 5) (kv : ℕ) (hk : kv = k.val) (c : Dev nD) {off off8 : Fin 2 → ℕ} {n : ℕ} (ho : off = ![nr k * (32 * sg c / nr k), 0]) (ho8 : off8 = ![ofr k, 0]) (hn : n = nr k)
    {inb inb' : ∀ a : Fin 2, off a + ![n, 1152] a ≤ S1024x1152.size a} {inb8 : ∀ a : Fin 2, off8 a + ![n, 1152] a ≤ S992x1152.size a}
    (g8 : Vec F S992x1152 .bf16) (h8 : RP E0 k c g8) (w : (⟨2, ![n, 1152]⟩ : Shape).Idx → Elt F .f32)
    (hw : ∀ x, w x = adS (View.readAt (Elt F) (Memref.whole cc0_scratch5).view (Rect.unit (s := S1024x1152) off ![n, 1152] inb').toLoadRect (EE E0 kv c) x)
      (exS (View.readAt (Elt F) (Memref.whole cc0_scratch8).view (Rect.unit (s := S992x1152) off8 ![n, 1152] inb8).toLoadRect g8 x))) :
    (pt c (Memref.whole cc0_scratch5) ((Memref.whole cc0_scratch5).view.writes (Elt F) (EE E0 kv c) [⟨Rect.unit (s := S1024x1152) off ![n, 1152] inb, w⟩]) : sProp 𝕄)
      ⊢ pt c (Memref.whole cc0_scratch5) (EE E0 (kv + 1) c) := by
  subst hk
  rw [acc_val E0 k c ho ho8 hn g8 h8 w hw]

set_option maxHeartbeats 1000000 in
theorem rs_seg (c : Dev nD) (v2 a b d e : BitVec 32) (Kn : BitVec 32 → Prog (TpuEff nD τ sig (Elt F) Λ₀ .tc) PUnit) (Q : PUnit → sProp 𝕄) (f6 : Vec F S32x1024 .bf16) (f7 : Vec F S512x1152 .bf16) (f9 : Vec F S1024x1024 .bf16) :
    iprop(records E0 WB K ∗ levAts L lv ∗ pt c (Memref.whole cc0_scratch4) (WB c) ∗ pt c (Memref.whole cc0_scratch5) (EE E0 0 c) ∗ pt c (Memref.whole cc0_scratch6) f6 ∗ pt c (Memref.whole cc0_scratch7) f7
        ∗ ow c 10 ∗ r9 c (blo 0 c) 32 fullShare f9 ∗ (rsG 0 c ∗ rsG 1 c ∗ rsG 2 c ∗ rsG 3 c ∗ rsG 4 c)
        ∗ (∀ v, (pt c (Memref.whole cc0_scratch4) (WB c) ∗ (∃ f, pt c (Memref.whole cc0_scratch5) f) ∗ (∃ f, pt c (Memref.whole cc0_scratch6) f) ∗ (∃ f, pt c (Memref.whole cc0_scratch7) f)
            ∗ ow c 5 ∗ r9 c (blo 0 c) 32 fullShare (OP E0 WB) ∗ (rsZ (F := F) 0 c ∗ rsZ (F := F) 1 c ∗ rsZ (F := F) 2 c ∗ rsZ (F := F) 3 c ∗ rsZ (F := F) 4 c))
          -∗ wp frame (wpE (defs₀ (F := F)) 𝒱₀ (c : Thread nD τ) none) Set.univ (Kn v) Q))
      ⊢ wp frame (wpE (defs₀ (F := F)) 𝒱₀ (c : Thread nD τ) none) Set.univ (rsProg c v2 a b d e Kn) Q := by
  unfold rsProg rsG
  iintro ⟨#HR, #Hlev, H4, H5, H6, H7, HO, H9, ⟨G0, G1, G2, G3, G4⟩, Hk⟩
  -- round 0
  sl_exec
  icases G0 with ⟨Hp1, Hp2, Ht1, Ht2, Hc2, H8⟩
  ihave H7 := (stage_pack E0 0 0 rfl c (n := 512) (off1_eq c) (by decide) _ _ (fun x => by simp only [k0_pay162, k0_pay163, shapeCast_self]; rfl)) $$ H7
  icases H7 with ⟨%g7, %hg7, H7⟩
  iapply (wp_rs_tx E0 WB K c 0 _ (dev6_eq c) 9 rfl (n := 512) (by decide) (by decide) rfl rfl (by decide) g7 hg7) $$ [H7 H8 HO Ht1 Ht2]
  · isplitr; · iexact HR
    isplitl [H7]; · iexact H7
    isplitl [H8]; · iexact H8
    isplitl [HO]; · iexact HO
    isplitl [Ht1]; · iexact Ht1
    iexact Ht2
  iintro ⟨Hc1, HO, H7⟩
  sl_exec
  iapply (wp_rx E0 WB K c (iRS 0) 9 rfl rfl (mayWait_RS 0 c)) $$ [Hc1 HO Hp1]
  · isplitr; · iexact HR
    isplitr; · iexact Hlev
    isplitl [Hc1]; · iexact Hc1
    isplitl [HO]; · iexact HO
    iexact Hp1
  iintro ⟨HO, Z0a, Hs⟩
  ihave Hs := (Entails.of_eq (dpay_RS E0 WB 0 c)) $$ Hs
  ihave H7 := H7 $$ Hs
  icases H7 with ⟨%g7_0, H7⟩
  sl_exec
  iapply (wp_rx E0 WB K c (iRR 0) 9 rfl rfl (mayWait_RR 0 c)) $$ [Hc2 HO Hp2]
  · isplitr; · iexact HR
    isplitr; · iexact Hlev
    isplitl [Hc2]; · iexact Hc2
    isplitl [HO]; · iexact HO
    iexact Hp2
  iintro ⟨HO, Z0b, Hr⟩
  ihave Hr := (Entails.of_eq (dpay_RR E0 WB 0 c)) $$ Hr
  unfold rsR r8
  icases Hr with ⟨%g8_0, %h8_0, H8⟩
  sl_exec
  iapply (wp_load 𝒱₀ (c : Thread nD τ) none Set.univ (m := Memref.whole cc0_scratch8) (load8 0 (by rfl) (n := 512) (by decide))) $$ H8
  iintro H8
  set_option sl_exec.maxSteps 2 in sl_exec
  irename H8 => H8_0
  ihave H5 := (acc_pack E0 0 0 rfl c (n := 512) (off8 := ![0, 0]) (off2_eq c) (by rfl) (by decide) g8_0 h8_0 _ (fun x => by simp only [k0_pay162, k0_pay163, shapeCast_self]; rfl)) $$ H5
  -- round 1
  sl_exec
  icases G1 with ⟨Hp1, Hp2, Ht1, Ht2, Hc2, H8⟩
  ihave H7 := (stage_pack E0 1 1 rfl c (n := 256) (off3_eq c) (by decide) _ _ (fun x => by simp only [k0_pay164, k0_pay165, shapeCast_self]; rfl)) $$ H7
  icases H7 with ⟨%g7, %hg7, H7⟩
  iapply (wp_rs_tx E0 WB K c 1 _ (dev7_eq c) 8 rfl (n := 256) (by decide) (by decide) rfl rfl (by decide) g7 hg7) $$ [H7 H8 HO Ht1 Ht2]
  · isplitr; · iexact HR
    isplitl [H7]; · iexact H7
    isplitl [H8]; · iexact H8
    isplitl [HO]; · iexact HO
    isplitl [Ht1]; · iexact Ht1
    iexact Ht2
  iintro ⟨Hc1, HO, H7⟩
  sl_exec
  iapply (wp_rx E0 WB K c (iRS 1) 8 rfl rfl (mayWait_RS 1 c)) $$ [Hc1 HO Hp1]
  · isplitr; · iexact HR
    isplitr; · iexact Hlev
    isplitl [Hc1]; · iexact Hc1
    isplitl [HO]; · iexact HO
    iexact Hp1
  iintro ⟨HO, Z1a, Hs⟩
  ihave Hs := (Entails.of_eq (dpay_RS E0 WB 1 c)) $$ Hs
  ihave H7 := H7 $$ Hs
  icases H7 with ⟨%g7_1, H7⟩
  sl_exec
  iapply (wp_rx E0 WB K c (iRR 1) 8 rfl rfl (mayWait_RR 1 c)) $$ [Hc2 HO Hp2]
  · isplitr; · iexact HR
    isplitr; · iexact Hlev
    isplitl [Hc2]; · iexact Hc2
    isplitl [HO]; · iexact HO
    iexact Hp2
  iintro ⟨HO, Z1b, Hr⟩
  ihave Hr := (Entails.of_eq (dpay_RR E0 WB 1 c)) $$ Hr
  unfold rsR r8
  icases Hr with ⟨%g8_1, %h8_1, H8⟩
  sl_exec
  iapply (wp_load 𝒱₀ (c : Thread nD τ) none Set.univ (m := Memref.whole cc0_scratch8) (load8 1 (by rfl) (n := 256) (by decide))) $$ H8
  iintro H8
  set_option sl_exec.maxSteps 2 in sl_exec
  irename H8 => H8_1
  ihave H5 := (acc_pack E0 1 1 rfl c (n := 256) (off8 := ![512, 0]) (off4_eq c) (by rfl) (by decide) g8_1 h8_1 _ (fun x => by simp only [k0_pay164, k0_pay165, shapeCast_self]; rfl)) $$ H5
  -- round 2
  sl_exec
  icases G2 with ⟨Hp1, Hp2, Ht1, Ht2, Hc2, H8⟩
  ihave H7 := (stage_pack E0 2 2 rfl c (n := 128) (off5_eq c) (by decide) _ _ (fun x => by simp only [k0_pay166, k0_pay167, k0_pay168, shapeCast_self]; rfl)) $$ H7
  icases H7 with ⟨%g7, %hg7, H7⟩
  iapply (wp_rs_tx E0 WB K c 2 _ (dev8_eq c) 7 rfl (n := 128) (by decide) (by decide) rfl rfl (by decide) g7 hg7) $$ [H7 H8 HO Ht1 Ht2]
  · isplitr; · iexact HR
    isplitl [H7]; · iexact H7
    isplitl [H8]; · iexact H8
    isplitl [HO]; · iexact HO
    isplitl [Ht1]; · iexact Ht1
    iexact Ht2
  iintro ⟨Hc1, HO, H7⟩
  sl_exec
  iapply (wp_rx E0 WB K c (iRS 2) 7 rfl rfl (mayWait_RS 2 c)) $$ [Hc1 HO Hp1]
  · isplitr; · iexact HR
    isplitr; · iexact Hlev
    isplitl [Hc1]; · iexact Hc1
    isplitl [HO]; · iexact HO
    iexact Hp1
  iintro ⟨HO, Z2a, Hs⟩
  ihave Hs := (Entails.of_eq (dpay_RS E0 WB 2 c)) $$ Hs
  ihave H7 := H7 $$ Hs
  icases H7 with ⟨%g7_2, H7⟩
  sl_exec
  iapply (wp_rx E0 WB K c (iRR 2) 7 rfl rfl (mayWait_RR 2 c)) $$ [Hc2 HO Hp2]
  · isplitr; · iexact HR
    isplitr; · iexact Hlev
    isplitl [Hc2]; · iexact Hc2
    isplitl [HO]; · iexact HO
    iexact Hp2
  iintro ⟨HO, Z2b, Hr⟩
  ihave Hr := (Entails.of_eq (dpay_RR E0 WB 2 c)) $$ Hr
  unfold rsR r8
  icases Hr with ⟨%g8_2, %h8_2, H8⟩
  sl_exec
  iapply (wp_load 𝒱₀ (c : Thread nD τ) none Set.univ (m := Memref.whole cc0_scratch8) (load8 2 (by rfl) (n := 128) (by decide))) $$ H8
  iintro H8
  set_option sl_exec.maxSteps 5 in sl_exec
  irename H8 => H8_2
  ihave H5 := (acc_pack E0 2 2 rfl c (n := 128) (off8 := ![768, 0]) (off6_eq c) (by rfl) (by decide) g8_2 h8_2 _ (fun x => by simp only [k0_pay166, k0_pay167, k0_pay168, shapeCast_self]; rfl)) $$ H5
  -- round 3
  sl_exec
  icases G3 with ⟨Hp1, Hp2, Ht1, Ht2, Hc2, H8⟩
  ihave H7 := (stage_pack E0 3 3 rfl c (n := 64) (off7_eq c) (by decide) _ _ (fun x => by simp only [k0_pay169, k0_pay170, k0_pay171, k0_pay172, shapeCast_self]; rfl)) $$ H7
  icases H7 with ⟨%g7, %hg7, H7⟩
  iapply (wp_rs_tx E0 WB K c 3 _ (dev9_eq c) 6 rfl (n := 64) (by decide) (by decide) rfl rfl (by decide) g7 hg7) $$ [H7 H8 HO Ht1 Ht2]
  · isplitr; · iexact HR
    isplitl [H7]; · iexact H7
    isplitl [H8]; · iexact H8
    isplitl [HO]; · iexact HO
    isplitl [Ht1]; · iexact Ht1
    iexact Ht2
  iintro ⟨Hc1, HO, H7⟩
  sl_exec
  iapply (wp_rx E0 WB K c (iRS 3) 6 rfl rfl (mayWait_RS 3 c)) $$ [Hc1 HO Hp1]
  · isplitr; · iexact HR
    isplitr; · iexact Hlev
    isplitl [Hc1]; · iexact Hc1
    isplitl [HO]; · iexact HO
    iexact Hp1
  iintro ⟨HO, Z3a, Hs⟩
  ihave Hs := (Entails.of_eq (dpay_RS E0 WB 3 c)) $$ Hs
  ihave H7 := H7 $$ Hs
  icases H7 with ⟨%g7_3, H7⟩
  sl_exec
  iapply (wp_rx E0 WB K c (iRR 3) 6 rfl rfl (mayWait_RR 3 c)) $$ [Hc2 HO Hp2]
  · isplitr; · iexact HR
    isplitr; · iexact Hlev
    isplitl [Hc2]; · iexact Hc2
    isplitl [HO]; · iexact HO
    iexact Hp2
  iintro ⟨HO, Z3b, Hr⟩
  ihave Hr := (Entails.of_eq (dpay_RR E0 WB 3 c)) $$ Hr
  unfold rsR r8
  icases Hr with ⟨%g8_3, %h8_3, H8⟩
  sl_exec
  iapply (wp_load 𝒱₀ (c : Thread nD τ) none Set.univ (m := Memref.whole cc0_scratch8) (load8 3 (by rfl) (n := 64) (by decide))) $$ H8
  iintro H8
  set_option sl_exec.maxSteps 4 in sl_exec
  irename H8 => H8_3
  ihave H5 := (acc_pack E0 3 3 rfl c (n := 64) (off8 := ![896, 0]) (off8_eq c) (by rfl) (by decide) g8_3 h8_3 _ (fun x => by delta rs_seg.sl.v1113; simp only [k0_pay169, k0_pay170, k0_pay171, k0_pay172, shapeCast_self]; rfl)) $$ H5
  -- round 4
  sl_exec
  icases G4 with ⟨Hp1, Hp2, Ht1, Ht2, Hc2, H8⟩
  ihave H7 := (stage_pack E0 4 4 rfl c (n := 32) (off9_eq c) (by decide) _ _ (fun x => by simp only [k0_pay173, k0_pay174, shapeCast_self]; rfl)) $$ H7
  icases H7 with ⟨%g7, %hg7, H7⟩
  iapply (wp_rs_tx E0 WB K c 4 _ (dev10_eq c) 5 rfl (n := 32) (by decide) (by decide) rfl rfl (by decide) g7 hg7) $$ [H7 H8 HO Ht1 Ht2]
  · isplitr; · iexact HR
    isplitl [H7]; · iexact H7
    isplitl [H8]; · iexact H8
    isplitl [HO]; · iexact HO
    isplitl [Ht1]; · iexact Ht1
    iexact Ht2
  iintro ⟨Hc1, HO, H7⟩
  sl_exec
  iapply (wp_rx E0 WB K c (iRS 4) 5 rfl rfl (mayWait_RS 4 c)) $$ [Hc1 HO Hp1]
  · isplitr; · iexact HR
    isplitr; · iexact Hlev
    isplitl [Hc1]; · iexact Hc1
    isplitl [HO]; · iexact HO
    iexact Hp1
  iintro ⟨HO, Z4a, Hs⟩
  ihave Hs := (Entails.of_eq (dpay_RS E0 WB 4 c)) $$ Hs
  ihave H7 := H7 $$ Hs
  icases H7 with ⟨%g7_4, H7⟩
  sl_exec
  iapply (wp_rx E0 WB K c (iRR 4) 5 rfl rfl (mayWait_RR 4 c)) $$ [Hc2 HO Hp2]
  · isplitr; · iexact HR
    isplitr; · iexact Hlev
    isplitl [Hc2]; · iexact Hc2
    isplitl [HO]; · iexact HO
    iexact Hp2
  iintro ⟨HO, Z4b, Hr⟩
  ihave Hr := (Entails.of_eq (dpay_RR E0 WB 4 c)) $$ Hr
  unfold rsR r8
  icases Hr with ⟨%g8_4, %h8_4, H8⟩
  sl_exec
  iapply (wp_load 𝒱₀ (c : Thread nD τ) none Set.univ (m := Memref.whole cc0_scratch8) (load8 4 (by rfl) (n := 32) (by decide))) $$ H8
  iintro H8
  set_option sl_exec.maxSteps 2 in sl_exec
  irename H8 => H8_4
  ihave H5 := (acc_pack E0 4 4 rfl c (n := 32) (off8 := ![960, 0]) (off10_eq c) (by rfl) (by decide) g8_4 h8_4 _ (fun x => by simp only [k0_pay173, k0_pay174, shapeCast_self]; rfl)) $$ H5
  sl_exec
  have hctx : rs_seg.sl.v1279 E0 c = CTX E0 c := by
    delta rs_seg.sl.v1279
    delta rs_seg.sl.H6_8
    funext y
    refine (read_blocks (Memref.whole cc0_scratch6).view _ (CTX E0 c) _ ?_ _ ?_).trans (congrArg (CTX E0 c) (emb_row (d := S32x1024.size) (lo := 0) rfl y y (Nat.zero_add _).symm rfl))
    · exact ⟨
        ctx_piece (inb6 := inb_S32x1024_S32x128_0_896) E0 c 7 (by decide) (off25_eq c) (off26_eq c) rfl _ (fun x => by simp only [k0_pay184, shapeCast_self]; rfl),
        ctx_piece (inb6 := inb_S32x1024_S32x128_0_768) E0 c 6 (by decide) (off23_eq c) (off24_eq c) rfl _ (fun x => by simp only [k0_pay183, shapeCast_self]; rfl),
        ctx_piece (inb6 := inb_S32x1024_S32x128_0_640) E0 c 5 (by decide) (off21_eq c) (off22_eq c) rfl _ (fun x => by delta rs_seg.sl.r_9; simp only [k0_pay181, k0_pay182, shapeCast_self]; rfl),
        ctx_piece (inb6 := inb_S32x1024_S32x128_0_512) E0 c 4 (by decide) (off19_eq c) (off20_eq c) rfl _ (fun x => by simp only [k0_pay180, shapeCast_self]; rfl),
        ctx_piece (inb6 := inb_S32x1024_S32x128_0_384) E0 c 3 (by decide) (off17_eq c) (off18_eq c) rfl _ (fun x => by simp only [k0_pay179, shapeCast_self]; rfl),
        ctx_piece (inb6 := inb_S32x1024_S32x128_0_256) E0 c 2 (by decide) (off15_eq c) (off16_eq c) rfl _ (fun x => by delta rs_seg.sl.r_7 rs_seg.sl.r_8; simp only [k0_pay177, k0_pay178, shapeCast_self]; rfl),
        ctx_piece (inb6 := inb_S32x1024_S32x128_0_128) E0 c 1 (by decide) (off13_eq c) (off14_eq c) rfl _ (fun x => by simp only [k0_pay176, shapeCast_self]; rfl),
        ctx_piece (inb6 := inb_S32x1024_S32x128_0_0) E0 c 0 (by decide) (off11_eq c) (off12_eq c) rfl _ (fun x => by simp only [k0_pay175, shapeCast_self]; rfl), trivial⟩
    · rw [show (Rect.unit (s := S32x1024) ![0, 0] S32x1024.size inb_S32x1024_S32x1024_0_0).toLoadRect.idx y = y from emb_row (d := S32x1024.size) (lo := 0) rfl y y (Nat.zero_add _).symm rfl]
      exact ctx_cover y _ _ _ _ _ _ _ _
  iapply (wp_load 𝒱₀ (c : Thread nD τ) none Set.univ (m := Memref.whole cc0_scratch9) (load9 (n := 32) (lo := blo 0 c) (off27_blo c)).le) $$ H9
  iintro H9
  simp only [Prog.lift, Prog.bind_op, Prog.bind_ret, Prog.pure_eq_ret]
  iapply (wp_store 𝒱₀ (c : Thread nD τ) none Set.univ (m := Memref.whole cc0_scratch9) (r := Rect.unit (s := S1024x1024) (k0_off27 c) S32x1024.size (k0_off27_inb c)) (Mk := Finset.univ) (f := f9) (acc9 (n := 32) (lo := blo 0 c) (off27_blo c)).le) $$ H9
  iintro H9
  rw [hctx]
  ihave H9 := (own_pack E0 WB c (n := 32) rfl (off27_eq c) f9 _ (fun x y h0 h1 => own_eq E0 WB c x y h0 h1)) $$ H9
  rw [wp_ret]
  imodintro
  iapply Hk $$ %_
  isplitl [H4]; · iexact H4
  isplitl [H5]; · iexists _; iexact H5
  isplitl [H6]; · iexists _; iexact H6
  isplitl [H7]; · iexists _; iexact H7
  isplitl [HO]; · iexact HO
  isplitl [H9]; · iexact H9
  isplitl [Z0a Z0b H8_0]
  · unfold rsZ
    isplitl [Z0a]; · iexact Z0a
    isplitl [Z0b]; · iexact Z0b
    iexists _; unfold r8; iexact H8_0
  isplitl [Z1a Z1b H8_1]
  · unfold rsZ
    isplitl [Z1a]; · iexact Z1a
    isplitl [Z1b]; · iexact Z1b
    iexists _; unfold r8; iexact H8_1
  isplitl [Z2a Z2b H8_2]
  · unfold rsZ
    isplitl [Z2a]; · iexact Z2a
    isplitl [Z2b]; · iexact Z2b
    iexists _; unfold r8; iexact H8_2
  isplitl [Z3a Z3b H8_3]
  · unfold rsZ
    isplitl [Z3a]; · iexact Z3a
    isplitl [Z3b]; · iexact Z3b
    iexists _; unfold r8; iexact H8_3
  · unfold rsZ
    isplitl [Z4a]; · iexact Z4a
    isplitl [Z4b]; · iexact Z4b
    iexists _; unfold r8; iexact H8_4

end Cert.KernelIdealProof

end
-- ==== Proof.Ag1.lean ====
module

public import proofs.«01_k».proof.Proof.Rs

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (E0 : Dev nD → Vec F S1024x1152 .f32) (WB : Dev nD → Vec F S1024x1024 .bf16)

/-! ## The gathered blocks and their shares -/

theorem blo_pair : ∀ (j : Fin 5) (c : Dev nD),
    (blo j.val c = blo (j.val + 1) c ∧ blo j.val (peer (4 - j.val) c) = blo (j.val + 1) c + 32 * 2 ^ j.val)
      ∨ (blo j.val (peer (4 - j.val) c) = blo (j.val + 1) c ∧ blo j.val c = blo (j.val + 1) c + 32 * 2 ^ j.val) := by decide +kernel

theorem blo_five : ∀ c : Dev nD, blo 5 c = 0 := by decide +kernel

theorem rows_two (lo n : ℕ) : rowsF (d := ![1024, 1024]) lo (n + n) = rowsF lo n ∪ rowsF (lo + n) n := by
  ext i
  rw [Finset.mem_union, mem_rowsF, mem_rowsF, mem_rowsF]
  omega

theorem rows_apart (lo n : ℕ) : Disjoint (rowsF (d := ![1024, 1024]) lo n) (rowsF (lo + n) n) := by
  rw [Finset.disjoint_left]
  intro i h1 h2
  rw [mem_rowsF] at h1 h2
  omega

theorem r9_two (c : Dev nD) (lo n : ℕ) (q : PosShare TreeShare) (f : Vec F S1024x1024 .bf16) :
    (r9 c lo (n + n) q f : sProp 𝕄) ⊣⊢ iprop(r9 c lo n q f ∗ r9 c (lo + n) n q f) := by
  unfold r9
  rw [rows_two]
  exact pointsTo_union (rows_apart lo n)

/-- A block and its sibling make the next block. -/
theorem r9_sib (j : Fin 5) (c : Dev nD) (q : PosShare TreeShare) (f : Vec F S1024x1024 .bf16) :
    (r9 c (blo (j.val + 1) c) (32 * 2 ^ (j.val + 1)) q f : sProp 𝕄)
      ⊣⊢ iprop(r9 c (blo j.val c) (32 * 2 ^ j.val) q f ∗ r9 c (blo j.val (peer (4 - j.val) c)) (32 * 2 ^ j.val) q f) := by
  rw [show 32 * 2 ^ (j.val + 1) = 32 * 2 ^ j.val + 32 * 2 ^ j.val from by rw [Nat.pow_succ]; omega]
  rcases blo_pair j c with ⟨h1, h2⟩ | ⟨h1, h2⟩
  · rw [h1, h2]; exact r9_two c _ _ q f
  · rw [h1, h2]
    exact ⟨(r9_two c _ _ q f).1.trans sep_comm.1, sep_comm.1.trans (r9_two c _ _ q f).2⟩

theorem r9_half (c : Dev nD) (lo n j : ℕ) (f : Vec F S1024x1024 .bf16) :
    (r9 c lo n (shL j) f : sProp 𝕄) ⊣⊢ iprop(r9 c lo n (shL (j + 1)) f ∗ r9 c lo n (shR j) f) :=
  pointsTo_share (PosShare.mem_left_op_right (shL j))

/-- A block held outright gives any of the shares in use, and takes it back. -/
theorem r9_lend (c : Dev nD) (lo n : ℕ) (f : Vec F S1024x1024 .bf16) : ∀ j : ℕ,
    (r9 c lo n fullShare f : sProp 𝕄) ⊢ iprop(r9 c lo n (shL j) f ∗ (r9 c lo n (shL j) f -∗ r9 c lo n fullShare f))
  | 0 => by
    show (r9 c lo n fullShare f : sProp 𝕄) ⊢ iprop(r9 c lo n fullShare f ∗ (r9 c lo n fullShare f -∗ r9 c lo n fullShare f))
    iintro H
    isplitl [H]; · iexact H
    iintro H; iexact H
  | j + 1 => by
    iintro H
    ihave ⟨H1, H2⟩ := (r9_lend c lo n f j) $$ H
    ihave ⟨H3, H4⟩ := (r9_half c lo n j f).1 $$ H1
    isplitl [H3]; · iexact H3
    iintro H3
    iapply H2
    iapply (r9_half c lo n j f).2
    isplitl [H3]; · iexact H3
    iexact H4

/-- After the sibling block arrived: the next block, and how to undo the step when its send is done. -/
theorem ag_merge (j : Fin 5) (c : Dev nD) :
    iprop(r9 c (blo j.val c) (32 * 2 ^ j.val) (shL (j.val + 1)) (OP E0 WB) ∗ dpay E0 WB (iAR j) c)
      ⊢ iprop(r9 c (blo (j.val + 1) c) (32 * 2 ^ (j.val + 1)) (shL (j.val + 1)) (OP E0 WB)
          ∗ (r9 c (blo (j.val + 1) c) (32 * 2 ^ (j.val + 1)) (shL (j.val + 1)) (OP E0 WB) -∗ dpay E0 WB (iAS j) c
              -∗ r9 c (blo j.val c) (32 * 2 ^ j.val) (shL j.val) (OP E0 WB) ∗ r9 c (blo j.val (peer (4 - j.val) c)) (32 * 2 ^ j.val) fullShare (OP E0 WB))) := by
  rw [dpay_AR, dpay_AS]
  unfold agR agS
  iintro ⟨H, HR⟩
  ihave ⟨HR, Hback⟩ := (r9_lend c _ _ (OP E0 WB) (j.val + 1)) $$ HR
  isplitl [H HR]
  · iapply (r9_sib j c _ _).2
    isplitl [H]; · iexact H
    iexact HR
  iintro H HS
  ihave ⟨H, HR⟩ := (r9_sib j c _ _).1 $$ H
  isplitl [H HS]
  · iapply (r9_half c _ _ j.val _).2
    isplitl [H]; · iexact H
    iexact HS
  iapply Hback; iexact HR

theorem rows_all : rowsF (d := ![1024, 1024]) 0 (32 * 2 ^ 5) = Finset.univ := by
  ext i
  rw [mem_rowsF]
  have := (i (0 : Fin 2)).isLt
  exact ⟨fun _ => Finset.mem_univ _, fun _ => ⟨Nat.zero_le _, by have h : (i (0 : Fin 2)).val < 1024 := (i (0 : Fin 2)).isLt; omega⟩⟩

theorem r9_all (c : Dev nD) (f : Vec F S1024x1024 .bf16) :
    (r9 c (blo ((4 : Fin 5).val + 1) c) (32 * 2 ^ ((4 : Fin 5).val + 1)) fullShare f : sProp 𝕄) = pt c (Memref.whole cc0_scratch9) f := by
  rw [show blo ((4 : Fin 5).val + 1) c = 0 from blo_five c]
  unfold r9
  rw [show rowsF (d := ![1024, 1024]) 0 (32 * 2 ^ ((4 : Fin 5).val + 1)) = Finset.univ from rows_all]

/-- All blocks together are the whole buffer. -/
theorem ag_whole (c : Dev nD) (f : Vec F S1024x1024 .bf16) :
    iprop(r9 c (blo 0 c) (32 * 2 ^ 0) fullShare f ∗ r9 c (blo 0 (peer 4 c)) (32 * 2 ^ 0) fullShare f ∗ r9 c (blo 1 (peer 3 c)) (32 * 2 ^ 1) fullShare f
        ∗ r9 c (blo 2 (peer 2 c)) (32 * 2 ^ 2) fullShare f ∗ r9 c (blo 3 (peer 1 c)) (32 * 2 ^ 3) fullShare f ∗ r9 c (blo 4 (peer 0 c)) (32 * 2 ^ 4) fullShare f)
      ⊢ (pt c (Memref.whole cc0_scratch9) f : sProp 𝕄) := by
  iintro ⟨H, H0, H1, H2, H3, H4⟩
  ihave H := (r9_sib 0 c fullShare f).2 $$ [H H0]
  · isplitl [H]; · iexact H
    iexact H0
  ihave H := (r9_sib 1 c fullShare f).2 $$ [H H1]
  · isplitl [H]; · iexact H
    iexact H1
  ihave H := (r9_sib 2 c fullShare f).2 $$ [H H2]
  · isplitl [H]; · iexact H
    iexact H2
  ihave H := (r9_sib 3 c fullShare f).2 $$ [H H3]
  · isplitl [H]; · iexact H
    iexact H3
  ihave H := (r9_sib 4 c fullShare f).2 $$ [H H4]
  · isplitl [H]; · iexact H
    iexact H4
  ihave H := (Entails.of_eq (r9_all c f)) $$ H
  iexact H

/-- Rows of the gathered buffer a load may read while the block `[lo', lo'+m)` is held. -/
theorem load_in {off : Fin 2 → ℕ} {lo lo' m : ℕ} (ho : off = ![lo, 0]) {inb : ∀ a : Fin 2, off a + ![32, 1024] a ≤ S1024x1024.size a} (h : lo' ≤ lo ∧ lo + 32 ≤ lo' + m) :
    (Memref.whole cc0_scratch9).view.setOn (Rect.unit (s := S1024x1024) off ![32, 1024] inb).toLoadRect.set ⊆ rowsF (d := S1024x1024.size) lo' m := by
  rw [load9 (n := 32) ho]
  intro i hi
  rw [mem_rowsF] at hi ⊢
  omega

/-! ## Copying out -/

theorem orow_mod : ∀ h : Fin 32, orow h.val % 32 = 0 ∧ orow h.val + 32 ≤ 1024 := by decide +kernel

/-- One row group, copied to its place in the result. -/
theorem out_piece {h : ℕ} (hh : h < 32) {off off' : Fin 2 → ℕ} (ho : off = ![32 * h, 0]) (ho' : off' = ![orow h, 0])
    {inb : ∀ a : Fin 2, off a + ![32, 1024] a ≤ S1024x1024.size a} {inb' : ∀ a : Fin 2, off' a + ![32, 1024] a ≤ S1024x1024.size a} (w : S32x1024.Idx → F .f32)
    (hw : ∀ x : S32x1024.Idx, w x = exS (View.readAt (Elt F) (Memref.whole cc0_scratch9).view (Rect.unit (s := S1024x1024) off ![32, 1024] inb).toLoadRect (OP E0 WB) x))
    (x : S32x1024.Idx) : w x = OUT E0 WB ((Rect.unit (s := S1024x1024) off' ![32, 1024] inb').emb x) := by
  subst ho ho'
  rw [hw]
  have hx0 : (x (0 : Fin 2)).val < 32 := (x (0 : Fin 2)).isLt
  have hx1 : (x (1 : Fin 2)).val < 1024 := (x (1 : Fin 2)).isLt
  have hm := orow_mod ⟨h, hh⟩
  have hg : ogrp (orow h + (x (0 : Fin 2)).val) = h := ogrp_orow ⟨h, hh⟩ ⟨(x (0 : Fin 2)).val, hx0⟩
  have e0 : ((Rect.unit (s := S1024x1024) ![orow h, 0] ![32, 1024] inb').emb x (0 : Fin 2)).val = orow h + (x (0 : Fin 2)).val := by
    rw [Rect.emb_apply]; show orow h + 1 * _ = _; omega
  have e1 : ((Rect.unit (s := S1024x1024) ![orow h, 0] ![32, 1024] inb').emb x (1 : Fin 2)).val = (x (1 : Fin 2)).val := by
    rw [Rect.emb_apply]; show 0 + 1 * _ = _; omega
  unfold OUT
  rw [e0, e1, hg]
  refine congrArg (fun i => exS (OP E0 WB i)) ?_
  have hm1 : orow h % 32 = 0 := hm.1
  refine (ix9_eq _ _ _ ?_ ?_).symm
  · show 32 * h + 1 * (x (0 : Fin 2)).val = _; omega
  · show 0 + 1 * (x (1 : Fin 2)).val = _; omega

theorem sib_lt1 : ∀ c : Dev nD, sib c 0 0 < 32 ∧ blo 1 c ≤ 32 * sib c 0 0 ∧ 32 * sib c 0 0 + 32 ≤ blo 1 c + 32 * 2 ^ 1 := by decide +kernel
theorem sib_lt2 : ∀ (c : Dev nD) (i : Fin 2), sib c 1 i.val < 32 ∧ blo 2 c ≤ 32 * sib c 1 i.val ∧ 32 * sib c 1 i.val + 32 ≤ blo 2 c + 32 * 2 ^ 2 := by decide +kernel
theorem sib_lt3 : ∀ (c : Dev nD) (i : Fin 4), sib c 2 i.val < 32 ∧ blo 3 c ≤ 32 * sib c 2 i.val ∧ 32 * sib c 2 i.val + 32 ≤ blo 3 c + 32 * 2 ^ 3 := by decide +kernel
theorem sib_lt4 : ∀ (c : Dev nD) (i : Fin 8), sib c 3 i.val < 32 ∧ blo 4 c ≤ 32 * sib c 3 i.val ∧ 32 * sib c 3 i.val + 32 ≤ blo 4 c + 32 * 2 ^ 4 := by decide +kernel
theorem sib_lt5 : ∀ (c : Dev nD) (i : Fin 16), sib c 4 i.val < 32 ∧ blo 5 c ≤ 32 * sib c 4 i.val ∧ 32 * sib c 4 i.val + 32 ≤ blo 5 c + 32 * 2 ^ 5 := by decide +kernel

/-- Every row group is this device's own or in one of the sibling blocks. -/
theorem sib_cover : ∀ (c : Dev nD) (h : Fin 32), h.val = sg c ∨ h.val = sib c 0 0 ∨ (∃ i : Fin 2, h.val = sib c 1 i.val) ∨ (∃ i : Fin 4, h.val = sib c 2 i.val)
    ∨ (∃ i : Fin 8, h.val = sib c 3 i.val) ∨ (∃ i : Fin 16, h.val = sib c 4 i.val) := by decide +kernel

/-- The rows of the result a row group fills. -/
theorem mem_grp {h : ℕ} (hh : h < 32) (y : S1024x1024.Idx) (hy : ogrp (y (0 : Fin 2)).val = h) {off' : Fin 2 → ℕ} (ho' : off' = ![orow h, 0])
    {inb' : ∀ a : Fin 2, off' a + ![32, 1024] a ≤ S1024x1024.size a} : y ∈ (Rect.unit (s := S1024x1024) off' ![32, 1024] inb').set := by
  have h0 : orow (ogrp (y (0 : Fin 2)).val) + (y (0 : Fin 2)).val % 32 = (y (0 : Fin 2)).val := orow_ogrp ⟨(y (0 : Fin 2)).val, (y (0 : Fin 2)).isLt⟩
  rw [show (Rect.unit (s := S1024x1024) off' ![32, 1024] inb').set = rowsF (d := S1024x1024.size) (orow h) 32 from rect_rows (d := S1024x1024.size) ho' rfl, mem_rowsF]
  rw [hy] at h0
  omega

theorem ogrp_lt : ∀ r : Fin 1024, ogrp r.val < 32 := by decide +kernel

theorem at_ix {α : Type} {p : α → Prop} : ∀ {L : List α} (k : ℕ) (hk : k < L.length) (h : p L[k]), ∃ q ∈ L, p q :=
  fun k hk h => ⟨_, List.getElem_mem hk, h⟩

theorem wix {m : ℕ} (w : BitVec 32) (hw : w.toNat < m) : ∃ i : Fin m, w = BitVec.ofNat 32 i.val :=
  ⟨⟨w.toNat, hw⟩, (BitVec.ofNat_toNat 32 w ▸ (BitVec.setWidth_eq w).symm)⟩

theorem ld35 (c : Dev nD) (w : BitVec 32) (hw : w.toNat < 2) {inb : ∀ a : Fin 2, k0_off35 c w a + ![32, 1024] a ≤ S1024x1024.size a} :
    (Memref.whole cc0_scratch9).view.setOn (Rect.unit (s := S1024x1024) (k0_off35 c w) ![32, 1024] inb).toLoadRect.set ⊆ rowsF (d := S1024x1024.size) (blo 2 c) (32 * 2 ^ 2) := by
  obtain ⟨i, rfl⟩ := wix w hw
  exact load_in (off35_eq c i) (sib_lt2 c i).2
theorem inb36 (c : Dev nD) (w : BitVec 32) (hw : w.toNat < 2) : ∀ a : Fin 2, k0_off36 c w a + ![32, 1024] a ≤ S1024x1024.size a := by
  obtain ⟨i, rfl⟩ := wix w hw
  exact k0_off36_inb c i
theorem op35 (c : Dev nD) (w : BitVec 32) (hw : w.toNat < 2) (v : S32x1024.Idx → F .f32)
    (hv : ∀ (inb : ∀ a : Fin 2, k0_off35 c w a + ![32, 1024] a ≤ S1024x1024.size a) (x : S32x1024.Idx), v x = exS (View.readAt (Elt F) (Memref.whole cc0_scratch9).view (Rect.unit (s := S1024x1024) (k0_off35 c w) ![32, 1024] inb).toLoadRect (OP E0 WB) x))
    (x : S32x1024.Idx) : v x = OUT E0 WB ((Rect.unit (s := S1024x1024) (k0_off36 c w) ![32, 1024] (inb36 c w hw)).emb x) := by
  obtain ⟨i, rfl⟩ := wix w hw
  exact out_piece E0 WB (sib_lt2 c i).1 (off35_eq c i) (off36_eq c i) v (hv (k0_off35_inb c i)) x

theorem ld38 (c : Dev nD) (w : BitVec 32) (hw : w.toNat < 4) {inb : ∀ a : Fin 2, k0_off38 c w a + ![32, 1024] a ≤ S1024x1024.size a} :
    (Memref.whole cc0_scratch9).view.setOn (Rect.unit (s := S1024x1024) (k0_off38 c w) ![32, 1024] inb).toLoadRect.set ⊆ rowsF (d := S1024x1024.size) (blo 3 c) (32 * 2 ^ 3) := by
  obtain ⟨i, rfl⟩ := wix w hw
  exact load_in (off38_eq c i) (sib_lt3 c i).2
theorem inb39 (c : Dev nD) (w : BitVec 32) (hw : w.toNat < 4) : ∀ a : Fin 2, k0_off39 c w a + ![32, 1024] a ≤ S1024x1024.size a := by
  obtain ⟨i, rfl⟩ := wix w hw
  exact k0_off39_inb c i
theorem op38 (c : Dev nD) (w : BitVec 32) (hw : w.toNat < 4) (v : S32x1024.Idx → F .f32)
    (hv : ∀ (inb : ∀ a : Fin 2, k0_off38 c w a + ![32, 1024] a ≤ S1024x1024.size a) (x : S32x1024.Idx), v x = exS (View.readAt (Elt F) (Memref.whole cc0_scratch9).view (Rect.unit (s := S1024x1024) (k0_off38 c w) ![32, 1024] inb).toLoadRect (OP E0 WB) x))
    (x : S32x1024.Idx) : v x = OUT E0 WB ((Rect.unit (s := S1024x1024) (k0_off39 c w) ![32, 1024] (inb39 c w hw)).emb x) := by
  obtain ⟨i, rfl⟩ := wix w hw
  exact out_piece E0 WB (sib_lt3 c i).1 (off38_eq c i) (off39_eq c i) v (hv (k0_off38_inb c i)) x

theorem ld41 (c : Dev nD) (w : BitVec 32) (hw : w.toNat < 8) {inb : ∀ a : Fin 2, k0_off41 c w a + ![32, 1024] a ≤ S1024x1024.size a} :
    (Memref.whole cc0_scratch9).view.setOn (Rect.unit (s := S1024x1024) (k0_off41 c w) ![32, 1024] inb).toLoadRect.set ⊆ rowsF (d := S1024x1024.size) (blo 4 c) (32 * 2 ^ 4) := by
  obtain ⟨i, rfl⟩ := wix w hw
  exact load_in (off41_eq c i) (sib_lt4 c i).2
theorem inb42 (c : Dev nD) (w : BitVec 32) (hw : w.toNat < 8) : ∀ a : Fin 2, k0_off42 c w a + ![32, 1024] a ≤ S1024x1024.size a := by
  obtain ⟨i, rfl⟩ := wix w hw
  exact k0_off42_inb c i
theorem op41 (c : Dev nD) (w : BitVec 32) (hw : w.toNat < 8) (v : S32x1024.Idx → F .f32)
    (hv : ∀ (inb : ∀ a : Fin 2, k0_off41 c w a + ![32, 1024] a ≤ S1024x1024.size a) (x : S32x1024.Idx), v x = exS (View.readAt (Elt F) (Memref.whole cc0_scratch9).view (Rect.unit (s := S1024x1024) (k0_off41 c w) ![32, 1024] inb).toLoadRect (OP E0 WB) x))
    (x : S32x1024.Idx) : v x = OUT E0 WB ((Rect.unit (s := S1024x1024) (k0_off42 c w) ![32, 1024] (inb42 c w hw)).emb x) := by
  obtain ⟨i, rfl⟩ := wix w hw
  exact out_piece E0 WB (sib_lt4 c i).1 (off41_eq c i) (off42_eq c i) v (hv (k0_off41_inb c i)) x

theorem ld43 (c : Dev nD) (w : BitVec 32) (hw : w.toNat < 16) {inb : ∀ a : Fin 2, k0_off43 c w a + ![32, 1024] a ≤ S1024x1024.size a} :
    (Memref.whole cc0_scratch9).view.setOn (Rect.unit (s := S1024x1024) (k0_off43 c w) ![32, 1024] inb).toLoadRect.set ⊆ rowsF (d := S1024x1024.size) (blo 5 c) (32 * 2 ^ 5) := by
  obtain ⟨i, rfl⟩ := wix w hw
  exact load_in (off43_eq c i) (sib_lt5 c i).2
theorem inb44 (c : Dev nD) (w : BitVec 32) (hw : w.toNat < 16) : ∀ a : Fin 2, k0_off44 c w a + ![32, 1024] a ≤ S1024x1024.size a := by
  obtain ⟨i, rfl⟩ := wix w hw
  exact k0_off44_inb c i
theorem op43 (c : Dev nD) (w : BitVec 32) (hw : w.toNat < 16) (v : S32x1024.Idx → F .f32)
    (hv : ∀ (inb : ∀ a : Fin 2, k0_off43 c w a + ![32, 1024] a ≤ S1024x1024.size a) (x : S32x1024.Idx), v x = exS (View.readAt (Elt F) (Memref.whole cc0_scratch9).view (Rect.unit (s := S1024x1024) (k0_off43 c w) ![32, 1024] inb).toLoadRect (OP E0 WB) x))
    (x : S32x1024.Idx) : v x = OUT E0 WB ((Rect.unit (s := S1024x1024) (k0_off44 c w) ![32, 1024] (inb44 c w hw)).emb x) := by
  obtain ⟨i, rfl⟩ := wix w hw
  exact out_piece E0 WB (sib_lt5 c i).1 (off43_eq c i) (off44_eq c i) v (hv (k0_off43_inb c i)) x

section Ops
variable (K : Dev nD × Fin 21 → ℕ) (c : Dev nD)

/-- The gathered rows of one block land unchanged. -/
theorem ag_land {off : Fin 2 → ℕ} {n lo : ℕ} (ho : off = ![lo, 0]) {inb : ∀ a : Fin 2, off a + ![n, 1024] a ≤ S1024x1024.size a} {h h'}
    (f g : Vec F S1024x1024 .bf16) (i : S1024x1024.Idx) (hi : i ∈ rowsF (d := S1024x1024.size) lo n) :
    ((Memref.whole cc0_scratch9).slice (Rect.unit (s := S1024x1024) off ![n, 1024] inb) h).view.write (Elt F) g
      (((Memref.whole cc0_scratch9).slice (Rect.unit (s := S1024x1024) off ![n, 1024] inb) h').view.read (Elt F) f) Finset.univ i = f i := by
  have hi' := mem_rowsF.mp hi
  have hi1 : (i (1 : Fin 2)).val < 1024 := (i (1 : Fin 2)).isLt
  let x : (⟨2, ![n, 1024]⟩ : Shape).Idx := loc2 ((i (0 : Fin 2)).val - lo) (i (1 : Fin 2)).val (by omega) hi1
  have he : (Rect.unit (s := S1024x1024) off ![n, 1024] inb).emb x = i :=
    emb_row (d := S1024x1024.size) ho x i (by show _ = _ + ((i (0 : Fin 2)).val - lo); omega) rfl
  have hw := View.read_slice_write_emb (Val := Elt F) (v := (Memref.whole cc0_scratch9).view) (Rect.unit (s := S1024x1024) off ![n, 1024] inb) g
    (((Memref.whole cc0_scratch9).slice (Rect.unit (s := S1024x1024) off ![n, 1024] inb) h').view.read (Elt F) f) (M := Finset.univ) (x := x) (Finset.mem_univ x)
  rw [he] at hw
  refine Eq.trans hw ?_
  exact congrArg f he

/-- A gathering step's transfer: this device's block goes to the same rows of the partner. -/
theorem wp_ag_tx {α : Type} {Q : α → sProp 𝕄} {kk : PUnit → Prog (TpuEff nD τ sig (Elt F) Λ₀ .tc) α} (j : Fin 5) (m : Dev nD) (hm : m = peer (4 - j.val) c) (o : ℕ) (ho : o = 4 - j.val)
    {n : ℕ} (hn : n = 32 * 2 ^ j.val) {off : Fin 2 → ℕ} (hoff : off = ![blo j.val c, 0])
    {inb : ∀ a : Fin 2, off a + ![n, 1024] a ≤ S1024x1024.size a} {h h'}
    {sS sR : DmaSem sig} (hS : sS = dsem (iAS j)) (hR : sR = dsem (iAR j))
    {hsc : ((Memref.whole cc0_scratch9).slice (Rect.unit (s := S1024x1024) off ![n, 1024] inb) h').view.ref.isScScratch = false}
    {hsrc : ((Memref.whole cc0_scratch9).slice (Rect.unit (s := S1024x1024) off ![n, 1024] inb) h).view.WordExact}
    {hdst : ((Memref.whole cc0_scratch9).slice (Rect.unit (s := S1024x1024) off ![n, 1024] inb) h').view.WordExact}
    {hsem : DmaTarget.Typed .vmem (.dma sR) (.remote (Dev.tc m : Thread nD τ) ((Memref.whole cc0_scratch9).slice (Rect.unit (s := S1024x1024) off ![n, 1024] inb) h') (.dma sS) hsc)}
    (hN : ((Memref.whole cc0_scratch9).slice (Rect.unit (s := S1024x1024) off ![n, 1024] inb) h').view.amount (.dma sR) = amt (iAR j)) :
    iprop(records E0 WB K ∗ r9 c (blo j.val c) (32 * 2 ^ j.val) (shL j.val) (OP E0 WB) ∗ (∃ f, r9 (peer (4 - j.val) c) (blo j.val c) (32 * 2 ^ j.val) fullShare f)
        ∗ ow c (o + 1) ∗ dutyTok ER (dcell (iAS j) c) 0 0 ∗ dutyTok ER (dcell (iAR j) (peer (4 - j.val) c)) 0 0)
      ⊢ iprop(((cred (tallyAt (dcell (iAS j) c) () (amt (iAS j))) ∗ ow c o ∗ r9 c (blo j.val c) (32 * 2 ^ j.val) (shL (j.val + 1)) (OP E0 WB))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma ((Memref.whole cc0_scratch9).slice (Rect.unit (s := S1024x1024) off ![n, 1024] inb) h)
                (.remote (Dev.tc m : Thread nD τ) ((Memref.whole cc0_scratch9).slice (Rect.unit (s := S1024x1024) off ![n, 1024] inb) h') (.dma sS) hsc) (.dma sR) hsrc hdst hsem) kk) Q) := by
  subst hm hn ho
  have hs := set9 (off := off) hoff (inb := inb) (h := h)
  have hs' := set9 (off := off) hoff (inb := inb) (h := h')
  have hpp : peer (4 - j.val) (peer (4 - j.val) c) = c := peer_peer5 ⟨4 - j.val, by omega⟩ c
  iintro ⟨#HR, H, ⟨%g, Hd⟩, HO, Ht1, Ht2⟩ Hk
  ihave ⟨Ha, Hb⟩ := (r9_half c _ _ j.val (OP E0 WB)).1 $$ H
  iapply (wp_tx E0 WB K c (iAS j) (iAR j) (peer (4 - j.val) c) (peer (4 - j.val) c) rfl (4 - j.val) (owed_ag c j) (amt_ag j) hS hR (q := shR j.val) (OP E0 WB) g hN ?_ ?_) $$ [Hb Hd HO Ht1 Ht2]
  · rw [dpay_AS, hs]
    unfold agS
    iintro H; iexact H
  · rw [dpay_AR, hs']
    unfold agR
    rw [hpp]
    exact Entails.of_eq (pointsTo_congr fun i hi => ag_land hoff (OP E0 WB) g i hi)
  · isplitr; · iexact HR
    rw [hs]
    isplitl [Hb]; · iexact Hb
    isplitl [Hd]; · iexact Hd
    isplitl [HO]; · iexact HO
    isplitl [Ht1]; · iexact Ht1
    iexact Ht2
  iintro ⟨Hc, HO⟩
  iapply Hk
  isplitl [Hc]; · iexact Hc
  isplitl [HO]; · iexact HO
  iexact Ha

end Ops

end Cert.KernelIdealProof

end
-- ==== Proof.Ag.lean ====
module

public import proofs.«01_k».proof.Proof.Ag1

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (E0 : Dev nD → Vec F S1024x1152 .f32) (WB : Dev nD → Vec F S1024x1024 .bf16)

/-- What device `c` brings to gathering step `j`. -/
def agG (j : Fin 5) (c : Dev nD) : sProp 𝕄 :=
  iprop(atPos ER (dcell (iAS j) c) 0 ∅ 0 ∗ atPos ER (dcell (iAR j) c) 0 ∅ 0 ∗ dutyTok ER (dcell (iAS j) c) 0 0 ∗ dutyTok ER (dcell (iAR j) (peer (4 - j.val) c)) 0 0
    ∗ cred (tallyAt (dcell (iAR j) c) () (amt (iAR j))) ∗ (∃ f, r9 (peer (4 - j.val) c) (blo j.val c) (32 * 2 ^ j.val) fullShare f))

/-- What it has after it. -/
def agZ (j : Fin 5) (c : Dev nD) : sProp 𝕄 := iprop(semVal (dcell (iAS j) c) 0 ∗ semVal (dcell (iAR j) c) 0)

theorem off28_blo (c : Dev nD) : k0_off28 c = ![blo (0 : Fin 5).val c, 0] := off28_eq c
theorem off31_blo (c : Dev nD) : k0_off31 c = ![blo (1 : Fin 5).val c, 0] := off31_eq c
theorem off34_blo (c : Dev nD) : k0_off34 c = ![blo (2 : Fin 5).val c, 0] := off34_eq c
theorem off37_blo (c : Dev nD) : k0_off37 c = ![blo (3 : Fin 5).val c, 0] := off37_eq c
theorem off40_blo (c : Dev nD) : k0_off40 c = ![blo (4 : Fin 5).val c, 0] := off40_eq c

theorem mayWait_AS (j : Fin 5) (c : Dev nD) : (levAts L lv : sProp 𝕄) ⊢ MayWait (c : Thread nD τ) (.dma (dsem (iAS j))) () (owedN c 0) :=
  mayWait_stage c _ (lv_AS j) 0 (by decide)

variable (K : Dev nD × Fin 21 → ℕ)

theorem r9_nx {j k : ℕ} (h : j = k) (c : Dev nD) (f : Vec F S1024x1024 .bf16) :
    (r9 c (blo j c) (32 * 2 ^ j) (shL j) f : sProp 𝕄) = r9 c (blo k c) (32 * 2 ^ k) (shL k) f := by subst h; rfl

theorem credit9 {off : Fin 2 → ℕ} : ∀ (j : Fin 5) {n : ℕ} (hn : n = 32 * 2 ^ j.val) {inb : ∀ a : Fin 2, off a + ![n, 1024] a ≤ S1024x1024.size a} {h},
    ((Memref.whole cc0_scratch9).slice (Rect.unit (s := S1024x1024) off ![n, 1024] inb) h).view.dmaCredit = amt (iAR j)
  | 0, n, hn, inb, h => by obtain rfl : n = 32 := hn; exact (show sig.dmaCredit .tc (Kind.tc.table .vmem) 15 ⟨2, ![32, 1024]⟩ .bf16 = 2048 from rfl)
  | 1, n, hn, inb, h => by obtain rfl : n = 64 := hn; exact (show sig.dmaCredit .tc (Kind.tc.table .vmem) 15 ⟨2, ![64, 1024]⟩ .bf16 = 4096 from rfl)
  | 2, n, hn, inb, h => by obtain rfl : n = 128 := hn; exact (show sig.dmaCredit .tc (Kind.tc.table .vmem) 15 ⟨2, ![128, 1024]⟩ .bf16 = 8192 from rfl)
  | 3, n, hn, inb, h => by obtain rfl : n = 256 := hn; exact (show sig.dmaCredit .tc (Kind.tc.table .vmem) 15 ⟨2, ![256, 1024]⟩ .bf16 = 16384 from rfl)
  | 4, n, hn, inb, h => by obtain rfl : n = 512 := hn; exact (show sig.dmaCredit .tc (Kind.tc.table .vmem) 15 ⟨2, ![512, 1024]⟩ .bf16 = 32768 from rfl)

theorem out_pack (c : Dev nD) (f : Vec F S1024x1024 .f32) (L : List (View.Piece (Elt F) S1024x1024 .f32)) (hL : View.PiecesOf (OUT E0 WB) L) (hc : ∀ y : S1024x1024.Idx, ∃ p ∈ L, y ∈ p.1.set) :
    (pt c (Memref.whole cc0_stg5_0) ((Memref.whole cc0_stg5_0).view.writes (Elt F) f L) : sProp 𝕄) ⊢ pt c (Memref.whole cc0_stg5_0) (OUT E0 WB) :=
  Entails.of_eq (pointsTo_congr fun y _ => read_blocks (Memref.whole cc0_stg5_0).view f (OUT E0 WB) L hL y (hc y))

set_option maxHeartbeats 2000000 in
theorem ag_seg (c : Dev nD) (v2 v1142 : BitVec 32) (Q : PUnit → sProp 𝕄) (f5 : Vec F S1024x1024 .f32) :
    iprop(records E0 WB K ∗ levAts L lv ∗ pt c (Memref.whole cc0_stg5_0) f5 ∗ ow c 5 ∗ r9 c (blo 0 c) 32 fullShare (OP E0 WB)
        ∗ (agG (F := F) 0 c ∗ agG (F := F) 1 c ∗ agG (F := F) 2 c ∗ agG (F := F) 3 c ∗ agG (F := F) 4 c)
        ∗ ((pt c (Memref.whole cc0_stg5_0) (OUT E0 WB) ∗ (∃ f, pt c (Memref.whole cc0_scratch9) f) ∗ ow c 0
            ∗ (agZ (F := F) 0 c ∗ agZ (F := F) 1 c ∗ agZ (F := F) 2 c ∗ agZ (F := F) 3 c ∗ agZ (F := F) 4 c)) -∗ Q ⟨⟩))
      ⊢ wp frame (wpE (defs₀ (F := F)) 𝒱₀ (c : Thread nD τ) none) Set.univ (agProg c v2 v1142) Q := by
  unfold agProg agG
  iintro ⟨#HR, #Hlev, H5, HO, H9, ⟨G0, G1, G2, G3, G4⟩, Hk⟩
  ihave H9 := (Entails.of_eq (show (r9 c (blo 0 c) 32 fullShare (OP E0 WB) : sProp 𝕄) = r9 c (blo (0 : Fin 5).val c) (32 * 2 ^ (0 : Fin 5).val) (shL (0 : Fin 5).val) (OP E0 WB) from rfl)) $$ H9
  -- step 0
  sl_exec
  icases G0 with ⟨Hp1, Hp2, Ht1, Ht2, Hc2, Hd⟩
  iapply (wp_ag_tx E0 WB K c 0 _ (dev11_eq c) 4 rfl (n := 32) (by decide) (off28_blo c) rfl rfl (credit9 0 rfl)) $$ [H9 Hd HO Ht1 Ht2]
  · isplitr; · iexact HR
    isplitl [H9]; · iexact H9
    isplitl [Hd]; · iexact Hd
    isplitl [HO]; · iexact HO
    isplitl [Ht1]; · iexact Ht1
    iexact Ht2
  iintro ⟨Hs0, HO, H9⟩
  irename Hp1 => P0
  unfold r9
  iterate 1
    sl_exec
    iapply (wp_load 𝒱₀ (c : Thread nD τ) none Set.univ (m := Memref.whole cc0_scratch9) ?_) $$ H9
    · exact load_in (off29_eq c) (by unfold blo; simp)
    iintro H9
  sl_exec
  iapply (wp_rx E0 WB K c (iAR 0) 4 rfl rfl (mayWait_AR 0 c)) $$ [Hc2 HO Hp2]
  · isplitr; · iexact HR
    isplitr; · iexact Hlev
    isplitl [Hc2]; · iexact Hc2
    isplitl [HO]; · iexact HO
    iexact Hp2
  iintro ⟨HO, Z0b, Hr⟩
  ihave ⟨H9, U0⟩ := (ag_merge E0 WB 0 c) $$ [H9 Hr]
  · isplitl [H9]; · iexact H9
    iexact Hr
  -- step 1
  sl_exec
  icases G1 with ⟨Hp1, Hp2, Ht1, Ht2, Hc2, Hd⟩
  iapply (wp_ag_tx E0 WB K c 1 _ (dev12_eq c) 3 rfl (n := 64) (by decide) (off31_blo c) rfl rfl (credit9 1 rfl)) $$ [H9 Hd HO Ht1 Ht2]
  · isplitr; · iexact HR
    isplitl [H9]; · iexact H9
    isplitl [Hd]; · iexact Hd
    isplitl [HO]; · iexact HO
    isplitl [Ht1]; · iexact Ht1
    iexact Ht2
  iintro ⟨Hs1, HO, H9⟩
  irename Hp1 => P1
  unfold r9
  iterate 1
    sl_exec
    iapply (wp_load 𝒱₀ (c : Thread nD τ) none Set.univ (m := Memref.whole cc0_scratch9) ?_) $$ H9
    · exact load_in (off32_eq c) (sib_lt1 c).2
    iintro H9
  sl_exec
  iapply (wp_rx E0 WB K c (iAR 1) 3 rfl rfl (mayWait_AR 1 c)) $$ [Hc2 HO Hp2]
  · isplitr; · iexact HR
    isplitr; · iexact Hlev
    isplitl [Hc2]; · iexact Hc2
    isplitl [HO]; · iexact HO
    iexact Hp2
  iintro ⟨HO, Z1b, Hr⟩
  ihave ⟨H9, U1⟩ := (ag_merge E0 WB 1 c) $$ [H9 Hr]
  · isplitl [H9]; · iexact H9
    iexact Hr
  -- step 2
  sl_exec
  icases G2 with ⟨Hp1, Hp2, Ht1, Ht2, Hc2, Hd⟩
  iapply (wp_ag_tx E0 WB K c 2 _ (dev13_eq c) 2 rfl (n := 128) (by decide) (off34_blo c) rfl rfl (credit9 2 rfl)) $$ [H9 Hd HO Ht1 Ht2]
  · isplitr; · iexact HR
    isplitl [H9]; · iexact H9
    isplitl [Hd]; · iexact Hd
    isplitl [HO]; · iexact HO
    isplitl [Ht1]; · iexact Ht1
    iexact Ht2
  iintro ⟨Hs2, HO, H9⟩
  irename Hp1 => P2
  unfold r9
  iterate 2
    sl_exec
    iapply (wp_load 𝒱₀ (c : Thread nD τ) none Set.univ (m := Memref.whole cc0_scratch9) ?_) $$ H9
    · exact ld35 c _ (by decide)
    iintro H9
  sl_exec
  iapply (wp_rx E0 WB K c (iAR 2) 2 rfl rfl (mayWait_AR 2 c)) $$ [Hc2 HO Hp2]
  · isplitr; · iexact HR
    isplitr; · iexact Hlev
    isplitl [Hc2]; · iexact Hc2
    isplitl [HO]; · iexact HO
    iexact Hp2
  iintro ⟨HO, Z2b, Hr⟩
  ihave ⟨H9, U2⟩ := (ag_merge E0 WB 2 c) $$ [H9 Hr]
  · isplitl [H9]; · iexact H9
    iexact Hr
  -- step 3
  sl_exec
  icases G3 with ⟨Hp1, Hp2, Ht1, Ht2, Hc2, Hd⟩
  iapply (wp_ag_tx E0 WB K c 3 _ (dev14_eq c) 1 rfl (n := 256) (by decide) (off37_blo c) rfl rfl (credit9 3 rfl)) $$ [H9 Hd HO Ht1 Ht2]
  · isplitr; · iexact HR
    isplitl [H9]; · iexact H9
    isplitl [Hd]; · iexact Hd
    isplitl [HO]; · iexact HO
    isplitl [Ht1]; · iexact Ht1
    iexact Ht2
  iintro ⟨Hs3, HO, H9⟩
  irename Hp1 => P3
  unfold r9
  iterate 4
    sl_exec
    iapply (wp_load 𝒱₀ (c : Thread nD τ) none Set.univ (m := Memref.whole cc0_scratch9) ?_) $$ H9
    · exact ld38 c _ (by decide)
    iintro H9
  sl_exec
  iapply (wp_rx E0 WB K c (iAR 3) 1 rfl rfl (mayWait_AR 3 c)) $$ [Hc2 HO Hp2]
  · isplitr; · iexact HR
    isplitr; · iexact Hlev
    isplitl [Hc2]; · iexact Hc2
    isplitl [HO]; · iexact HO
    iexact Hp2
  iintro ⟨HO, Z3b, Hr⟩
  ihave ⟨H9, U3⟩ := (ag_merge E0 WB 3 c) $$ [H9 Hr]
  · isplitl [H9]; · iexact H9
    iexact Hr
  -- step 4
  sl_exec
  icases G4 with ⟨Hp1, Hp2, Ht1, Ht2, Hc2, Hd⟩
  iapply (wp_ag_tx E0 WB K c 4 _ (dev15_eq c) 0 rfl (n := 512) (by decide) (off40_blo c) rfl rfl (credit9 4 rfl)) $$ [H9 Hd HO Ht1 Ht2]
  · isplitr; · iexact HR
    isplitl [H9]; · iexact H9
    isplitl [Hd]; · iexact Hd
    isplitl [HO]; · iexact HO
    isplitl [Ht1]; · iexact Ht1
    iexact Ht2
  iintro ⟨Hs4, HO, H9⟩
  irename Hp1 => P4
  unfold r9
  iterate 8
    sl_exec
    iapply (wp_load 𝒱₀ (c : Thread nD τ) none Set.univ (m := Memref.whole cc0_scratch9) ?_) $$ H9
    · exact ld41 c _ (by decide)
    iintro H9
  sl_exec
  iapply (wp_rx E0 WB K c (iAR 4) 0 rfl rfl (mayWait_AR 4 c)) $$ [Hc2 HO Hp2]
  · isplitr; · iexact HR
    isplitr; · iexact Hlev
    isplitl [Hc2]; · iexact Hc2
    isplitl [HO]; · iexact HO
    iexact Hp2
  iintro ⟨HO, Z4b, Hr⟩
  ihave ⟨H9, U4⟩ := (ag_merge E0 WB 4 c) $$ [H9 Hr]
  · isplitl [H9]; · iexact H9
    iexact Hr
  unfold r9
  iterate 16
    sl_exec
    iapply (wp_load 𝒱₀ (c : Thread nD τ) none Set.univ (m := Memref.whole cc0_scratch9) ?_) $$ H9
    · exact ld43 c _ (by decide)
    iintro H9
  sl_exec
  iapply (wp_rx E0 WB K c (iAS 0) 0 rfl rfl (mayWait_AS 0 c)) $$ [Hs0 HO P0]
  · isplitr; · iexact HR
    isplitr; · iexact Hlev
    isplitl [Hs0]; · iexact Hs0
    isplitl [HO]; · iexact HO
    iexact P0
  iintro ⟨HO, Z0a, Y0⟩
  sl_exec
  iapply (wp_rx E0 WB K c (iAS 1) 0 rfl rfl (mayWait_AS 1 c)) $$ [Hs1 HO P1]
  · isplitr; · iexact HR
    isplitr; · iexact Hlev
    isplitl [Hs1]; · iexact Hs1
    isplitl [HO]; · iexact HO
    iexact P1
  iintro ⟨HO, Z1a, Y1⟩
  sl_exec
  iapply (wp_rx E0 WB K c (iAS 2) 0 rfl rfl (mayWait_AS 2 c)) $$ [Hs2 HO P2]
  · isplitr; · iexact HR
    isplitr; · iexact Hlev
    isplitl [Hs2]; · iexact Hs2
    isplitl [HO]; · iexact HO
    iexact P2
  iintro ⟨HO, Z2a, Y2⟩
  sl_exec
  iapply (wp_rx E0 WB K c (iAS 3) 0 rfl rfl (mayWait_AS 3 c)) $$ [Hs3 HO P3]
  · isplitr; · iexact HR
    isplitr; · iexact Hlev
    isplitl [Hs3]; · iexact Hs3
    isplitl [HO]; · iexact HO
    iexact P3
  iintro ⟨HO, Z3a, Y3⟩
  sl_exec
  iapply (wp_rx E0 WB K c (iAS 4) 0 rfl rfl (mayWait_AS 4 c)) $$ [Hs4 HO P4]
  · isplitr; · iexact HR
    isplitr; · iexact Hlev
    isplitl [Hs4]; · iexact Hs4
    isplitl [HO]; · iexact HO
    iexact P4
  iintro ⟨HO, Z4a, Y4⟩
  sl_exec
  ihave ⟨H9, V4⟩ := U4 $$ H9 Y4
  ihave H9 := (Entails.of_eq (r9_nx (F := F) (j := (4 : Fin 5).val) (k := (3 : Fin 5).val + 1) rfl c (OP E0 WB))) $$ H9
  ihave ⟨H9, V3⟩ := U3 $$ H9 Y3
  ihave H9 := (Entails.of_eq (r9_nx (F := F) (j := (3 : Fin 5).val) (k := (2 : Fin 5).val + 1) rfl c (OP E0 WB))) $$ H9
  ihave ⟨H9, V2⟩ := U2 $$ H9 Y2
  ihave H9 := (Entails.of_eq (r9_nx (F := F) (j := (2 : Fin 5).val) (k := (1 : Fin 5).val + 1) rfl c (OP E0 WB))) $$ H9
  ihave ⟨H9, V1⟩ := U1 $$ H9 Y1
  ihave H9 := (Entails.of_eq (r9_nx (F := F) (j := (1 : Fin 5).val) (k := (0 : Fin 5).val + 1) rfl c (OP E0 WB))) $$ H9
  ihave ⟨H9, V0⟩ := U0 $$ H9 Y0
  ihave H9 := (ag_whole c (OP E0 WB)) $$ [H9 V0 V1 V2 V3 V4]
  · isplitl [H9]; · iexact H9
    isplitl [V0]; · iexact V0
    isplitl [V1]; · iexact V1
    isplitl [V2]; · iexact V2
    isplitl [V3]; · iexact V3
    iexact V4
  ihave H5 := (out_pack E0 WB c f5 _ ?_ ?_) $$ H5
  · iterate 16
      refine ⟨op43 E0 WB c _ ?_ _ (fun inb x => ?_), ?_⟩
      · decide
      · simp only [k0_pay202, k0_pay203, k0_pay204, k0_pay205, k0_pay206, k0_pay207, k0_pay208, k0_pay209, k0_pay210, k0_pay211, k0_pay212, k0_pay213, k0_pay214, k0_pay215, k0_pay216, k0_pay217, shapeCast_self]; rfl
    iterate 8
      refine ⟨op41 E0 WB c _ ?_ _ (fun inb x => ?_), ?_⟩
      · decide
      · simp only [k0_pay194, k0_pay195, k0_pay196, k0_pay197, k0_pay198, k0_pay199, k0_pay200, k0_pay201, shapeCast_self]; rfl
    iterate 4
      refine ⟨op38 E0 WB c _ ?_ _ (fun inb x => ?_), ?_⟩
      · decide
      · try delta ag_seg.sl.r_2
        try delta ag_seg.sl.r_1
        simp only [k0_pay190, k0_pay191, k0_pay192, k0_pay193, shapeCast_self]; rfl
    iterate 2
      refine ⟨op35 E0 WB c _ ?_ _ (fun inb x => ?_), ?_⟩
      · decide
      · simp only [k0_pay188, k0_pay189, shapeCast_self]; rfl
    refine ⟨out_piece E0 WB (sib_lt1 c).1 (off32_eq c) (off33_eq c) (inb := k0_off32_inb c) (inb' := k0_off33_inb c) _ (fun x => ?_), ?_⟩
    · simp only [k0_pay187, shapeCast_self]; rfl
    refine ⟨out_piece E0 WB (sg_lt c) (off29_eq c) (off30_eq c) (inb := k0_off29_inb c) (inb' := k0_off30_inb c) _ (fun x => ?_), trivial⟩
    delta ag_seg.sl.r
    simp only [k0_pay186, shapeCast_self]; rfl
  · intro y
    have hb : ogrp (y (0 : Fin 2)).val < 32 := ogrp_lt ⟨(y (0 : Fin 2)).val, (y (0 : Fin 2)).isLt⟩
    rcases sib_cover c ⟨_, hb⟩ with h | h | ⟨i, h⟩ | ⟨i, h⟩ | ⟨i, h⟩ | ⟨i, h⟩
    · exact at_ix 31 (Nat.le_of_ble_eq_true rfl) (mem_grp (sg_lt c) y h (off30_eq c) (inb' := k0_off30_inb c))
    · exact at_ix 30 (Nat.le_of_ble_eq_true rfl) (mem_grp (sib_lt1 c).1 y h (off33_eq c) (inb' := k0_off33_inb c))
    · have hm := mem_grp (sib_lt2 c i).1 y h (off36_eq c i) (inb' := k0_off36_inb c i)
      fin_cases i
      exacts [at_ix 29 (Nat.le_of_ble_eq_true rfl) hm, at_ix 28 (Nat.le_of_ble_eq_true rfl) hm]
    · have hm := mem_grp (sib_lt3 c i).1 y h (off39_eq c i) (inb' := k0_off39_inb c i)
      fin_cases i
      exacts [at_ix 27 (Nat.le_of_ble_eq_true rfl) hm, at_ix 26 (Nat.le_of_ble_eq_true rfl) hm, at_ix 25 (Nat.le_of_ble_eq_true rfl) hm, at_ix 24 (Nat.le_of_ble_eq_true rfl) hm]
    · have hm := mem_grp (sib_lt4 c i).1 y h (off42_eq c i) (inb' := k0_off42_inb c i)
      fin_cases i
      exacts [at_ix 23 (Nat.le_of_ble_eq_true rfl) hm, at_ix 22 (Nat.le_of_ble_eq_true rfl) hm, at_ix 21 (Nat.le_of_ble_eq_true rfl) hm, at_ix 20 (Nat.le_of_ble_eq_true rfl) hm, at_ix 19 (Nat.le_of_ble_eq_true rfl) hm, at_ix 18 (Nat.le_of_ble_eq_true rfl) hm, at_ix 17 (Nat.le_of_ble_eq_true rfl) hm, at_ix 16 (Nat.le_of_ble_eq_true rfl) hm]
    · have hm := mem_grp (sib_lt5 c i).1 y h (off44_eq c i) (inb' := k0_off44_inb c i)
      fin_cases i
      exacts [at_ix 15 (Nat.le_of_ble_eq_true rfl) hm, at_ix 14 (Nat.le_of_ble_eq_true rfl) hm, at_ix 13 (Nat.le_of_ble_eq_true rfl) hm, at_ix 12 (Nat.le_of_ble_eq_true rfl) hm, at_ix 11 (Nat.le_of_ble_eq_true rfl) hm, at_ix 10 (Nat.le_of_ble_eq_true rfl) hm, at_ix 9 (Nat.le_of_ble_eq_true rfl) hm, at_ix 8 (Nat.le_of_ble_eq_true rfl) hm, at_ix 7 (Nat.le_of_ble_eq_true rfl) hm, at_ix 6 (Nat.le_of_ble_eq_true rfl) hm, at_ix 5 (Nat.le_of_ble_eq_true rfl) hm, at_ix 4 (Nat.le_of_ble_eq_true rfl) hm, at_ix 3 (Nat.le_of_ble_eq_true rfl) hm, at_ix 2 (Nat.le_of_ble_eq_true rfl) hm, at_ix 1 (Nat.le_of_ble_eq_true rfl) hm, at_ix 0 (Nat.le_of_ble_eq_true rfl) hm]
  rw [wp_ret]
  imodintro
  iapply Hk
  isplitl [H5]; · iexact H5
  isplitl [H9]; · iexists _; iexact H9
  isplitl [HO]; · iexact HO
  unfold agZ
  isplitl [Z0a Z0b]
  · isplitl [Z0a]; · iexact Z0a
    iexact Z0b
  isplitl [Z1a Z1b]
  · isplitl [Z1a]; · iexact Z1a
    iexact Z1b
  isplitl [Z2a Z2b]
  · isplitl [Z2a]; · iexact Z2a
    iexact Z2b
  isplitl [Z3a Z3b]
  · isplitl [Z3a]; · iexact Z3a
    iexact Z3b
  isplitl [Z4a]; · iexact Z4a
  iexact Z4b

end Cert.KernelIdealProof

end
-- ==== Proof.Hand.lean ====
module

public import proofs.«01_k».proof.Proof.Ag

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (E0 : Dev nD → Vec F S1024x1152 .f32) (WB : Dev nD → Vec F S1024x1024 .bf16)

/-! ## The landing buffer in its five regions -/

theorem r8_two (c : Dev nD) (lo n m : ℕ) (f : Vec F S992x1152 .bf16) :
    (r8 c lo (n + m) f : sProp 𝕄) ⊢ iprop(r8 c lo n f ∗ r8 c (lo + n) m f) := by
  unfold r8
  rw [show rowsF (d := ![992, 1152]) lo (n + m) = rowsF lo n ∪ rowsF (lo + n) m from by
    ext i; rw [Finset.mem_union, mem_rowsF, mem_rowsF, mem_rowsF]; omega]
  exact (pointsTo_union (by rw [Finset.disjoint_left]; intro i h1 h2; rw [mem_rowsF] at h1 h2; omega)).1

theorem r8_join (c : Dev nD) (lo n m : ℕ) :
    iprop((∃ f, r8 (F := F) c lo n f) ∗ (∃ f, r8 (F := F) c (lo + n) m f)) ⊢ (∃ f, r8 c lo (n + m) f : sProp 𝕄) := by
  iintro ⟨⟨%f, H⟩, ⟨%g, H'⟩⟩
  iexists ((rowsF (d := ![992, 1152]) (lo + n) m).piecewise g f)
  unfold r8
  rw [show rowsF (d := ![992, 1152]) lo (n + m) = rowsF lo n ∪ rowsF (lo + n) m from by
    ext i; rw [Finset.mem_union, mem_rowsF, mem_rowsF, mem_rowsF]; omega]
  iapply (pointsTo_join (by rw [Finset.disjoint_left]; intro i h1 h2; rw [mem_rowsF] at h1 h2; omega))
  isplitl [H]; · iexact H
  iexact H'

theorem r8_all (c : Dev nD) (f : Vec F S992x1152 .bf16) : (r8 c 0 (512 + (256 + (128 + (64 + 32)))) f : sProp 𝕄) = pt c (Memref.whole cc0_scratch8) f := by
  unfold r8
  rw [show rowsF (d := ![992, 1152]) 0 (512 + (256 + (128 + (64 + 32)))) = Finset.univ from by
    ext i; rw [mem_rowsF]; have h : (i (0 : Fin 2)).val < 992 := (i (0 : Fin 2)).isLt
    exact ⟨fun _ => Finset.mem_univ _, fun _ => ⟨Nat.zero_le _, by omega⟩⟩]

theorem r8_cut (c : Dev nD) (f : Vec F S992x1152 .bf16) : (pt c (Memref.whole cc0_scratch8) f : sProp 𝕄)
    ⊢ iprop(r8 c (ofr 0) (nr 0) f ∗ r8 c (ofr 1) (nr 1) f ∗ r8 c (ofr 2) (nr 2) f ∗ r8 c (ofr 3) (nr 3) f ∗ r8 c (ofr 4) (nr 4) f) := by
  rw [← r8_all]
  iintro H
  ihave ⟨H0, H⟩ := (r8_two c 0 512 _ f) $$ H
  ihave ⟨H1, H⟩ := (r8_two c 512 256 _ f) $$ H
  ihave ⟨H2, H⟩ := (r8_two c 768 128 _ f) $$ H
  ihave ⟨H3, H⟩ := (r8_two c 896 64 _ f) $$ H
  isplitl [H0]; · iexact H0
  isplitl [H1]; · iexact H1
  isplitl [H2]; · iexact H2
  isplitl [H3]; · iexact H3
  iexact H

theorem r8_back (c : Dev nD) : iprop((∃ f, r8 (F := F) c (ofr 0) (nr 0) f) ∗ (∃ f, r8 (F := F) c (ofr 1) (nr 1) f) ∗ (∃ f, r8 (F := F) c (ofr 2) (nr 2) f) ∗ (∃ f, r8 (F := F) c (ofr 3) (nr 3) f) ∗ (∃ f, r8 (F := F) c (ofr 4) (nr 4) f))
    ⊢ (∃ f, pt c (Memref.whole cc0_scratch8) f : sProp 𝕄) := by
  iintro ⟨H0, H1, H2, H3, H4⟩
  ihave H := (r8_join (F := F) c 896 64 32) $$ [H3 H4]
  · isplitl [H3]; · iexact H3
    iexact H4
  ihave H := (r8_join (F := F) c 768 128 (64 + 32)) $$ [H2 H]
  · isplitl [H2]; · iexact H2
    iexact H
  ihave H := (r8_join (F := F) c 512 256 (128 + (64 + 32))) $$ [H1 H]
  · isplitl [H1]; · iexact H1
    iexact H
  ihave ⟨%f, H⟩ := (r8_join (F := F) c 0 512 (256 + (128 + (64 + 32)))) $$ [H0 H]
  · isplitl [H0]; · iexact H0
    iexact H
  iexists f
  ihave H := (Entails.of_eq (r8_all c f)) $$ H
  iexact H

/-! ## The gathered buffer in its blocks -/

theorem r9_cut (c : Dev nD) (f : Vec F S1024x1024 .bf16) : (pt c (Memref.whole cc0_scratch9) f : sProp 𝕄)
    ⊢ iprop(r9 c (blo 0 c) (32 * 2 ^ 0) fullShare f ∗ r9 c (blo (4 - 0) (peer 0 c)) (32 * 2 ^ (4 - 0)) fullShare f ∗ r9 c (blo (4 - 1) (peer 1 c)) (32 * 2 ^ (4 - 1)) fullShare f
        ∗ r9 c (blo (4 - 2) (peer 2 c)) (32 * 2 ^ (4 - 2)) fullShare f ∗ r9 c (blo (4 - 3) (peer 3 c)) (32 * 2 ^ (4 - 3)) fullShare f ∗ r9 c (blo (4 - 4) (peer 4 c)) (32 * 2 ^ (4 - 4)) fullShare f) := by
  refine (Entails.of_eq (r9_all c f).symm).trans ?_
  show (r9 c (blo 5 c) (32 * 2 ^ 5) fullShare f : sProp 𝕄) ⊢ _
  iintro H
  ihave ⟨H, H4⟩ := (show (r9 c (blo 5 c) (32 * 2 ^ 5) fullShare f : sProp 𝕄) ⊢ iprop(r9 c (blo 4 c) (32 * 2 ^ 4) fullShare f ∗ r9 c (blo 4 (peer 0 c)) (32 * 2 ^ 4) fullShare f) from (r9_sib 4 c fullShare f).1) $$ H
  ihave ⟨H, H3⟩ := (show (r9 c (blo 4 c) (32 * 2 ^ 4) fullShare f : sProp 𝕄) ⊢ iprop(r9 c (blo 3 c) (32 * 2 ^ 3) fullShare f ∗ r9 c (blo 3 (peer 1 c)) (32 * 2 ^ 3) fullShare f) from (r9_sib 3 c fullShare f).1) $$ H
  ihave ⟨H, H2⟩ := (show (r9 c (blo 3 c) (32 * 2 ^ 3) fullShare f : sProp 𝕄) ⊢ iprop(r9 c (blo 2 c) (32 * 2 ^ 2) fullShare f ∗ r9 c (blo 2 (peer 2 c)) (32 * 2 ^ 2) fullShare f) from (r9_sib 2 c fullShare f).1) $$ H
  ihave ⟨H, H1⟩ := (show (r9 c (blo 2 c) (32 * 2 ^ 2) fullShare f : sProp 𝕄) ⊢ iprop(r9 c (blo 1 c) (32 * 2 ^ 1) fullShare f ∗ r9 c (blo 1 (peer 3 c)) (32 * 2 ^ 1) fullShare f) from (r9_sib 1 c fullShare f).1) $$ H
  ihave ⟨H, H0⟩ := (show (r9 c (blo 1 c) (32 * 2 ^ 1) fullShare f : sProp 𝕄) ⊢ iprop(r9 c (blo 0 c) (32 * 2 ^ 0) fullShare f ∗ r9 c (blo 0 (peer 4 c)) (32 * 2 ^ 0) fullShare f) from (r9_sib 0 c fullShare f).1) $$ H
  isplitl [H]; · iexact H
  isplitl [H4]; · iexact H4
  isplitl [H3]; · iexact H3
  isplitl [H2]; · iexact H2
  isplitl [H1]; · iexact H1
  iexact H0

/-- What a signal hands over. -/
theorem pay_bar (k : Fin 5) (c : Dev nD) (f : Vec F S992x1152 .bf16) (g : Vec F S1024x1024 .bf16) :
    iprop(r8 c (ofr k.val) (nr k.val) f ∗ r9 c (blo (4 - k.val) (peer k.val c)) (32 * 2 ^ (4 - k.val)) fullShare g) ⊢ (barPay k.val (peer k.val c) : sProp 𝕄) := by
  unfold barPay
  rw [peer_peer5]
  iintro ⟨H, H'⟩
  isplitl [H]
  · iexists f; iexact H
  iexists g; iexact H'

/-! ## The handshake -/

variable (K : Dev nD × Fin 21 → ℕ)

/-- What device `c` brings to the handshake. -/
def handG (c : Dev nD) : sProp 𝕄 :=
  iprop(atPos ER (barCell c) 0 ∅ 0 ∗ cred (tallyAt (barCell c) () 5) ∗ dutyTok ER (barCell (peer 0 c)) 0 0 ∗ dutyTok ER (barCell (peer 1 c)) 0 1
    ∗ dutyTok ER (barCell (peer 2 c)) 0 2 ∗ dutyTok ER (barCell (peer 3 c)) 0 3 ∗ dutyTok ER (barCell (peer 4 c)) 0 4)

theorem zz : (![0, 0] : Fin 2 → ℕ) = fun _ => 0 := funext fun a => by fin_cases a <;> rfl

theorem wob_pack (c : Dev nD) (fo f4 : Vec F S1024x1024 .bf16) :
    (pt c (Memref.whole cc0_scratch4) ((Memref.whole cc0_scratch4).view.writes (Elt F) f4 [⟨Rect.unit (s := S1024x1024) ![0, 0] ![1024, 1024] inb_S1024x1024_S1024x1024_0_0,
          k0_pay1 (View.readAt (Elt F) (Memref.whole cc0_stg4_0).view (Rect.unit (s := S1024x1024) ![0, 0] ![1024, 1024] inb_S1024x1024_S1024x1024_0_0).toLoadRect fo)⟩]) : sProp 𝕄)
      ⊢ pt c (Memref.whole cc0_scratch4) (k0_pay1 fo) := by
  have h1 : View.readAt (Elt F) (Memref.whole cc0_stg4_0).view (Rect.unit (s := S1024x1024) ![0, 0] ![1024, 1024] inb_S1024x1024_S1024x1024_0_0).toLoadRect fo = fo :=
    Memref.readAt_unit_zero (Elt F) cc0_stg4_0 zz _ fo
  rw [h1]
  generalize (k0_pay1 fo : Vec F S1024x1024 .bf16) = w
  rw [View.writes_singleton]
  exact Entails.of_eq (congrArg (fun X => (pt c (Memref.whole cc0_scratch4) X : sProp 𝕄)) (Memref.write_access_unit_zero_univ (Elt F) cc0_scratch4 zz _ f4 w))

set_option maxHeartbeats 2000000 in
theorem hand_seg (c : Dev nD) (Kn : Dev nD → BitVec 32 → Prog (TpuEff nD τ sig (Elt F) Λ₀ .tc) PUnit) (Q : PUnit → sProp 𝕄) (fo : Vec F S1024x1024 .bf16) f4 f8 f9 :
    iprop(records E0 WB K ∗ levAts L lv ∗ pt c (Memref.whole cc0_stg4_0) fo ∗ pt c (Memref.whole cc0_scratch4) f4 ∗ pt c (Memref.whole cc0_scratch8) f8 ∗ pt c (Memref.whole cc0_scratch9) f9
        ∗ ow c 15 ∗ handG c
        ∗ (∀ v2, (pt c (Memref.whole cc0_stg4_0) fo ∗ pt c (Memref.whole cc0_scratch4) (k0_pay1 fo) ∗ ow c 10 ∗ semVal (barCell c) 0
            ∗ (barPay (F := F) 0 c ∗ barPay (F := F) 1 c ∗ barPay (F := F) 2 c ∗ barPay (F := F) 3 c ∗ barPay (F := F) 4 c) ∗ r9 c (blo 0 c) (32 * 2 ^ 0) fullShare f9)
            -∗ wp frame (wpE (defs₀ (F := F)) 𝒱₀ (c : Thread nD τ) none) Set.univ (Kn c v2) Q))
      ⊢ wp frame (wpE (defs₀ (F := F)) 𝒱₀ (c : Thread nD τ) none) Set.univ (do let ⟨d0, v2⟩ : Σ' (d0 : Dev nD), BitVec 32 ← k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13; Kn d0 v2) Q := by
  rw [k0_part1_eq_skeleton]
  unfold k0_part1_skel handG
  simp only [semSignalWord, semWaitWord, Prog.lift, Prog.bind_op, Prog.bind_ret, Prog.pure_eq_ret, Prog.bind_assoc, wp_deviceId]
  iintro ⟨#Hrec, #Hlev, Hfo, H4, H8, H9, HO, ⟨Hat, Hc, Ht0, Ht1, Ht2, Ht3, Ht4⟩, HK⟩
  ihave ⟨R0, R1, R2, R3, R4⟩ := (r8_cut c f8) $$ H8
  ihave ⟨Hown, B0, B1, B2, B3, B4⟩ := (r9_cut c f9) $$ H9
  iapply (wp_sig E0 WB K c 0 _ (dev1_eq c) 14 (owed_bar c 0) (1#32) rfl rfl) $$ [HO Ht0 R0 B0]
  · isplitr; · iexact Hrec
    isplitl [HO]; · iexact HO
    isplitl [Ht0]; · iexact Ht0
    iapply (pay_bar 0 c f8 f9)
    isplitl [R0]; · iexact R0
    iexact B0
  iintro HO
  iapply (wp_sig E0 WB K c 1 _ (dev2_eq c) 13 (owed_bar c 1) (1#32) rfl rfl) $$ [HO Ht1 R1 B1]
  · isplitr; · iexact Hrec
    isplitl [HO]; · iexact HO
    isplitl [Ht1]; · iexact Ht1
    iapply (pay_bar 1 c f8 f9)
    isplitl [R1]; · iexact R1
    iexact B1
  iintro HO
  iapply (wp_sig E0 WB K c 2 _ (dev3_eq c) 12 (owed_bar c 2) (1#32) rfl rfl) $$ [HO Ht2 R2 B2]
  · isplitr; · iexact Hrec
    isplitl [HO]; · iexact HO
    isplitl [Ht2]; · iexact Ht2
    iapply (pay_bar 2 c f8 f9)
    isplitl [R2]; · iexact R2
    iexact B2
  iintro HO
  iapply (wp_sig E0 WB K c 3 _ (dev4_eq c) 11 (owed_bar c 3) (1#32) rfl rfl) $$ [HO Ht3 R3 B3]
  · isplitr; · iexact Hrec
    isplitl [HO]; · iexact HO
    isplitl [Ht3]; · iexact Ht3
    iapply (pay_bar 3 c f8 f9)
    isplitl [R3]; · iexact R3
    iexact B3
  iintro HO
  iapply (wp_sig E0 WB K c 4 _ (dev5_eq c) 10 (owed_bar c 4) (1#32) rfl rfl) $$ [HO Ht4 R4 B4]
  · isplitr; · iexact Hrec
    isplitl [HO]; · iexact HO
    isplitl [Ht4]; · iexact Ht4
    iapply (pay_bar 4 c f8 f9)
    isplitl [R4]; · iexact R4
    iexact B4
  iintro HO
  iapply (wp_bar E0 WB K c (5#32) rfl rfl) $$ [Hc HO Hat]
  · isplitr; · iexact Hrec
    isplitr; · iexact Hlev
    isplitl [Hc]; · iexact Hc
    isplitl [HO]; · iexact HO
    iexact Hat
  iintro ⟨HO, Hz, Hpay⟩
  sl_exec
  ihave H4 := (wob_pack c fo f4) $$ H4
  iapply HK
  isplitl [Hfo]; · iexact Hfo
  isplitl [H4]; · iexact H4
  isplitl [HO]; · iexact HO
  isplitl [Hz]; · iexact Hz
  isplitl [Hpay]; · iexact Hpay
  iexact Hown

end Cert.KernelIdealProof

end
-- ==== Proof.Body.lean ====
module

public import proofs.«01_k».proof.Proof.Hand

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (E0 : Dev nD → Vec F S1024x1152 .f32) (WB : Dev nD → Vec F S1024x1024 .bf16)

/-- What device `c` starts with for reduction round `k`; the landing rows come with the handshake. -/
def rsA (k : Fin 5) (c : Dev nD) : sProp 𝕄 :=
  iprop(atPos ER (dcell (iRS k) c) 0 ∅ 0 ∗ atPos ER (dcell (iRR k) c) 0 ∅ 0 ∗ dutyTok ER (dcell (iRS k) c) 0 0 ∗ dutyTok ER (dcell (iRR k) (peer k c)) 0 0
    ∗ cred (tallyAt (dcell (iRR k) c) () (amt (iRR k))))
/-- The same for gathering step `j`. -/
def agA (j : Fin 5) (c : Dev nD) : sProp 𝕄 :=
  iprop(atPos ER (dcell (iAS j) c) 0 ∅ 0 ∗ atPos ER (dcell (iAR j) c) 0 ∅ 0 ∗ dutyTok ER (dcell (iAS j) c) 0 0 ∗ dutyTok ER (dcell (iAR j) (peer (4 - j.val) c)) 0 0
    ∗ cred (tallyAt (dcell (iAR j) c) () (amt (iAR j))))

theorem rs_up (k : Fin 5) (c : Dev nD) : iprop(rsA (F := F) k c ∗ ∃ f, r8 (F := F) (peer k c) (ofr k) (nr k) f) ⊢ rsG (F := F) k c := by
  unfold rsA rsG
  iintro ⟨⟨H1, H2, H3, H4, H5⟩, H6⟩
  isplitl [H1]; · iexact H1
  isplitl [H2]; · iexact H2
  isplitl [H3]; · iexact H3
  isplitl [H4]; · iexact H4
  isplitl [H5]; · iexact H5
  iexact H6

theorem ag_up (j : Fin 5) (c : Dev nD) : iprop(agA (F := F) j c ∗ ∃ f, r9 (F := F) (peer (4 - j.val) c) (blo j.val c) (32 * 2 ^ j.val) fullShare f) ⊢ agG (F := F) j c := by
  unfold agA agG
  iintro ⟨⟨H1, H2, H3, H4, H5⟩, H6⟩
  isplitl [H1]; · iexact H1
  isplitl [H2]; · iexact H2
  isplitl [H3]; · iexact H3
  isplitl [H4]; · iexact H4
  isplitl [H5]; · iexact H5
  iexact H6

/-- The handshake's grant `k` serves reduction round `k` and gathering step `4 - k`. -/
theorem grant (k j : Fin 5) (hj : 4 - k.val = j.val) (c : Dev nD) : iprop(barPay (F := F) k.val c ∗ rsA (F := F) k c ∗ agA (F := F) j c) ⊢ iprop(rsG (F := F) k c ∗ agG (F := F) j c) := by
  have hk : 4 - j.val = k.val := by omega
  unfold barPay
  rw [hj]
  iintro ⟨⟨H8, H9⟩, HA, HB⟩
  isplitl [HA H8]
  · iapply (rs_up k c)
    isplitl [HA]; · iexact HA
    iexact H8
  iapply (ag_up j c)
  isplitl [HB]; · iexact HB
  rw [hk]; iexact H9

variable (K : Dev nD × Fin 21 → ℕ)

set_option maxHeartbeats 1000000 in
/-- The whole kernel on device `c`. -/
theorem whole_seg (c : Dev nD) (Q : PUnit → sProp 𝕄) (fx : Buf (Elt F) ((c : Thread nD τ).loc cc0_stg0_0)) (fw : Buf (Elt F) ((c : Thread nD τ).loc cc0_stg1_0))
    (fk : Buf (Elt F) ((c : Thread nD τ).loc cc0_stg2_0)) (fv : Buf (Elt F) ((c : Thread nD τ).loc cc0_stg3_0)) (fo : Vec F S1024x1024 .bf16) (fz : Vec F S1024x1024 .f32)
    (hE : E0 c = (localRun c fx fw fk fv).1) (hW : WB c = k0_pay1 fo) :
    iprop(records E0 WB K ∗ levAts L lv ∗ (pt c (Memref.whole cc0_stg0_0) fx ∗ pt c (Memref.whole cc0_stg1_0) fw ∗ pt c (Memref.whole cc0_stg2_0) fk ∗ pt c (Memref.whole cc0_stg3_0) fv ∗ pt c (Memref.whole cc0_stg4_0) fo) ∗ pt c (Memref.whole cc0_stg5_0) fz ∗ ((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f)) ∗ ow c 15 ∗ handG c ∗ (rsA (F := F) 0 c ∗ rsA (F := F) 1 c ∗ rsA (F := F) 2 c ∗ rsA (F := F) 3 c ∗ rsA (F := F) 4 c) ∗ (agA (F := F) 0 c ∗ agA (F := F) 1 c ∗ agA (F := F) 2 c ∗ agA (F := F) 3 c ∗ agA (F := F) 4 c)
        ∗ (((pt c (Memref.whole cc0_stg0_0) fx ∗ pt c (Memref.whole cc0_stg1_0) fw ∗ pt c (Memref.whole cc0_stg2_0) fk ∗ pt c (Memref.whole cc0_stg3_0) fv ∗ pt c (Memref.whole cc0_stg4_0) fo) ∗ pt c (Memref.whole cc0_stg5_0) (OUT E0 WB) ∗ ((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f)) ∗ ow c 0 ∗ semVal (barCell c) 0 ∗ (semVal (dcell (iRS 0) c) 0 ∗ semVal (dcell (iRS 1) c) 0 ∗ semVal (dcell (iRS 2) c) 0 ∗ semVal (dcell (iRS 3) c) 0 ∗ semVal (dcell (iRS 4) c) 0 ∗ semVal (dcell (iRR 0) c) 0 ∗ semVal (dcell (iRR 1) c) 0 ∗ semVal (dcell (iRR 2) c) 0 ∗ semVal (dcell (iRR 3) c) 0 ∗ semVal (dcell (iRR 4) c) 0 ∗ semVal (dcell (iAS 0) c) 0 ∗ semVal (dcell (iAS 1) c) 0 ∗ semVal (dcell (iAS 2) c) 0 ∗ semVal (dcell (iAS 3) c) 0 ∗ semVal (dcell (iAS 4) c) 0 ∗ semVal (dcell (iAR 0) c) 0 ∗ semVal (dcell (iAR 1) c) 0 ∗ semVal (dcell (iAR 2) c) 0 ∗ semVal (dcell (iAR 3) c) 0 ∗ semVal (dcell (iAR 4) c) 0)) -∗ Q ⟨⟩))
      ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13) Q := by
  rw [body_eq]
  iintro ⟨#HR, #Hlev, ⟨Hx, Hw, Hk, Hv, Ho⟩, Hz, ⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩⟩, HO, HG, ⟨A0, A1, A2, A3, A4⟩, ⟨B0, B1, B2, B3, B4⟩, HQ⟩
  iapply (hand_seg E0 WB K c (fun d0 v2 => localProg d0 v2 fun a b d e => rsProg d0 v2 a b d e fun v => agProg d0 v2 v) Q fo f4 f8 f9)
  isplitr; · iexact HR
  isplitr; · iexact Hlev
  isplitl [Ho]; · iexact Ho
  isplitl [S4]; · iexact S4
  isplitl [S8]; · iexact S8
  isplitl [S9]; · iexact S9
  isplitl [HO]; · iexact HO
  isplitl [HG]; · iexact HG
  iintro %v2 ⟨Ho, S4, HO, Hb, ⟨P0, P1, P2, P3, P4⟩, H9⟩
  ihave ⟨A0, B4⟩ := (grant 0 4 rfl c) $$ [P0 A0 B4]
  · isplitl [P0]; · iexact P0
    isplitl [A0]; · iexact A0
    iexact B4
  ihave ⟨A1, B3⟩ := (grant 1 3 rfl c) $$ [P1 A1 B3]
  · isplitl [P1]; · iexact P1
    isplitl [A1]; · iexact A1
    iexact B3
  ihave ⟨A2, B2⟩ := (grant 2 2 rfl c) $$ [P2 A2 B2]
  · isplitl [P2]; · iexact P2
    isplitl [A2]; · iexact A2
    iexact B2
  ihave ⟨A3, B1⟩ := (grant 3 1 rfl c) $$ [P3 A3 B1]
  · isplitl [P3]; · iexact P3
    isplitl [A3]; · iexact A3
    iexact B1
  ihave ⟨A4, B0⟩ := (grant 4 0 rfl c) $$ [P4 A4 B0]
  · isplitl [P4]; · iexact P4
    isplitl [A4]; · iexact A4
    iexact B0
  iapply ((localRun c fx fw fk fv).2 v2 (fun a b d e => rsProg c v2 a b d e fun v => agProg c v2 v) Q f0 f1 f2 f3 f5)
  isplitl [Hx]; · iexact Hx
  isplitl [Hw]; · iexact Hw
  isplitl [Hk]; · iexact Hk
  isplitl [Hv]; · iexact Hv
  isplitl [S0]; · iexact S0
  isplitl [S1]; · iexact S1
  isplitl [S2]; · iexact S2
  isplitl [S3]; · iexact S3
  isplitl [S5]; · iexact S5
  iintro %a %b %d %e ⟨Hx, Hw, Hk, Hv, S5, S0, S1, S2, S3⟩
  ihave S5 := (Entails.of_eq (congrArg (fun X => (pt c (Memref.whole cc0_scratch5) X : sProp 𝕄)) (show (localRun c fx fw fk fv).1 = EE E0 0 c from hE.symm))) $$ S5
  ihave S4 := (Entails.of_eq (congrArg (fun X => (pt c (Memref.whole cc0_scratch4) X : sProp 𝕄)) hW.symm)) $$ S4
  iapply (rs_seg E0 WB K c v2 a b d e (fun v => agProg c v2 v) Q f6 f7 f9)
  isplitr; · iexact HR
  isplitr; · iexact Hlev
  isplitl [S4]; · iexact S4
  isplitl [S5]; · iexact S5
  isplitl [S6]; · iexact S6
  isplitl [S7]; · iexact S7
  isplitl [HO]; · iexact HO
  isplitl [H9]; · iexact H9
  isplitl [A0 A1 A2 A3 A4]
  · isplitl [A0]; · iexact A0
    isplitl [A1]; · iexact A1
    isplitl [A2]; · iexact A2
    isplitl [A3]; · iexact A3
    iexact A4
  unfold rsZ
  iintro %v ⟨S4, S5, S6, S7, HO, H9, ⟨s0, r0, L0⟩, ⟨s1, r1, L1⟩, ⟨s2, r2, L2⟩, ⟨s3, r3, L3⟩, ⟨s4, r4, L4⟩⟩
  iapply (ag_seg E0 WB K c v2 v Q fz)
  isplitr; · iexact HR
  isplitr; · iexact Hlev
  isplitl [Hz]; · iexact Hz
  isplitl [HO]; · iexact HO
  isplitl [H9]; · iexact H9
  isplitl [B0 B1 B2 B3 B4]
  · isplitl [B0]; · iexact B0
    isplitl [B1]; · iexact B1
    isplitl [B2]; · iexact B2
    isplitl [B3]; · iexact B3
    iexact B4
  unfold agZ
  iintro ⟨Hz, S9, HO, ⟨a0, q0⟩, ⟨a1, q1⟩, ⟨a2, q2⟩, ⟨a3, q3⟩, ⟨a4, q4⟩⟩
  ihave S8 := (r8_back (F := F) c) $$ [L0 L1 L2 L3 L4]
  · isplitl [L0]; · iexact L0
    isplitl [L1]; · iexact L1
    isplitl [L2]; · iexact L2
    isplitl [L3]; · iexact L3
    iexact L4
  iapply HQ
  isplitl [Hx Hw Hk Hv Ho]
  · isplitl [Hx]; · iexact Hx
    isplitl [Hw]; · iexact Hw
    isplitl [Hk]; · iexact Hk
    isplitl [Hv]; · iexact Hv
    iexact Ho
  isplitl [Hz]; · iexact Hz
  isplitl [S0 S1 S2 S3 S4 S5 S6 S7 S8 S9]
  · isplitl [S0]; · iexact S0
    isplitl [S1]; · iexact S1
    isplitl [S2]; · iexact S2
    isplitl [S3]; · iexact S3
    isplitl [S4]; · iexists _; iexact S4
    isplitl [S5]; · iexact S5
    isplitl [S6]; · iexact S6
    isplitl [S7]; · iexact S7
    isplitl [S8]; · iexact S8
    iexact S9
  isplitl [HO]; · iexact HO
  isplitl [Hb]; · iexact Hb
  isplitl [s0]; · iexact s0
  isplitl [s1]; · iexact s1
  isplitl [s2]; · iexact s2
  isplitl [s3]; · iexact s3
  isplitl [s4]; · iexact s4
  isplitl [r0]; · iexact r0
  isplitl [r1]; · iexact r1
  isplitl [r2]; · iexact r2
  isplitl [r3]; · iexact r3
  isplitl [r4]; · iexact r4
  isplitl [a0]; · iexact a0
  isplitl [a1]; · iexact a1
  isplitl [a2]; · iexact a2
  isplitl [a3]; · iexact a3
  isplitl [a4]; · iexact a4
  isplitl [q0]; · iexact q0
  isplitl [q1]; · iexact q1
  isplitl [q2]; · iexact q2
  isplitl [q3]; · iexact q3
  iexact q4

end Cert.KernelIdealProof

end
-- ==== Proof.Ghost.lean ====
module

public import proofs.«01_k».proof.Proof.Body

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (E0 : Dev nD → Vec F S1024x1152 .f32) (WB : Dev nD → Vec F S1024x1024 .bf16)

/-! ## Cells, tokens and who holds them -/

theorem ownSemFacts : Pipeline.OwnSemFacts cfg0.spec osem := by decide

theorem csem_inj : ∀ k k' : Fin 21, csem k = csem k' → k = k' := by decide

theorem kcell_injective : Function.Injective (kcell : Dev nD × Fin 21 → GSem nD τ sig) := by
  intro x y h
  have h1 : x.1 = y.1 := Fin.ext (congrArg (fun g : GSem nD τ sig => g.1.1.val) h)
  exact Prod.ext h1 (csem_inj _ _ (congrArg Prod.snd h))

def allCells : Finset (GSem nD τ sig) := Finset.univ.map ⟨kcell, kcell_injective⟩

/-- The cell and the duty name of token `j`: the barrier's five, then one for each transfer semaphore. -/
def tcell (j : Fin 25) : Fin 21 := if h : j.val < 5 then 0 else ⟨j.val - 4, by omega⟩
def tduty (j : Fin 25) : Fin 5 := if h : j.val < 5 then ⟨j.val, h⟩ else 0
theorem t_inj : ∀ j j' : Fin 25, tcell j = tcell j' → tduty j = tduty j' → j = j' := by decide

def tokOf (cj : Dev nD × Fin 25) : GSem nD τ sig × ℕ × Fin 5 := (kcell (cj.1, tcell cj.2), 0, tduty cj.2)
theorem tokOf_injective : Function.Injective tokOf := by
  intro x y h
  have hk : (x.1, tcell x.2) = (y.1, tcell y.2) := kcell_injective (congrArg Prod.fst h)
  exact Prod.ext (congrArg (fun z : Dev nD × Fin 21 => z.1) hk) (t_inj _ _ (congrArg (fun z : Dev nD × Fin 21 => z.2) hk) (congrArg (fun z : GSem nD τ sig × ℕ × Fin 5 => z.2.2) h))
def allToks : Finset (GSem nD τ sig × ℕ × Fin 5) := Finset.univ.map ⟨tokOf, tokOf_injective⟩

/-- The device that pays token `j` of a device, and conversely. -/
def dest (j : Fin 25) (c : Dev nD) : Dev nD :=
  if j.val < 5 then peer j.val c else if j.val < 10 then c else if j.val < 15 then peer (j.val - 10) c else if j.val < 20 then c else peer (4 - (j.val - 20)) c
theorem dest_dest : ∀ (j : Fin 25) (c : Dev nD), dest j (dest j c) = c := by decide +kernel
def destE (j : Fin 25) : Dev nD ≃ Dev nD := Function.Involutive.toPerm (dest j) (dest_dest j)

def u₀ : UU := (initOf (Pipeline.cells cfgs cellOf_inj) (Pipeline.launchToks cfgs cellOf_inj), initOf allCells allToks)

def tok (j : Fin 25) (c : Dev nD) : sProp 𝕄 := dutyTok ER (kcell (c, tcell j)) 0 (tduty j)
def toks (c : Dev nD) : sProp 𝕄 := bigSep Finset.univ fun j : Fin 25 => tok j c
def payToks (c : Dev nD) : sProp 𝕄 := bigSep Finset.univ fun j : Fin 25 => tok j (dest j c)

theorem swap (Φ : Dev nD → Fin 25 → sProp 𝕄) : (bigSep Finset.univ fun c => bigSep Finset.univ fun j => Φ c j) = bigSep Finset.univ fun j => bigSep Finset.univ fun c => Φ c j := by
  rw [← bigSep_univ_prod fun cj : Dev nD × Fin 25 => Φ cj.1 cj.2, ← bigSep_univ_prod fun jc : Fin 25 × Dev nD => Φ jc.2 jc.1]
  exact bigSep_univ_equiv (Equiv.prodComm (Fin 25) (Dev nD)) fun cj : Dev nD × Fin 25 => Φ cj.1 cj.2

theorem toks_around : (bigSep Finset.univ fun c : Dev nD => (toks c : sProp 𝕄)) ⊢ bigSep Finset.univ fun c : Dev nD => payToks c := by
  unfold toks payToks
  rw [swap fun (c : Dev nD) (j : Fin 25) => (tok j c : sProp 𝕄), swap fun (c : Dev nD) (j : Fin 25) => (tok j (dest j c) : sProp 𝕄)]
  exact bigSep_mono fun j _ => Entails.of_eq (bigSep_univ_equiv (destE j) (fun c : Dev nD => (tok j c : sProp 𝕄)))

/-- What the launch deals device `c`. -/
def G (c : Dev nD) : sProp 𝕄 :=
  iprop((bigSep Finset.univ fun k : Fin 21 => roundState ER (Rd E0 WB) (kcell (c, k)) 0)
    ∗ (bigSep Finset.univ fun k : Fin 21 => iprop(atPos ER (kcell (c, k)) 0 ∅ 0 ∗ reached ER (kcell (c, k)) 0)) ∗ toks c)

/-- Its positions and the tokens of the duties it pays. -/
def linear (c : Dev nD) : sProp 𝕄 := iprop((bigSep Finset.univ fun k : Fin 21 => atPos ER (kcell (c, k)) 0 ∅ 0) ∗ payToks c)
def G' (c : Dev nD) : sProp 𝕄 := iprop(∃ K, records E0 WB K ∗ linear c)

theorem fund_all : BI.own (ER (initOf allCells allToks)) ⊢ (|==> bigSep Finset.univ (G E0 WB) : sProp 𝕄) := by
  have hX (Φ : GSem nD τ sig → sProp 𝕄) : bigSep allCells Φ = bigSep Finset.univ fun c : Dev nD => bigSep Finset.univ fun k : Fin 21 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd E0 WB) allCells allToks) $$ HX with ⟨Hst, Hr, Hat, Htok⟩
  imodintro
  ihave Hst' := (Entails.of_eq (hX fun g => roundState ER (Rd E0 WB) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem bigSep_21 (Φ : Fin 21 → sProp 𝕄) : bigSep Finset.univ Φ = bigSepL [(0 : Fin 21), (1 : Fin 21), (2 : Fin 21), (3 : Fin 21), (4 : Fin 21), (5 : Fin 21), (6 : Fin 21), (7 : Fin 21), (8 : Fin 21), (9 : Fin 21), (10 : Fin 21), (11 : Fin 21), (12 : Fin 21), (13 : Fin 21), (14 : Fin 21), (15 : Fin 21), (16 : Fin 21), (17 : Fin 21), (18 : Fin 21), (19 : Fin 21), (20 : Fin 21)] Φ := bigSep_univ_eq_bigSepL _ (by decide) (by decide) Φ
theorem bigSep_25 (Φ : Fin 25 → sProp 𝕄) : bigSep Finset.univ Φ = bigSepL [(0 : Fin 25), (1 : Fin 25), (2 : Fin 25), (3 : Fin 25), (4 : Fin 25), (5 : Fin 25), (6 : Fin 25), (7 : Fin 25), (8 : Fin 25), (9 : Fin 25), (10 : Fin 25), (11 : Fin 25), (12 : Fin 25), (13 : Fin 25), (14 : Fin 25), (15 : Fin 25), (16 : Fin 25), (17 : Fin 25), (18 : Fin 25), (19 : Fin 25), (20 : Fin 25), (21 : Fin 25), (22 : Fin 25), (23 : Fin 25), (24 : Fin 25)] Φ := bigSep_univ_eq_bigSepL _ (by decide) (by decide) Φ

theorem ownSems0_eq (c : Dev nD) : (Pipeline.ownSems0 (Ix := Unit) (Name := ℕ) (U := UU) (Lvl := ℕ) (Val := Elt F) (τ := τ) osem c : sProp 𝕄)
    = iprop(semVal (dcell (iRS 0) c) 0 ∗ semVal (dcell (iRS 1) c) 0 ∗ semVal (dcell (iRS 2) c) 0 ∗ semVal (dcell (iRS 3) c) 0 ∗ semVal (dcell (iRS 4) c) 0 ∗ semVal (dcell (iRR 0) c) 0 ∗ semVal (dcell (iRR 1) c) 0 ∗ semVal (dcell (iRR 2) c) 0 ∗ semVal (dcell (iRR 3) c) 0 ∗ semVal (dcell (iRR 4) c) 0 ∗ semVal (dcell (iAS 0) c) 0 ∗ semVal (dcell (iAS 1) c) 0 ∗ semVal (dcell (iAS 2) c) 0 ∗ semVal (dcell (iAS 3) c) 0 ∗ semVal (dcell (iAS 4) c) 0 ∗ semVal (dcell (iAR 0) c) 0 ∗ semVal (dcell (iAR 1) c) 0 ∗ semVal (dcell (iAR 2) c) 0 ∗ semVal (dcell (iAR 3) c) 0 ∗ semVal (dcell (iAR 4) c) 0) := by
  rw [Pipeline.ownSems0_eq_of_list c osem [(0 : Fin 20), (1 : Fin 20), (2 : Fin 20), (3 : Fin 20), (4 : Fin 20), (5 : Fin 20), (6 : Fin 20), (7 : Fin 20), (8 : Fin 20), (9 : Fin 20), (10 : Fin 20), (11 : Fin 20), (12 : Fin 20), (13 : Fin 20), (14 : Fin 20), (15 : Fin 20), (16 : Fin 20), (17 : Fin 20), (18 : Fin 20), (19 : Fin 20)] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 21 => semVal (kcell (c, k)) 0 : sProp 𝕄) := by
  rw [ownSems0_eq, unscopedSems0_eq, bigSep_21]
  show _ ⊢ iprop(semVal (barCell c) 0 ∗ semVal (dcell (iRS 0) c) 0 ∗ semVal (dcell (iRS 1) c) 0 ∗ semVal (dcell (iRS 2) c) 0 ∗ semVal (dcell (iRS 3) c) 0 ∗ semVal (dcell (iRS 4) c) 0 ∗ semVal (dcell (iRR 0) c) 0 ∗ semVal (dcell (iRR 1) c) 0 ∗ semVal (dcell (iRR 2) c) 0 ∗ semVal (dcell (iRR 3) c) 0 ∗ semVal (dcell (iRR 4) c) 0 ∗ semVal (dcell (iAS 0) c) 0 ∗ semVal (dcell (iAS 1) c) 0 ∗ semVal (dcell (iAS 2) c) 0 ∗ semVal (dcell (iAS 3) c) 0 ∗ semVal (dcell (iAS 4) c) 0 ∗ semVal (dcell (iAR 0) c) 0 ∗ semVal (dcell (iAR 1) c) 0 ∗ semVal (dcell (iAR 2) c) 0 ∗ semVal (dcell (iAR 3) c) 0 ∗ semVal (dcell (iAR 4) c) 0)
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G E0 WB c)
      ⊢ |={Set.univ}=> iprop((bigSep Finset.univ fun k => iprop(∃ κ : ℕ, cellInv ER (Rd E0 WB) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 21 => semVal (kcell (c, k)) 0) ∗ bigSep Finset.univ fun k : Fin 21 => roundState ER (Rd E0 WB) (kcell (c, k)) 0)
      ⊢ (|={Set.univ}=> bigSep Finset.univ fun k => iprop(∃ κ : ℕ, cellInv ER (Rd E0 WB) κ (kcell (c, k))) : sProp 𝕄) from by
        rw [← bigSep_sep']
        exact (bigSep_mono fun k _ => (Rounds.body_intro ER (Rd E0 WB) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 21 → ℕ) (c : Dev nD) : iprop(records E0 WB K ∗ linear c) ⊢ G' E0 WB c := by
  unfold G'
  iintro H
  iexists K; iexact H

theorem regroup :
    (bigSep Finset.univ fun c : Dev nD => iprop((bigSep Finset.univ fun k => iprop(∃ κ : ℕ, cellInv ER (Rd E0 WB) κ (kcell (c, k))))
          ∗ (bigSep Finset.univ fun k => iprop(atPos ER (kcell (c, k)) 0 ∅ 0 ∗ reached ER (kcell (c, k)) 0)) ∗ toks c) : sProp 𝕄)
      ⊢ bigSep Finset.univ (G' E0 WB) := by
  rw [bigSep_sep', bigSep_sep', ← bigSep_univ_prod (fun ck : Dev nD × Fin 21 => iprop(∃ κ : ℕ, cellInv ER (Rd E0 WB) κ (kcell ck))),
    bigSep_congr (s := Finset.univ) (fun (c : Dev nD) _ => bigSep_sep' Finset.univ (fun k : Fin 21 => (atPos ER (kcell (c, k)) 0 ∅ 0 : sProp 𝕄)) (fun k => reached ER (kcell (c, k)) 0)),
    bigSep_sep', ← bigSep_univ_prod (fun ck : Dev nD × Fin 21 => (reached ER (kcell ck) 0 : sProp 𝕄))]
  iintro ⟨HI, ⟨Hat, #HR⟩, Htok⟩
  ihave HK := (BI.bigSep_exists_pi Finset.univ (fun (ck : Dev nD × Fin 21) (κ : ℕ) => (cellInv ER (Rd E0 WB) κ (kcell ck) : sProp 𝕄))) $$ HI
  icases HK with ⟨%K, #HI⟩
  ihave Htk := (toks_around (F := F)) $$ Htok
  iapply (with_persistent (R := records E0 WB K) fun c _ => ghost_intro E0 WB K c)
  isplitr
  · unfold records; isplitl; · iexact HI
    iexact HR
  · iapply (Entails.of_eq (show iprop((bigSep Finset.univ fun c : Dev nD => bigSep Finset.univ fun k : Fin 21 => (atPos ER (kcell (c, k)) 0 ∅ 0 : sProp 𝕄)) ∗ bigSep Finset.univ fun c : Dev nD => (payToks c : sProp 𝕄))
        = bigSep Finset.univ fun c : Dev nD => (linear c : sProp 𝕄) from (bigSep_sep' Finset.univ _ _).symm))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G E0 WB c) : sProp 𝕄)
    ⊢ |={Set.univ}=> bigSep Finset.univ (G' E0 WB) :=
  ((bigSep_mono fun c _ => core_alloc E0 WB c).trans (bigSep_fupd _ _)).trans (BI.fupd_mono (regroup E0 WB))

/-! ## The launch credit -/

/-- Payment `t` goes to this semaphore of this device. -/
def psem (t : Fin 15) : Fin 21 := if t.val < 5 then 0 else if h : t.val < 10 then ⟨t.val + 1, by omega⟩ else ⟨t.val + 6, by omega⟩
def pdev (t : Fin 15) (c : Dev nD) : Dev nD := if t.val < 5 then peer t.val c else if t.val < 10 then peer (t.val - 5) c else peer (14 - t.val) c
theorem pdev_pdev : ∀ (t : Fin 15) (c : Dev nD), pdev t (pdev t c) = c := by decide +kernel
theorem pcell_eq (c : Dev nD) : ∀ t : Fin 15, pcell c t.val = kcell (pdev t c, psem t) := by intro t; fin_cases t <;> rfl

theorem owed_sum (c : Dev nD) (g : GSem nD τ sig) : ∀ n : ℕ, n ≤ 15 → owedN c n g () = ∑ t : Fin 15, if 15 - n ≤ t.val ∧ g = pcell c t.val then pamt t.val else 0
  | 0, _ => by
    refine (Finset.sum_eq_zero fun t _ => if_neg fun h => ?_).symm
    have := t.isLt; omega
  | n + 1, hn => by
    unfold owedN
    rw [Pi.add_apply, Finsupp.add_apply, tallyAt_apply, owed_sum c g n (by omega)]
    have hsp : (if g = pcell c (14 - n) ∧ () = () then pamt (14 - n) else 0) = ∑ t : Fin 15, if t = ⟨14 - n, by omega⟩ then (if g = pcell c t.val then pamt t.val else 0) else 0 := by
      rw [Finset.sum_ite_eq' Finset.univ (⟨14 - n, by omega⟩ : Fin 15), if_pos (Finset.mem_univ _)]
      simp only [and_true]
    rw [hsp, ← Finset.sum_add_distrib]
    refine Finset.sum_congr rfl fun t _ => ?_
    have ht := t.isLt
    by_cases hg : g = pcell c t.val
    · by_cases h1 : 15 - n ≤ t.val
      · rw [if_pos ⟨h1, hg⟩, if_neg (fun h => by have := congrArg Fin.val h; simp only at this; omega), if_pos ⟨by omega, hg⟩, Nat.add_zero]
      · by_cases h2 : t = ⟨14 - n, by omega⟩
        · rw [if_neg (fun h => h1 h.1), if_pos h2, if_pos hg, if_pos ⟨by rw [h2]; show 15 - (n + 1) ≤ 14 - n; omega, hg⟩, Nat.zero_add]
        · rw [if_neg (fun h => h1 h.1), if_neg h2, if_neg (fun h => h2 (Fin.ext (by have := h.1; show t.val = 14 - n; omega)))]
    · rw [if_neg (fun h => hg h.2), if_neg hg, ite_self, if_neg (fun h => hg h.2)]

/-- What comes in at a cell: five signals at the barrier, one transfer at each arrival semaphore. -/
def want (k : Fin 21) : ℕ := ∑ t : Fin 15, if k = psem t then pamt t.val else 0

theorem owed_all (c : Dev nD) (k : Fin 21) : ∑ d : Dev nD, owedN d 15 (kcell (c, k)) () = want k := by
  have h1 : ∀ (d : Dev nD) (t : Fin 15), (if 15 - 15 ≤ t.val ∧ kcell (c, k) = pcell d t.val then pamt t.val else 0) = if d = pdev t c then (if k = psem t then pamt t.val else 0) else 0 := by
    intro d t
    rw [pcell_eq]
    by_cases hd : d = pdev t c
    · rw [if_pos hd, hd, pdev_pdev]
      by_cases hk : k = psem t
      · rw [if_pos hk, if_pos ⟨Nat.zero_le _, by rw [hk]⟩]
      · rw [if_neg hk, if_neg fun h => hk (congrArg Prod.snd (kcell_injective h.2))]
    · rw [if_neg hd, if_neg fun h => hd ?_]
      have h3 : c = pdev t d := congrArg Prod.fst (kcell_injective h.2)
      rw [h3, pdev_pdev]
  rw [Finset.sum_congr rfl fun d _ => (owed_sum d (kcell (c, k)) 15 (le_refl _)).trans (Finset.sum_congr rfl fun t _ => h1 d t), Finset.sum_comm]
  unfold want
  refine Finset.sum_congr rfl fun t _ => ?_
  rw [Finset.sum_ite_eq' Finset.univ (pdev t c), if_pos (Finset.mem_univ _)]

theorem launch_at (c : Dev nD) (k : Fin 21) :
    tallyOn (kcell (c, k)) (launchCredit (Pipeline.owing fun d => owedN d 15) 0 (kcell (c, k))) = (tallyAt (kcell (c, k)) () (want k) : CellTallies nD τ sig Unit) := by
  unfold tallyAt; refine congrArg _ (Finsupp.ext fun u => ?_); cases u
  rw [Pipeline.launchCredit_owing, Finsupp.single_eq_same, owed_all]

theorem creds (c : Dev nD) :
    (Pipeline.launchCred (fun d => owedN d 15) c : sProp 𝕄) ⊢ bigSep Finset.univ fun k : Fin 21 => cred (tallyAt (kcell (c, k)) () (want k)) := by
  unfold Pipeline.launchCred
  refine (bigSep_subset (t := Finset.univ.map ⟨csem, fun k k' h => csem_inj k k' h⟩) (Finset.subset_univ _)).trans ?_
  rw [bigSep_map]
  exact bigSep_mono fun k _ => Entails.of_eq (congrArg cred (launch_at c k))

theorem want_eq : ∀ k : Fin 21, want k = if k.val = 0 then 5 else if h : 6 ≤ k.val ∧ k.val < 11 then amt ⟨k.val - 1, by omega⟩ else if h : 16 ≤ k.val then amt ⟨k.val - 1, by omega⟩ else 0 := by decide

/-- Everything a device holds, sorted by where it uses it. -/
theorem deal (c : Dev nD) : iprop((linear c : sProp 𝕄) ∗ bigSep Finset.univ fun k : Fin 21 => cred (tallyAt (kcell (c, k)) () (want k)))
    ⊢ iprop(handG (F := F) c ∗ (rsA (F := F) 0 c ∗ rsA (F := F) 1 c ∗ rsA (F := F) 2 c ∗ rsA (F := F) 3 c ∗ rsA (F := F) 4 c) ∗ (agA (F := F) 0 c ∗ agA (F := F) 1 c ∗ agA (F := F) 2 c ∗ agA (F := F) 3 c ∗ agA (F := F) 4 c)) := by
  simp only [want_eq]
  unfold linear payToks handG rsA agA
  rw [bigSep_21, bigSep_21, bigSep_25]
  show iprop(((atPos ER (barCell c) 0 ∅ 0 ∗ atPos ER (dcell (iRS 0) c) 0 ∅ 0 ∗ atPos ER (dcell (iRS 1) c) 0 ∅ 0 ∗ atPos ER (dcell (iRS 2) c) 0 ∅ 0 ∗ atPos ER (dcell (iRS 3) c) 0 ∅ 0 ∗ atPos ER (dcell (iRS 4) c) 0 ∅ 0 ∗ atPos ER (dcell (iRR 0) c) 0 ∅ 0 ∗ atPos ER (dcell (iRR 1) c) 0 ∅ 0 ∗ atPos ER (dcell (iRR 2) c) 0 ∅ 0 ∗ atPos ER (dcell (iRR 3) c) 0 ∅ 0 ∗ atPos ER (dcell (iRR 4) c) 0 ∅ 0 ∗ atPos ER (dcell (iAS 0) c) 0 ∅ 0 ∗ atPos ER (dcell (iAS 1) c) 0 ∅ 0 ∗ atPos ER (dcell (iAS 2) c) 0 ∅ 0 ∗ atPos ER (dcell (iAS 3) c) 0 ∅ 0 ∗ atPos ER (dcell (iAS 4) c) 0 ∅ 0 ∗ atPos ER (dcell (iAR 0) c) 0 ∅ 0 ∗ atPos ER (dcell (iAR 1) c) 0 ∅ 0 ∗ atPos ER (dcell (iAR 2) c) 0 ∅ 0 ∗ atPos ER (dcell (iAR 3) c) 0 ∅ 0 ∗ atPos ER (dcell (iAR 4) c) 0 ∅ 0) ∗ (dutyTok ER (barCell (peer 0 c)) 0 0 ∗ dutyTok ER (barCell (peer 1 c)) 0 1 ∗ dutyTok ER (barCell (peer 2 c)) 0 2 ∗ dutyTok ER (barCell (peer 3 c)) 0 3 ∗ dutyTok ER (barCell (peer 4 c)) 0 4 ∗ dutyTok ER (dcell (iRS 0) c) 0 0 ∗ dutyTok ER (dcell (iRS 1) c) 0 0 ∗ dutyTok ER (dcell (iRS 2) c) 0 0 ∗ dutyTok ER (dcell (iRS 3) c) 0 0 ∗ dutyTok ER (dcell (iRS 4) c) 0 0 ∗ dutyTok ER (dcell (iRR 0) (peer 0 c)) 0 0 ∗ dutyTok ER (dcell (iRR 1) (peer 1 c)) 0 0 ∗ dutyTok ER (dcell (iRR 2) (peer 2 c)) 0 0 ∗ dutyTok ER (dcell (iRR 3) (peer 3 c)) 0 0 ∗ dutyTok ER (dcell (iRR 4) (peer 4 c)) 0 0 ∗ dutyTok ER (dcell (iAS 0) c) 0 0 ∗ dutyTok ER (dcell (iAS 1) c) 0 0 ∗ dutyTok ER (dcell (iAS 2) c) 0 0 ∗ dutyTok ER (dcell (iAS 3) c) 0 0 ∗ dutyTok ER (dcell (iAS 4) c) 0 0 ∗ dutyTok ER (dcell (iAR 0) (peer (4 - ((0 : Fin 5) : ℕ)) c)) 0 0 ∗ dutyTok ER (dcell (iAR 1) (peer (4 - ((1 : Fin 5) : ℕ)) c)) 0 0 ∗ dutyTok ER (dcell (iAR 2) (peer (4 - ((2 : Fin 5) : ℕ)) c)) 0 0 ∗ dutyTok ER (dcell (iAR 3) (peer (4 - ((3 : Fin 5) : ℕ)) c)) 0 0 ∗ dutyTok ER (dcell (iAR 4) (peer (4 - ((4 : Fin 5) : ℕ)) c)) 0 0)) ∗ (cred (tallyAt (barCell c) () 5) ∗ cred (tallyAt (dcell (iRS 0) c) () 0) ∗ cred (tallyAt (dcell (iRS 1) c) () 0) ∗ cred (tallyAt (dcell (iRS 2) c) () 0) ∗ cred (tallyAt (dcell (iRS 3) c) () 0) ∗ cred (tallyAt (dcell (iRS 4) c) () 0) ∗ cred (tallyAt (dcell (iRR 0) c) () (amt (iRR 0))) ∗ cred (tallyAt (dcell (iRR 1) c) () (amt (iRR 1))) ∗ cred (tallyAt (dcell (iRR 2) c) () (amt (iRR 2))) ∗ cred (tallyAt (dcell (iRR 3) c) () (amt (iRR 3))) ∗ cred (tallyAt (dcell (iRR 4) c) () (amt (iRR 4))) ∗ cred (tallyAt (dcell (iAS 0) c) () 0) ∗ cred (tallyAt (dcell (iAS 1) c) () 0) ∗ cred (tallyAt (dcell (iAS 2) c) () 0) ∗ cred (tallyAt (dcell (iAS 3) c) () 0) ∗ cred (tallyAt (dcell (iAS 4) c) () 0) ∗ cred (tallyAt (dcell (iAR 0) c) () (amt (iAR 0))) ∗ cred (tallyAt (dcell (iAR 1) c) () (amt (iAR 1))) ∗ cred (tallyAt (dcell (iAR 2) c) () (amt (iAR 2))) ∗ cred (tallyAt (dcell (iAR 3) c) () (amt (iAR 3))) ∗ cred (tallyAt (dcell (iAR 4) c) () (amt (iAR 4))))) ⊢ _
  iintro ⟨⟨⟨Pb, Ps0, Ps1, Ps2, Ps3, Ps4, Pr0, Pr1, Pr2, Pr3, Pr4, Pa0, Pa1, Pa2, Pa3, Pa4, Pq0, Pq1, Pq2, Pq3, Pq4⟩, ⟨Tb0, Tb1, Tb2, Tb3, Tb4, Ts0, Ts1, Ts2, Ts3, Ts4, Tr0, Tr1, Tr2, Tr3, Tr4, Ta0, Ta1, Ta2, Ta3, Ta4, Tq0, Tq1, Tq2, Tq3, Tq4⟩⟩, ⟨Cb, Cs0, Cs1, Cs2, Cs3, Cs4, Cr0, Cr1, Cr2, Cr3, Cr4, Ca0, Ca1, Ca2, Ca3, Ca4, Cq0, Cq1, Cq2, Cq3, Cq4⟩⟩
  isplitl [Pb Cb Tb0 Tb1 Tb2 Tb3 Tb4]
  · isplitl [Pb]; · iexact Pb
    isplitl [Cb]; · iexact Cb
    isplitl [Tb0]; · iexact Tb0
    isplitl [Tb1]; · iexact Tb1
    isplitl [Tb2]; · iexact Tb2
    isplitl [Tb3]; · iexact Tb3
    iexact Tb4
  isplitl [Ps0 Pr0 Ts0 Tr0 Cr0 Ps1 Pr1 Ts1 Tr1 Cr1 Ps2 Pr2 Ts2 Tr2 Cr2 Ps3 Pr3 Ts3 Tr3 Cr3 Ps4 Pr4 Ts4 Tr4 Cr4]
  · isplitl [Ps0 Pr0 Ts0 Tr0 Cr0]
    · isplitl [Ps0]; · iexact Ps0
      isplitl [Pr0]; · iexact Pr0
      isplitl [Ts0]; · iexact Ts0
      isplitl [Tr0]; · iexact Tr0
      iexact Cr0
    isplitl [Ps1 Pr1 Ts1 Tr1 Cr1]
    · isplitl [Ps1]; · iexact Ps1
      isplitl [Pr1]; · iexact Pr1
      isplitl [Ts1]; · iexact Ts1
      isplitl [Tr1]; · iexact Tr1
      iexact Cr1
    isplitl [Ps2 Pr2 Ts2 Tr2 Cr2]
    · isplitl [Ps2]; · iexact Ps2
      isplitl [Pr2]; · iexact Pr2
      isplitl [Ts2]; · iexact Ts2
      isplitl [Tr2]; · iexact Tr2
      iexact Cr2
    isplitl [Ps3 Pr3 Ts3 Tr3 Cr3]
    · isplitl [Ps3]; · iexact Ps3
      isplitl [Pr3]; · iexact Pr3
      isplitl [Ts3]; · iexact Ts3
      isplitl [Tr3]; · iexact Tr3
      iexact Cr3
    isplitl [Ps4]; · iexact Ps4
    isplitl [Pr4]; · iexact Pr4
    isplitl [Ts4]; · iexact Ts4
    isplitl [Tr4]; · iexact Tr4
    iexact Cr4
  isplitl [Pa0 Pq0 Ta0 Tq0 Cq0]
  · isplitl [Pa0]; · iexact Pa0
    isplitl [Pq0]; · iexact Pq0
    isplitl [Ta0]; · iexact Ta0
    isplitl [Tq0]; · iexact Tq0
    iexact Cq0
  isplitl [Pa1 Pq1 Ta1 Tq1 Cq1]
  · isplitl [Pa1]; · iexact Pa1
    isplitl [Pq1]; · iexact Pq1
    isplitl [Ta1]; · iexact Ta1
    isplitl [Tq1]; · iexact Tq1
    iexact Cq1
  isplitl [Pa2 Pq2 Ta2 Tq2 Cq2]
  · isplitl [Pa2]; · iexact Pa2
    isplitl [Pq2]; · iexact Pq2
    isplitl [Ta2]; · iexact Ta2
    isplitl [Tq2]; · iexact Tq2
    iexact Cq2
  isplitl [Pa3 Pq3 Ta3 Tq3 Cq3]
  · isplitl [Pa3]; · iexact Pa3
    isplitl [Pq3]; · iexact Pq3
    isplitl [Ta3]; · iexact Ta3
    isplitl [Tq3]; · iexact Tq3
    iexact Cq3
  isplitl [Pa4]; · iexact Pa4
  isplitl [Pq4]; · iexact Pq4
  isplitl [Ta4]; · iexact Ta4
  isplitl [Tq4]; · iexact Tq4
  iexact Cq4

end Cert.KernelIdealProof

end
-- ==== Proof.Run.lean ====
module

public import proofs.«01_k».proof.Proof.Ghost
public import proofs.«01_k».proof.Proof.Gen.KernelIdeal.Points
public import Idealize.ShloMosaic.Lib.Pipeline.CollectiveSegs

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## What each device stages and computes -/

def in0 (c : Dev nD) : (cc0_stg0_0 : Ref sig .tc).ty.Contents (Elt F) := (win0_0.blk (0 : Fin 1)).view.read (Elt F) ((s₀ m ρ).mem ((c : Thread nD τ).loc main_arg0))
def in1 (c : Dev nD) : (cc0_stg1_0 : Ref sig .tc).ty.Contents (Elt F) := (win0_1.blk (0 : Fin 1)).view.read (Elt F) ((s₀ m ρ).mem ((c : Thread nD τ).loc main_arg1))
def in2 (c : Dev nD) : (cc0_stg2_0 : Ref sig .tc).ty.Contents (Elt F) := (win0_2.blk (0 : Fin 1)).view.read (Elt F) ((s₀ m ρ).mem ((c : Thread nD τ).loc main_arg2))
def in3 (c : Dev nD) : (cc0_stg3_0 : Ref sig .tc).ty.Contents (Elt F) := (win0_3.blk (0 : Fin 1)).view.read (Elt F) ((s₀ m ρ).mem ((c : Thread nD τ).loc main_arg3))
def in4 (c : Dev nD) : (cc0_stg4_0 : Ref sig .tc).ty.Contents (Elt F) := (win0_4.blk (0 : Fin 1)).view.read (Elt F) ((s₀ m ρ).mem ((c : Thread nD τ).loc main_arg4))

/-- Every device's unnormalised sums over its own keys and values. -/
def sums (c : Dev nD) : Vec F S1024x1152 .f32 := (localRun c (in0 m ρ c) (in1 m ρ c) (in2 m ρ c) (in3 m ρ c)).1
/-- The output projection, rounded. -/
def proj (c : Dev nD) : Vec F S1024x1024 .bf16 := k0_pay1 (in4 m ρ c)
def result : Vec F S1024x1024 .f32 := OUT (sums m ρ) (proj m ρ)

def scr (c : Dev nD) : sProp 𝕄 := iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f))

def zeros (c : Dev nD) : sProp 𝕄 := iprop(semVal (dcell (iRS 0) c) 0 ∗ semVal (dcell (iRS 1) c) 0 ∗ semVal (dcell (iRS 2) c) 0 ∗ semVal (dcell (iRS 3) c) 0 ∗ semVal (dcell (iRS 4) c) 0 ∗ semVal (dcell (iRR 0) c) 0 ∗ semVal (dcell (iRR 1) c) 0 ∗ semVal (dcell (iRR 2) c) 0 ∗ semVal (dcell (iRR 3) c) 0 ∗ semVal (dcell (iRR 4) c) 0 ∗ semVal (dcell (iAS 0) c) 0 ∗ semVal (dcell (iAS 1) c) 0 ∗ semVal (dcell (iAS 2) c) 0 ∗ semVal (dcell (iAS 3) c) 0 ∗ semVal (dcell (iAS 4) c) 0 ∗ semVal (dcell (iAR 0) c) 0 ∗ semVal (dcell (iAR 1) c) 0 ∗ semVal (dcell (iAR 2) c) 0 ∗ semVal (dcell (iAR 3) c) 0 ∗ semVal (dcell (iAR 4) c) 0)

def start (c : Dev nD) : sProp 𝕄 :=
  iprop(G' (sums m ρ) (proj m ρ) c ∗ (bigSep Finset.univ fun k : Fin 21 => cred (tallyAt (kcell (c, k)) () (want k))) ∗ levAts L lv)

def Φ₀ (c : Dev nD) : sProp 𝕄 := iprop(start m ρ c ∗ scr c)
def Φ₁ (c : Dev nD) : sProp 𝕄 := iprop(scr c ∗ semVal (barCell c) 0 ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => in0 m ρ c
    | ⟨1, _⟩ => in1 m ρ c
    | ⟨2, _⟩ => in2 m ρ c
    | ⟨3, _⟩ => in3 m ρ c
    | ⟨4, _⟩ => in4 m ρ c
    | ⟨5, _⟩ => result m ρ
  Φ t := match t with
    | ⟨0, _⟩ => Φ₀ m ρ c
    | ⟨_ + 1, _⟩ => Φ₁ (F := F) c
  q _ := fullShare
  owed t := match t with
    | ⟨0, _⟩ => owedN c 15
    | ⟨_ + 1, _⟩ => owedN c 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, held c cc0_stg0_0 ((dats m ρ 0 c).before (0 : Fin 6) t0_0 d))
    ∗ (∃ d, held c cc0_stg1_0 ((dats m ρ 0 c).before (1 : Fin 6) t0_0 d))
    ∗ (∃ d, held c cc0_stg2_0 ((dats m ρ 0 c).before (2 : Fin 6) t0_0 d))
    ∗ (∃ d, held c cc0_stg3_0 ((dats m ρ 0 c).before (3 : Fin 6) t0_0 d))
    ∗ (∃ d, held c cc0_stg4_0 ((dats m ρ 0 c).before (4 : Fin 6) t0_0 d))
    ∗ (∃ d, held c cc0_stg5_0 ((dats m ρ 0 c).before (5 : Fin 6) t0_0 d)))

def bodyPost (c : Dev nD) : sProp 𝕄 :=
  iprop(Φ₁ (F := F) c ∗ (dats m ρ 0 c).owesAt () t0_0.succ ∗ held c cc0_stg0_0 (in0 m ρ c) ∗ held c cc0_stg1_0 (in1 m ρ c) ∗ held c cc0_stg2_0 (in2 m ρ c) ∗ held c cc0_stg3_0 (in3 m ρ c) ∗ held c cc0_stg4_0 (in4 m ρ c) ∗ held c cc0_stg5_0 (result m ρ))

set_option maxHeartbeats 1000000 in
theorem sound_body (c : Dev nD) :
    bodyPre m ρ c ⊢ wp frame (wpE (defs₀ (F := F)) 𝒱₀ (c : Thread nD τ) none) Set.univ (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13) (fun _ => bodyPost m ρ c) := by
  unfold bodyPre Φ₀ start G' scr
  iintro ⟨⟨⟨⟨%K, #HR, Hlin⟩, Hcr, #Hlev⟩, Hscr⟩, Hob, ⟨%d0, %g0, %hg0, Hx⟩, ⟨%d1, %g1, %hg1, Hw⟩, ⟨%d2, %g2, %hg2, Hk⟩, ⟨%d3, %g3, %hg3, Hv⟩, ⟨%d4, %g4, %hg4, Ho⟩, ⟨%d5, %g5, %hg5, Hz⟩⟩
  have hx0 : g0 = in0 m ρ c := by rw [hg0]; unfold Dat.before; rw [if_pos (fetch0_0 t0_0)]; rfl
  subst hx0
  have hx1 : g1 = in1 m ρ c := by rw [hg1]; unfold Dat.before; rw [if_pos (fetch0_1 t0_0)]; rfl
  subst hx1
  have hx2 : g2 = in2 m ρ c := by rw [hg2]; unfold Dat.before; rw [if_pos (fetch0_2 t0_0)]; rfl
  subst hx2
  have hx3 : g3 = in3 m ρ c := by rw [hg3]; unfold Dat.before; rw [if_pos (fetch0_3 t0_0)]; rfl
  subst hx3
  have hx4 : g4 = in4 m ρ c := by rw [hg4]; unfold Dat.before; rw [if_pos (fetch0_4 t0_0)]; rfl
  subst hx4
  unfold Dat.owesAt Pipeline.owesWithin
  icases Hob with ⟨%W, %hW, HO⟩
  rw [show (dats m ρ 0 c).owed t0_0.castSucc = owedN c 15 from rfl]
  ihave Hd := (deal (F := F) c) $$ [Hlin Hcr]
  · isplitl [Hlin] <;> iassumption
  icases Hd with ⟨Hg, Hrs, Hag⟩
  iapply (whole_seg (sums m ρ) (proj m ρ) K c (fun _ => bodyPost m ρ c) (in0 m ρ c) (in1 m ρ c) (in2 m ρ c) (in3 m ρ c) (in4 m ρ c) g5 rfl rfl)
  isplitr; · iexact HR
  isplitr; · iexact Hlev
  isplitl [Hx Hw Hk Hv Ho]
  · isplitl [Hx]; · iexact Hx
    isplitl [Hw]; · iexact Hw
    isplitl [Hk]; · iexact Hk
    isplitl [Hv]; · iexact Hv
    iexact Ho
  isplitl [Hz]; · iexact Hz
  isplitl [Hscr]; · iexact Hscr
  isplitl [HO]
  · unfold ow; iexists W; iexact HO
  isplitl [Hg]; · iexact Hg
  isplitl [Hrs]; · iexact Hrs
  isplitl [Hag]; · iexact Hag
  iintro ⟨⟨Hx, Hw, Hk, Hv, Ho⟩, Hz, Hscr, HO, Hb, Hzs⟩
  unfold bodyPost Φ₁ scr zeros
  isplitl [Hscr Hb Hzs]
  · isplitl [Hscr]; · iexact Hscr
    isplitl [Hb]; · iexact Hb
    iexact Hzs
  isplitl [HO]
  · unfold ow
    icases HO with ⟨%W', HO⟩
    unfold Dat.owesAt Pipeline.owesWithin
    iexists W'
    isplitr
    · ipureintro; intro x hx; exact Or.inl trivial
    iexact HO
  isplitl [Hx]
  · iexists _; isplitr; · (ipureintro; rfl)
    iexact Hx
  isplitl [Hw]
  · iexists _; isplitr; · (ipureintro; rfl)
    iexact Hw
  isplitl [Hk]
  · iexists _; isplitr; · (ipureintro; rfl)
    iexact Hk
  isplitl [Hv]
  · iexists _; isplitr; · (ipureintro; rfl)
    iexact Hv
  isplitl [Ho]
  · iexists _; isplitr; · (ipureintro; rfl)
    iexact Ho
  iexists _; isplitr; · (ipureintro; rfl)
  iexact Hz

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owedN d 15) c ∗ prngReg c (ρ c) ∗ G' (sums m ρ) (proj m ρ) c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ scr zeros
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide) 15 (by omega)
    · exact mayWait_stage c _ (by fin_cases w <;> fin_cases s <;> decide) 0 (by omega)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedN d 15) (howed₀ := fun _ => rfl) (howedN := fun _ => rfl)
    (L := L) (lv := lv) (hL := L_of_ne) (hwaits := waits m ρ)
    (G := G (sums m ρ) (proj m ρ)) (G' := G' (sums m ρ) (proj m ρ)) (u₀ := u₀)
    (hu₀ := by
      unfold u₀
      iintro Hu
      ihave H := (ownU_pair _ _) $$ Hu
      icases H with ⟨HP, HX⟩
      imod (fund_all (sums m ρ) (proj m ρ)) $$ HX with HG
      imodintro
      isplitl [HP] <;> iassumption)
    (hglob := glob (sums m ρ) (proj m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

/-- The run, read at its arguments. -/
theorem frame_main : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
    ∧ r.2.sem = fun _ => 0) :=
  (θ_run _ _ _).mono (fun _ h => ⟨fun c => ⟨(h.1 c (0 : Fin 6)).trans (finalA_in m ρ c _ rfl), (h.1 c (1 : Fin 6)).trans (finalA_in m ρ c _ rfl), (h.1 c (2 : Fin 6)).trans (finalA_in m ρ c _ rfl), (h.1 c (3 : Fin 6)).trans (finalA_in m ρ c _ rfl), (h.1 c (4 : Fin 6)).trans (finalA_in m ρ c _ rfl)⟩, h.2⟩) (run_main m ρ)

end Cert.KernelIdealProof

end
-- ==== Proof.Frames.lean ====
module

public import proofs.«01_k».proof.Proof.Run
public import proofs.«01_k».proof.Proof.Gen.Kernel
public import proofs.«01_k».proof.Proof.Gen.ReferenceIdeal.Run
public import proofs.«01_k».proof.Proof.Gen.Pre_finite_scores_KernelIdeal
public import proofs.«01_k».proof.Proof.Gen.Pre_finite_scores_ReferenceIdeal
public import Idealize.ShloMosaic.Lib.Quiescent
public import proofs.«01_k».proof.Defs

@[expose] public section

noncomputable section

namespace Cert.KernelProof

open Idealize.ShloMosaic Idealize.ShloMosaic.TcCoe

/-! ## The printed program and its idealization are the same text

No rule applies to this kernel, so the run of one is the run of the other. -/

set_option maxRecDepth 100000 in
theorem defs₀_eq : @Cert.Kernel.defs₀ Bits _ _ = @Cert.KernelIdeal.defs₀ Bits _ _ := by
  unfold Cert.Kernel.defs₀ Cert.KernelIdeal.defs₀
  refine congrArg (Defs.onTc (nD := 32)) ?_
  funext l x
  match l, x with
  | ⟨0, _⟩, (t, s) => rfl

set_option maxRecDepth 100000 in
theorem defs_eq : @Cert.Kernel.defs Bits _ _ = @Cert.KernelIdeal.defs Bits _ _ := by
  unfold Cert.Kernel.defs Cert.KernelIdeal.defs
  exact congrArg (Pipeline.defs (Cert.KernelIdeal.pcfgs (F := Bits))) defs₀_eq

set_option maxRecDepth 100000 in
theorem frame_kernel : Cert.quiescent_Kernel := fun m g _ => by
  rw [defs_eq]
  exact Cert.KernelIdealProof.frame_main (F := Bits) m g

theorem frame_ideal : Cert.quiescent_KernelIdeal := fun m g _ => Cert.KernelIdealProof.frame_main (F := Ideal) m g

theorem ref_main (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c => (h c).2, sem_eq_zero_of_no_sems (by decide) r.2⟩) (Cert.ReferenceIdeal.Value.run (F := Ideal) m g)

theorem frame_reference : Cert.quiescent_ReferenceIdeal := fun m g _ => ref_main m g

/-! The same frames under the precondition of the value claim, which they do not need. -/

theorem frame_ideal_finite : Cert.quiescent_KernelIdeal_pre_finite_scores_KernelIdeal := fun m g _ => Cert.KernelIdealProof.frame_main (F := Ideal) m g

theorem frame_reference_finite : Cert.quiescent_ReferenceIdeal_pre_finite_scores_ReferenceIdeal := fun m g _ => ref_main m g

end Cert.KernelProof

end
-- ==== Proof.Val1.lean ====
module

public import proofs.«01_k».proof.Proof.Cells
public import Idealize.ShloMosaic.Lib.Pointwise
public import Idealize.ShloMosaic.Lib.Pipeline.FrameBody

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What the local phase leaves, element by element, over the extended reals -/

/-- The row of the input that permuted row `ρ` holds. -/
def un (ρ : ℕ) : ℕ := (ρ % 256 / 64 * 4 + ρ / 256) * 64 + ρ % 64

set_option backward.proofsInPublic true in
/-- The index with the given coordinates (taken modulo the axis). -/
def ix3n (a h d : ℕ) : S1024x8x128.Idx := ix3 ⟨a % 1024, Nat.mod_lt _ (by decide)⟩ ⟨h % 8, Nat.mod_lt _ (by decide)⟩ ⟨d % 128, Nat.mod_lt _ (by decide)⟩

/-- A query entry. -/
def qv (fx fw : FVec Ideal S1024x1024 .bf16) (p j : ℕ) : EReal := ∑ k : Fin 1024, fx (ix9 p k.val) * fw (ix9 k.val j)

/-- The scale of the scores. -/
def scl : EReal := Ideal.ofBits .f32 0x3DB504F3#32

/-- The unnormalised weight of key row `q` for query row `p`, head `h`. -/
def ev (fx fw : FVec Ideal S1024x1024 .bf16) (fk : FVec Ideal S1024x8x128 .bf16) (p q h : ℕ) : EReal :=
  Ideal.exp ((∑ k : Fin 128, qv fx fw p (128 * h + k.val) * fk (ix3n q h k.val)) * scl)

/-- The weighted sum of the values and the sum of the weights, at permuted row `ρ`. -/
def ov (fx fw : FVec Ideal S1024x1024 .bf16) (fk fv : FVec Ideal S1024x8x128 .bf16) (ρ j : ℕ) : EReal :=
  ∑ t : Fin 256, ev fx fw fk (un ρ) (un (256 * (ρ / 256) + t.val)) (j / 128) * fv (ix3n (un (256 * (ρ / 256) + t.val)) (j / 128) (j % 128))
def lv' (fx fw : FVec Ideal S1024x1024 .bf16) (fk : FVec Ideal S1024x8x128 .bf16) (ρ h : ℕ) : EReal :=
  ∑ t : Fin 256, ev fx fw fk (un ρ) (un (256 * (ρ / 256) + t.val)) h

/-! ### Reading a list of stores -/

section Lists
variable {S : Shape} {e : EltTy}

/-- A list of stores whose every value is `f` at its place leaves `f` wherever a store reaches. -/
theorem canon_good [∀ e, Nonempty (Elt Ideal e)] (f : S.Idx → Elt Ideal e) (L M : List (View.Piece (Elt Ideal) S e))
    (hL : ∀ p ∈ L, ∀ x, p.2 x = f (p.1.emb x)) (y : S.Idx) (hc : ∃ p ∈ L, y ∈ p.1.set) :
    View.canon (L ++ M) y = f y := by
  induction L with
  | nil => obtain ⟨p, hp, _⟩ := hc; exact absurd hp List.not_mem_nil
  | cons p L ih =>
    obtain ⟨r, w⟩ := p
    by_cases hy : y ∈ r.set
    · obtain ⟨x, rfl⟩ := r.exists_idx_of_mem hy
      exact (View.canon_cons_emb r w _ x).trans (hL ⟨r, w⟩ List.mem_cons_self x)
    · rw [List.cons_append, View.canon_cons_of_not_mem _ _ hy]
      refine ih (fun q hq => hL q (List.mem_cons_of_mem _ hq)) ?_
      obtain ⟨q, hq, hyq⟩ := hc
      rcases List.mem_cons.mp hq with rfl | hq
      · exact absurd hyq hy
      · exact ⟨q, hq, hyq⟩

/-- Whether a list holds a store at the box with the given corner and sizes. -/
def hasBox {d : Fin 2 → ℕ} (L : List (View.Piece (Elt Ideal) ⟨2, d⟩ e)) (o0 o1 s0 s1 : ℕ) : Bool :=
  L.any fun p => p.1.off 0 == o0 && p.1.off 1 == o1 && p.1.size 0 == s0 && p.1.size 1 == s1 && p.1.stride 0 == 1 && p.1.stride 1 == 1

theorem cover_of_hasBox {d : Fin 2 → ℕ} (L : List (View.Piece (Elt Ideal) ⟨2, d⟩ e)) (o0 o1 s0 s1 : ℕ)
    (h : hasBox L o0 o1 s0 s1 = true) (y : (⟨2, d⟩ : Shape).Idx) (h0 : o0 ≤ (y 0).val) (h0' : (y 0).val < o0 + s0)
    (h1 : o1 ≤ (y 1).val) (h1' : (y 1).val < o1 + s1) : ∃ p ∈ L, y ∈ p.1.set := by
  obtain ⟨p, hp, hb⟩ := List.any_eq_true.mp h
  simp only [Bool.and_eq_true, beq_iff_eq] at hb
  obtain ⟨⟨⟨⟨⟨a, b⟩, c⟩, d'⟩, e'⟩, f⟩ := hb
  refine ⟨p, hp, p.1.mem_set.mpr fun ax => ?_⟩
  match ax with
  | ⟨0, _⟩ => exact ⟨(y 0).val - o0, by show (y 0).val - o0 < p.1.size 0; omega, by show (y 0).val = p.1.off 0 + p.1.stride 0 * _; rw [a, e']; omega⟩
  | ⟨1, _⟩ => exact ⟨(y 1).val - o1, by show (y 1).val - o1 < p.1.size 1; omega, by show (y 1).val = p.1.off 1 + p.1.stride 1 * _; rw [b, f]; omega⟩

end Lists

/-! ### The payloads at an index -/

theorem pay2_at (a b : FVec Ideal S1024x1024 .bf16) (p q : Fin 1024) :
    k0_pay2 (F := Ideal) a b (ix2 p q) = ∑ k : Fin 1024, a (ix2 p k) * b (ix2 k q) := by pointwise [k0_pay2]

theorem pay4_at (a : FVec Ideal S64x8x128 .bf16) (p : Fin 64) (q : Fin 1024) :
    k0_pay4 (F := Ideal) a (ix2 p q) = a (ix3 p ⟨q.val / 128, by omega⟩ ⟨q.val % 128, Nat.mod_lt _ (by decide)⟩) := by pointwise [k0_pay4]

theorem pay56_at (a b d : FVec Ideal S256x128 .bf16) (p : Fin 256) (q : Fin 128) :
    k0_pay56 (F := Ideal) a b d (ix2 p q) = ∑ t : Fin 256, Ideal.exp ((∑ k : Fin 128, a (ix2 p k) * b (ix2 t k)) * scl) * d (ix2 t q) := by
  pointwise [k0_pay56, k0_pay55, scl]

theorem pay57_at (a b : FVec Ideal S256x128 .bf16) (p : Fin 256) (q : Fin 1) :
    k0_pay57 (F := Ideal) a b (ix2 p q) = ∑ t : Fin 256, Ideal.exp ((∑ k : Fin 128, a (ix2 p k) * b (ix2 t k)) * scl) := by
  pointwise [k0_pay57, k0_pay55, scl]
end Cert.KernelIdealProof

end
-- ==== Proof.Val2.lean ====
module

public import proofs.«01_k».proof.Proof.Val1

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The local phase's stores, read back -/

theorem ix2_eq_ix9 (p q : Fin 1024) : (ix2 p q : S1024x1024.Idx) = ix9 p.val q.val := by
  funext a; apply Fin.ext
  match a with
  | ⟨0, _⟩ => exact (Nat.mod_eq_of_lt p.isLt).symm
  | ⟨1, _⟩ => exact (Nat.mod_eq_of_lt q.isLt).symm

theorem eq_ix9 (y : S1024x1024.Idx) {a b : ℕ} (h0 : (y 0).val = a) (h1 : (y 1).val = b) : y = ix9 a b := by
  funext i; apply Fin.ext
  match i with
  | ⟨0, _⟩ => exact h0.trans (Nat.mod_eq_of_lt (h0 ▸ (y 0).isLt)).symm
  | ⟨1, _⟩ => exact h1.trans (Nat.mod_eq_of_lt (h1 ▸ (y 1).isLt)).symm

theorem eq_ix3n (y : S1024x8x128.Idx) {a b d : ℕ} (h0 : (y 0).val = a) (h1 : (y 1).val = b) (h2 : (y 2).val = d) : y = ix3n a b d := by
  funext i; apply Fin.ext
  match i with
  | ⟨0, _⟩ => exact h0.trans (Nat.mod_eq_of_lt (h0 ▸ (y 0).isLt)).symm
  | ⟨1, _⟩ => exact h1.trans (Nat.mod_eq_of_lt (h1 ▸ (y 1).isLt)).symm
  | ⟨2, _⟩ => exact h2.trans (Nat.mod_eq_of_lt (h2 ▸ (y 2).isLt)).symm

variable (c : Dev nD) (fx : Buf (Elt Ideal) ((c.tc : Thread nD τ).loc cc0_stg0_0)) (fw : Buf (Elt Ideal) ((c.tc : Thread nD τ).loc cc0_stg1_0))
  (fk : Buf (Elt Ideal) ((c.tc : Thread nD τ).loc cc0_stg2_0)) (fv : Buf (Elt Ideal) ((c.tc : Thread nD τ).loc cc0_stg3_0))

theorem canon_q (y : S1024x1024.Idx) : View.canon (Val := Elt Ideal) (localRun.sl.H0_1 c fx fw) y = qv fx fw (y 0).val (y 1).val := by
  refine (congrArg (fun l => View.canon l y) (List.append_nil _).symm).trans ?_
  refine canon_good (S := S1024x1024) (e := .bf16) (fun y => qv fx fw (y 0).val (y 1).val) (localRun.sl.H0_1 c fx fw) [] ?_ y ?_
  · refine List.forall_mem_cons.mpr ⟨fun x => ?_, fun p hp => absurd hp List.not_mem_nil⟩
    have hx : x = ix2 ⟨(x 0).val, (x 0).isLt⟩ ⟨(x 1).val, (x 1).isLt⟩ := by
      funext a
      match a with
      | ⟨0, _⟩ => rfl
      | ⟨1, _⟩ => rfl
    rw [hx]
    refine (pay2_at _ _ _ _).trans ?_
    refine Finset.sum_congr rfl fun k _ => congrArg₂ (· * ·) (congrArg fx (eq_ix9 _ ?_ ?_)) (congrArg fw (eq_ix9 _ ?_ ?_)) <;> first | rfl | exact (Nat.zero_add _).trans (Nat.one_mul _)
  · exact cover_of_hasBox _ 0 0 1024 1024 rfl y (Nat.zero_le _) (by have := (y 0).isLt; exact (Nat.zero_add _).symm ▸ this) (Nat.zero_le _) (by have := (y 1).isLt; exact (Nat.zero_add _).symm ▸ this)

theorem un_block (D t : ℕ) (h : D % 64 = 0) (hD : D + 64 ≤ 1024) (ht : t < 64) : un D + t = un (D + t) := by
  unfold un; omega

/-- A block of rows of a list of stores, moved to its permuted place. -/
theorem q_block (L : List (View.Piece (Elt Ideal) S1024x1024 .bf16)) (g : ℕ → ℕ → EReal) (hL : ∀ y, View.canon L y = g (y 0).val (y 1).val)
    (D T : ℕ) (inb : ∀ a, (![T, 0] : Fin 2 → ℕ) a + S64x1024.size a ≤ S1024x1024.size a)
    (inb' : ∀ a, (![D, 0] : Fin 2 → ℕ) a + S64x1024.size a ≤ S1024x1024.size a) (hT : T = un D) (hD : D % 64 = 0) (hb : D + 64 ≤ 1024)
    (x : S64x1024.Idx) :
    ((Memref.whole cc0_scratch0).view.readCov (Val := Elt Ideal) L (Rect.unit (s := S1024x1024) ![T, 0] S64x1024.size inb).toLoadRect) x
      = g (un ((Rect.unit (s := S1024x1024) ![D, 0] S64x1024.size inb').emb x 0).val) ((Rect.unit (s := S1024x1024) ![D, 0] S64x1024.size inb').emb x 1).val := by
  rw [View.readCov_eq_canon']
  refine (hL _).trans ?_
  have h0 : (x 0).val < 64 := (x 0).isLt
  have e0 : T + 1 * (x 0).val = un (D + 1 * (x 0).val) := by
    rw [Nat.one_mul, hT]; exact un_block D _ hD hb h0
  exact congrArg (fun n => g n (0 + 1 * (x 1).val)) e0

set_option maxHeartbeats 1000000 in
theorem canon_qp (y : S1024x1024.Idx) : View.canon (Val := Elt Ideal) (localRun.sl.H1_16 c fx fw) y = qv fx fw (un (y 0).val) (y 1).val := by
  refine (congrArg (fun l => View.canon l y) (List.append_nil _).symm).trans ?_
  refine canon_good (S := S1024x1024) (e := .bf16) (fun y => qv fx fw (un (y 0).val) (y 1).val) (localRun.sl.H1_16 c fx fw) [] ?_ y ?_
  · have hq := canon_q c fx fw
    unfold localRun.sl.H1_16
    repeat' refine List.forall_mem_cons.mpr ⟨?_, ?_⟩
    rotate_right
    · exact fun p hp => absurd hp List.not_mem_nil
    all_goals
      intro x
      dsimp only [localRun.sl.v276, localRun.sl.v260, localRun.sl.v244, localRun.sl.v228, localRun.sl.v212, localRun.sl.v196, localRun.sl.v180, localRun.sl.v164, localRun.sl.v148, localRun.sl.v132, localRun.sl.v116, localRun.sl.v100, localRun.sl.v84, localRun.sl.v68, localRun.sl.v273, localRun.sl.v257, localRun.sl.v241, localRun.sl.v225, localRun.sl.v209, localRun.sl.v193, localRun.sl.v177, localRun.sl.v161, localRun.sl.v145, localRun.sl.v129, localRun.sl.v113, localRun.sl.v97, localRun.sl.v81, localRun.sl.v65, k0_pay3, k0_pay6, localRun.sl.v33, localRun.sl.v49]
      rw [shapeCast_id]
      refine q_block _ (qv fx fw) hq _ _ _ _ ?_ ?_ ?_ x
      · rfl
      · rfl
      · decide
  · have h0 : (y 0).val < 1024 := (y 0).isLt
    have hk : ∀ k : Fin 16, hasBox (localRun.sl.H1_16 c fx fw) (64 * k.val) 0 64 1024 = true := by
      intro k; fin_cases k <;> rfl
    exact cover_of_hasBox _ _ _ _ _ (hk ⟨(y 0).val / 64, by omega⟩) y (by show 64 * ((y 0).val / 64) ≤ _; omega)
      (by show _ < 64 * ((y 0).val / 64) + 64; omega) (Nat.zero_le _) (by have := (y 1).isLt; exact (Nat.zero_add _).symm ▸ this)

theorem cover_rows (L : List (View.Piece (Elt Ideal) S1024x1024 .bf16)) (hk : ∀ k : Fin 16, hasBox L (64 * k.val) 0 64 1024 = true)
    (y : S1024x1024.Idx) : ∃ p ∈ L, y ∈ p.1.set := by
  have h0 : (y 0).val < 1024 := (y 0).isLt
  have h1 : (y 1).val < 1024 := (y 1).isLt
  exact cover_of_hasBox _ _ _ _ _ (hk ⟨(y 0).val / 64, by omega⟩) y (by show 64 * ((y 0).val / 64) ≤ _; omega)
    (by show _ < 64 * ((y 0).val / 64) + 64; omega) (Nat.zero_le _) ((Nat.zero_add _).symm ▸ h1)

/-- A block of key or value rows, its heads laid side by side, moved to its permuted place. -/
theorem kv_block (a : S64x8x128.Idx → EReal) (A : S1024x8x128.Idx → EReal) (D T : ℕ)
    (ha : ∀ z, a z = A (ix3n (T + 1 * (z 0).val) (z 1).val (z 2).val)) (hs : S64x8x128.ShapeCasts S64x1024)
    (inb' : ∀ a, (![D, 0] : Fin 2 → ℕ) a + S64x1024.size a ≤ S1024x1024.size a) (hT : T = un D) (hD : D % 64 = 0) (hb : D + 64 ≤ 1024)
    (x : S64x1024.Idx) :
    shapeCast S64x1024 a hs x
      = A (ix3n (un ((Rect.unit (s := S1024x1024) ![D, 0] S64x1024.size inb').emb x 0).val)
          (((Rect.unit (s := S1024x1024) ![D, 0] S64x1024.size inb').emb x 1).val / 128)
          (((Rect.unit (s := S1024x1024) ![D, 0] S64x1024.size inb').emb x 1).val % 128)) := by
  have h0 : (x 0).val < 64 := (x 0).isLt
  have h1 : (x 1).val < 1024 := (x 1).isLt
  have hx : x = ix2 ⟨(x 0).val, (x 0).isLt⟩ ⟨(x 1).val, (x 1).isLt⟩ := by
    funext a
    match a with
    | ⟨0, _⟩ => rfl
    | ⟨1, _⟩ => rfl
  have e := pay4_at a ⟨(x 0).val, h0⟩ ⟨(x 1).val, h1⟩
  have e' : shapeCast S64x1024 a hs x = k0_pay4 (F := Ideal) a x := by
    unfold k0_pay4; simp only [shapeCast_id]
  rw [e', hx]
  refine e.trans ((ha _).trans ?_)
  have e0 : T + 1 * (x 0).val = un (D + 1 * (x 0).val) := by
    rw [Nat.one_mul, hT]; exact un_block D _ hD hb h0
  have e1 : (x 1).val = 0 + 1 * (x 1).val := by omega
  refine (congrArg (fun n => A (ix3n n ((x 1).val / 128) ((x 1).val % 128))) e0).trans ?_
  exact congrArg (fun n => A (ix3n (un (D + 1 * (x 0).val)) (n / 128) (n % 128))) e1

theorem kread (T : ℕ) (inb : ∀ a, (![T, 0, 0] : Fin 3 → ℕ) a + S64x8x128.size a ≤ S1024x8x128.size a) (z : S64x8x128.Idx) :
    View.readAt (Elt Ideal) (Memref.whole cc0_stg2_0).view (Rect.unit (s := S1024x8x128) ![T, 0, 0] S64x8x128.size inb).toLoadRect fk z
      = fk (ix3n (T + 1 * (z 0).val) (z 1).val (z 2).val) :=
  congrArg (fun i : S1024x8x128.Idx => fk i) (eq_ix3n ((Memref.whole cc0_stg2_0).view.emb ((Rect.unit (s := S1024x8x128) ![T, 0, 0] S64x8x128.size inb).idx z)) rfl ((Nat.zero_add _).trans (Nat.one_mul _)) ((Nat.zero_add _).trans (Nat.one_mul _)))

theorem vread (T : ℕ) (inb : ∀ a, (![T, 0, 0] : Fin 3 → ℕ) a + S64x8x128.size a ≤ S1024x8x128.size a) (z : S64x8x128.Idx) :
    View.readAt (Elt Ideal) (Memref.whole cc0_stg3_0).view (Rect.unit (s := S1024x8x128) ![T, 0, 0] S64x8x128.size inb).toLoadRect fv z
      = fv (ix3n (T + 1 * (z 0).val) (z 1).val (z 2).val) :=
  congrArg (fun i : S1024x8x128.Idx => fv i) (eq_ix3n ((Memref.whole cc0_stg3_0).view.emb ((Rect.unit (s := S1024x8x128) ![T, 0, 0] S64x8x128.size inb).idx z)) rfl ((Nat.zero_add _).trans (Nat.one_mul _)) ((Nat.zero_add _).trans (Nat.one_mul _)))

set_option maxHeartbeats 1000000 in
/-- The key rows, moved to their permuted places. -/
theorem canon_kp (y : S1024x1024.Idx) : View.canon (Val := Elt Ideal) (localRun.sl.H2_16 c fk) y = fk (ix3n (un (y 0).val) ((y 1).val / 128) ((y 1).val % 128)) := by
  refine (congrArg (fun l => View.canon l y) (List.append_nil _).symm).trans ?_
  refine canon_good (S := S1024x1024) (e := .bf16) (fun y => fk (ix3n (un (y 0).val) ((y 1).val / 128) ((y 1).val % 128))) (localRun.sl.H2_16 c fk) [] ?_ y ?_
  · unfold localRun.sl.H2_16
    repeat' refine List.forall_mem_cons.mpr ⟨?_, ?_⟩
    rotate_right
    · exact fun p hp => absurd hp List.not_mem_nil
    all_goals
      intro x
      dsimp only [localRun.sl.v282, localRun.sl.v266, localRun.sl.v250, localRun.sl.v234, localRun.sl.v218, localRun.sl.v202, localRun.sl.v186, localRun.sl.v170, localRun.sl.v154, localRun.sl.v138, localRun.sl.v122, localRun.sl.v106, localRun.sl.v90, localRun.sl.v74, localRun.sl.v58, localRun.sl.v279, localRun.sl.v263, localRun.sl.v247, localRun.sl.v231, localRun.sl.v215, localRun.sl.v199, localRun.sl.v183, localRun.sl.v167, localRun.sl.v151, localRun.sl.v135, localRun.sl.v119, localRun.sl.v103, localRun.sl.v87, localRun.sl.v71, localRun.sl.v55, localRun.sl.v278, localRun.sl.v262, localRun.sl.v246, localRun.sl.v230, localRun.sl.v214, localRun.sl.v198, localRun.sl.v182, localRun.sl.v166, localRun.sl.v150, localRun.sl.v134, localRun.sl.v118, localRun.sl.v102, localRun.sl.v86, localRun.sl.v70, localRun.sl.v54, k0_pay4]
      simp only [shapeCast_id]
      refine kv_block _ fk _ _ (fun z => kread c fk _ _ z) _ _ ?_ ?_ ?_ x
      · rfl
      · rfl
      · decide
  · exact cover_rows _ (by intro k; fin_cases k <;> rfl) y

set_option maxHeartbeats 1000000 in
/-- The value rows, moved to their permuted places. -/
theorem canon_vp (y : S1024x1024.Idx) : View.canon (Val := Elt Ideal) (localRun.sl.H3_16 c fv) y = fv (ix3n (un (y 0).val) ((y 1).val / 128) ((y 1).val % 128)) := by
  refine (congrArg (fun l => View.canon l y) (List.append_nil _).symm).trans ?_
  refine canon_good (S := S1024x1024) (e := .bf16) (fun y => fv (ix3n (un (y 0).val) ((y 1).val / 128) ((y 1).val % 128))) (localRun.sl.H3_16 c fv) [] ?_ y ?_
  · unfold localRun.sl.H3_16
    repeat' refine List.forall_mem_cons.mpr ⟨?_, ?_⟩
    rotate_right
    · exact fun p hp => absurd hp List.not_mem_nil
    all_goals
      intro x
      dsimp only [localRun.sl.v285, localRun.sl.v284, localRun.sl.v272, localRun.sl.v256, localRun.sl.v240, localRun.sl.v224, localRun.sl.v208, localRun.sl.v192, localRun.sl.v176, localRun.sl.v160, localRun.sl.v144, localRun.sl.v128, localRun.sl.v112, localRun.sl.v96, localRun.sl.v80, localRun.sl.v64, localRun.sl.v269, localRun.sl.v253, localRun.sl.v237, localRun.sl.v221, localRun.sl.v205, localRun.sl.v189, localRun.sl.v173, localRun.sl.v157, localRun.sl.v141, localRun.sl.v125, localRun.sl.v109, localRun.sl.v93, localRun.sl.v77, localRun.sl.v61, localRun.sl.v268, localRun.sl.v252, localRun.sl.v236, localRun.sl.v220, localRun.sl.v204, localRun.sl.v188, localRun.sl.v172, localRun.sl.v156, localRun.sl.v140, localRun.sl.v124, localRun.sl.v108, localRun.sl.v92, localRun.sl.v76, localRun.sl.v60, k0_pay5, k0_pay53]
      simp only [shapeCast_id]
      refine kv_block _ fv _ _ (fun z => vread c fv _ _ z) _ _ ?_ ?_ ?_ x
      · rfl
      · rfl
      · decide
  · exact cover_rows _ (by intro k; fin_cases k <;> rfl) y

end Cert.KernelIdealProof

end
-- ==== Proof.Val3.lean ====
module

public import proofs.«01_k».proof.Proof.Val2

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What the local phase leaves in its accumulator -/

variable (c : Dev nD) (fx : Buf (Elt Ideal) ((c.tc : Thread nD τ).loc cc0_stg0_0)) (fw : Buf (Elt Ideal) ((c.tc : Thread nD τ).loc cc0_stg1_0))
  (fk : Buf (Elt Ideal) ((c.tc : Thread nD τ).loc cc0_stg2_0)) (fv : Buf (Elt Ideal) ((c.tc : Thread nD τ).loc cc0_stg3_0))

theorem q_read (D0 D1 : ℕ) (inb : ∀ a, (![D0, D1] : Fin 2 → ℕ) a + S256x128.size a ≤ S1024x1024.size a) (x : S256x128.Idx) :
    (Memref.whole cc0_scratch1).view.readCov (Val := Elt Ideal) (localRun.sl.H1_16 c fx fw) (Rect.unit (s := S1024x1024) ![D0, D1] S256x128.size inb).toLoadRect x
      = qv fx fw (un (D0 + (x 0).val)) (D1 + (x 1).val) := by
  rw [View.readCov_eq_canon']
  refine (canon_qp c fx fw _).trans ?_
  have e0 : D0 + 1 * (x 0).val = D0 + (x 0).val := by omega
  have e1 : D1 + 1 * (x 1).val = D1 + (x 1).val := by omega
  exact congrArg₂ (fun m n => qv fx fw (un m) n) e0 e1

theorem k_read (D0 D1 : ℕ) (inb : ∀ a, (![D0, D1] : Fin 2 → ℕ) a + S256x128.size a ≤ S1024x1024.size a) (x : S256x128.Idx) :
    (Memref.whole cc0_scratch2).view.readCov (Val := Elt Ideal) (localRun.sl.H2_16 c fk) (Rect.unit (s := S1024x1024) ![D0, D1] S256x128.size inb).toLoadRect x
      = fk (ix3n (un (D0 + (x 0).val)) ((D1 + (x 1).val) / 128) ((D1 + (x 1).val) % 128)) := by
  rw [View.readCov_eq_canon']
  refine (canon_kp c fk _).trans ?_
  have e0 : D0 + 1 * (x 0).val = D0 + (x 0).val := by omega
  have e1 : D1 + 1 * (x 1).val = D1 + (x 1).val := by omega
  exact congrArg₂ (fun m n => fk (ix3n (un m) (n / 128) (n % 128))) e0 e1

theorem v_read (D0 D1 : ℕ) (inb : ∀ a, (![D0, D1] : Fin 2 → ℕ) a + S256x128.size a ≤ S1024x1024.size a) (x : S256x128.Idx) :
    (Memref.whole cc0_scratch3).view.readCov (Val := Elt Ideal) (localRun.sl.H3_16 c fv) (Rect.unit (s := S1024x1024) ![D0, D1] S256x128.size inb).toLoadRect x
      = fv (ix3n (un (D0 + (x 0).val)) ((D1 + (x 1).val) / 128) ((D1 + (x 1).val) % 128)) := by
  rw [View.readCov_eq_canon']
  refine (canon_vp c fv _).trans ?_
  have e0 : D0 + 1 * (x 0).val = D0 + (x 0).val := by omega
  have e1 : D1 + 1 * (x 1).val = D1 + (x 1).val := by omega
  exact congrArg₂ (fun m n => fv (ix3n (un m) (n / 128) (n % 128))) e0 e1

/-- The accumulator's entries. -/
def accv (y : S1024x1152.Idx) : EReal :=
  if (y 1).val < 1024 then ov fx fw fk fv (y 0).val (y 1).val else lv' fx fw fk (y 0).val ((y 1).val - 1024)

/-- A weight, from the blocks of queries and keys read back. -/
theorem weight_block (A B : FVec Ideal S256x128 .bf16) (D0 h : ℕ) (hD0 : D0 % 256 = 0) (hh : h < 8)
    (hA : ∀ x, A x = qv fx fw (un (D0 + (x 0).val)) (128 * h + (x 1).val))
    (hB : ∀ x, B x = fk (ix3n (un (D0 + (x 0).val)) ((128 * h + (x 1).val) / 128) ((128 * h + (x 1).val) % 128))) (p t : Fin 256) :
    Ideal.exp ((∑ k : Fin 128, A (ix2 p k) * B (ix2 t k)) * scl) = ev fx fw fk (un (D0 + p.val)) (un (256 * ((D0 + p.val) / 256) + t.val)) h := by
  have e : 256 * ((D0 + p.val) / 256) = D0 := by have := p.isLt; omega
  rw [e]
  refine congrArg (fun s => Ideal.exp (s * scl)) (Finset.sum_congr rfl fun k _ => congrArg₂ (· * ·) (hA (ix2 p k)) ((hB (ix2 t k)).trans ?_))
  have e1 : (128 * h + k.val) / 128 = h := by have := k.isLt; omega
  have e2 : (128 * h + k.val) % 128 = k.val := by have := k.isLt; omega
  exact congrArg₂ (fun a b => fk (ix3n (un (D0 + t.val)) a b)) e1 e2

theorem sum_block (A B : FVec Ideal S256x128 .bf16) (D0 h : ℕ) (hD0 : D0 % 256 = 0) (hh : h < 8)
    (hA : ∀ x, A x = qv fx fw (un (D0 + (x 0).val)) (128 * h + (x 1).val))
    (hB : ∀ x, B x = fk (ix3n (un (D0 + (x 0).val)) ((128 * h + (x 1).val) / 128) ((128 * h + (x 1).val) % 128)))
    (inb' : ∀ a, (![D0, 1024 + h] : Fin 2 → ℕ) a + S256x1.size a ≤ S1024x1152.size a) (x : S256x1.Idx) :
    k0_pay57 (F := Ideal) A B x = accv c fx fw fk fv ((Rect.unit (s := S1024x1152) ![D0, 1024 + h] S256x1.size inb').emb x) := by
  have h0 : (x 0).val < 256 := (x 0).isLt
  have h1 : (x 1).val < 1 := (x 1).isLt
  have hx : x = ix2 ⟨(x 0).val, h0⟩ ⟨(x 1).val, h1⟩ := by
    funext a
    match a with
    | ⟨0, _⟩ => rfl
    | ⟨1, _⟩ => rfl
  have e0 : ((Rect.unit (s := S1024x1152) ![D0, 1024 + h] S256x1.size inb').emb x 0).val = D0 + (x 0).val := by
    show D0 + 1 * (x 0).val = _; omega
  have e1 : ((Rect.unit (s := S1024x1152) ![D0, 1024 + h] S256x1.size inb').emb x 1).val = 1024 + h := by
    show 1024 + h + 1 * (x 1).val = _; omega
  unfold accv
  rw [e0, e1, if_neg (by omega), Nat.add_sub_cancel_left]
  refine (congrArg _ hx).trans ((pay57_at A B _ _).trans (Finset.sum_congr rfl fun t _ => ?_))
  exact weight_block c fx fw fk A B D0 h hD0 hh hA hB _ t

theorem out_block (A B C : FVec Ideal S256x128 .bf16) (D0 h : ℕ) (hD0 : D0 % 256 = 0) (hh : h < 8)
    (hA : ∀ x, A x = qv fx fw (un (D0 + (x 0).val)) (128 * h + (x 1).val))
    (hB : ∀ x, B x = fk (ix3n (un (D0 + (x 0).val)) ((128 * h + (x 1).val) / 128) ((128 * h + (x 1).val) % 128)))
    (hC : ∀ x, C x = fv (ix3n (un (D0 + (x 0).val)) ((128 * h + (x 1).val) / 128) ((128 * h + (x 1).val) % 128)))
    (inb' : ∀ a, (![D0, 128 * h] : Fin 2 → ℕ) a + S256x128.size a ≤ S1024x1152.size a) (x : S256x128.Idx) :
    k0_pay56 (F := Ideal) A B C x = accv c fx fw fk fv ((Rect.unit (s := S1024x1152) ![D0, 128 * h] S256x128.size inb').emb x) := by
  have h0 : (x 0).val < 256 := (x 0).isLt
  have h1 : (x 1).val < 128 := (x 1).isLt
  have hx : x = ix2 ⟨(x 0).val, h0⟩ ⟨(x 1).val, h1⟩ := by
    funext a
    match a with
    | ⟨0, _⟩ => rfl
    | ⟨1, _⟩ => rfl
  have e0 : ((Rect.unit (s := S1024x1152) ![D0, 128 * h] S256x128.size inb').emb x 0).val = D0 + (x 0).val := by
    show D0 + 1 * (x 0).val = _; omega
  have e1 : ((Rect.unit (s := S1024x1152) ![D0, 128 * h] S256x128.size inb').emb x 1).val = 128 * h + (x 1).val := by
    show 128 * h + 1 * (x 1).val = _; omega
  unfold accv
  rw [e0, e1, if_pos (by omega)]
  refine (congrArg _ hx).trans ((pay56_at A B C _ _).trans (Finset.sum_congr rfl fun t _ => ?_))
  have d1 : (128 * h + (x 1).val) / 128 = h := by omega
  have d2 : 256 * ((D0 + (x 0).val) / 256) = D0 := by omega
  refine congrArg₂ (· * ·) ((weight_block c fx fw fk A B D0 h hD0 hh hA hB _ t).trans ?_) ((hC _).trans ?_)
  · rw [d1]
  · rw [d2]; rfl

theorem acc_sum (D0 D1 Ds : ℕ) (ia : ∀ a, (![D0, D1] : Fin 2 → ℕ) a + S256x128.size a ≤ S1024x1024.size a)
    (inb' : ∀ a, (![D0, Ds] : Fin 2 → ℕ) a + S256x1.size a ≤ S1024x1152.size a) (hD0 : D0 % 256 = 0) (hh : D1 / 128 < 8) (hD1 : D1 = 128 * (D1 / 128))
    (hDs : Ds = 1024 + D1 / 128) (x : S256x1.Idx) :
    k0_pay57 (F := Ideal) ((Memref.whole cc0_scratch1).view.readCov (Val := Elt Ideal) (localRun.sl.H1_16 c fx fw) (Rect.unit (s := S1024x1024) ![D0, D1] S256x128.size ia).toLoadRect)
      ((Memref.whole cc0_scratch2).view.readCov (Val := Elt Ideal) (localRun.sl.H2_16 c fk) (Rect.unit (s := S1024x1024) ![D0, D1] S256x128.size ia).toLoadRect) x
      = accv c fx fw fk fv ((Rect.unit (s := S1024x1152) ![D0, Ds] S256x1.size inb').emb x) := by
  obtain ⟨h, rfl⟩ : ∃ h, D1 = 128 * h := ⟨_, hD1⟩
  rw [Nat.mul_div_cancel_left _ (by decide)] at hDs hh
  subst hDs
  exact sum_block c fx fw fk fv _ _ D0 h hD0 hh (q_read c fx fw D0 _ ia) (k_read c fk D0 _ ia) inb' x

theorem acc_out (D0 D1 : ℕ) (ia : ∀ a, (![D0, D1] : Fin 2 → ℕ) a + S256x128.size a ≤ S1024x1024.size a)
    (inb' : ∀ a, (![D0, D1] : Fin 2 → ℕ) a + S256x128.size a ≤ S1024x1152.size a) (hD0 : D0 % 256 = 0) (hh : D1 / 128 < 8) (hD1 : D1 = 128 * (D1 / 128))
    (x : S256x128.Idx) :
    k0_pay56 (F := Ideal) ((Memref.whole cc0_scratch1).view.readCov (Val := Elt Ideal) (localRun.sl.H1_16 c fx fw) (Rect.unit (s := S1024x1024) ![D0, D1] S256x128.size ia).toLoadRect)
      ((Memref.whole cc0_scratch2).view.readCov (Val := Elt Ideal) (localRun.sl.H2_16 c fk) (Rect.unit (s := S1024x1024) ![D0, D1] S256x128.size ia).toLoadRect)
      ((Memref.whole cc0_scratch3).view.readCov (Val := Elt Ideal) (localRun.sl.H3_16 c fv) (Rect.unit (s := S1024x1024) ![D0, D1] S256x128.size ia).toLoadRect) x
      = accv c fx fw fk fv ((Rect.unit (s := S1024x1152) ![D0, D1] S256x128.size inb').emb x) := by
  obtain ⟨h, rfl⟩ : ∃ h, D1 = 128 * h := ⟨_, hD1⟩
  rw [Nat.mul_div_cancel_left _ (by decide)] at hh
  exact out_block c fx fw fk fv _ _ _ D0 h hD0 hh (q_read c fx fw D0 _ ia) (k_read c fk D0 _ ia) (v_read c fv D0 _ ia) inb' x

set_option maxHeartbeats 2000000 in
set_option maxRecDepth 100000 in
theorem stores_good : ∀ p ∈ (localRun.sl.H5_65 (F := Ideal) c fx fw fk fv).take 64, ∀ x, p.2 x = accv c fx fw fk fv (p.1.emb x) := by
  unfold localRun.sl.H5_65
  simp only [List.take_succ_cons, List.take_zero]
  iterate 32
    refine List.forall_mem_cons.mpr ⟨?_, ?_⟩
    · intro x
      dsimp only [localRun.sl.v293, localRun.sl.v310, localRun.sl.v327, localRun.sl.v344, localRun.sl.v361, localRun.sl.v378, localRun.sl.v395, localRun.sl.v412, localRun.sl.v429, localRun.sl.v446, localRun.sl.v463, localRun.sl.v480, localRun.sl.v497, localRun.sl.v514, localRun.sl.v531, localRun.sl.v548, localRun.sl.v565, localRun.sl.v582, localRun.sl.v599, localRun.sl.v616, localRun.sl.v633, localRun.sl.v650, localRun.sl.v667, localRun.sl.v684, localRun.sl.v701, localRun.sl.v718, localRun.sl.v735, localRun.sl.v752, localRun.sl.v769, localRun.sl.v786, localRun.sl.v803, localRun.sl.v820, localRun.sl.v294, localRun.sl.v311, localRun.sl.v328, localRun.sl.v345, localRun.sl.v362, localRun.sl.v379, localRun.sl.v396, localRun.sl.v413, localRun.sl.v430, localRun.sl.v447, localRun.sl.v464, localRun.sl.v481, localRun.sl.v498, localRun.sl.v515, localRun.sl.v532, localRun.sl.v549, localRun.sl.v566, localRun.sl.v583, localRun.sl.v600, localRun.sl.v617, localRun.sl.v634, localRun.sl.v651, localRun.sl.v668, localRun.sl.v685, localRun.sl.v702, localRun.sl.v719, localRun.sl.v736, localRun.sl.v753, localRun.sl.v770, localRun.sl.v787, localRun.sl.v804, localRun.sl.v821, localRun.sl.v300, localRun.sl.v317, localRun.sl.v334, localRun.sl.v351, localRun.sl.v368, localRun.sl.v385, localRun.sl.v402, localRun.sl.v419, localRun.sl.v436, localRun.sl.v453, localRun.sl.v470, localRun.sl.v487, localRun.sl.v504, localRun.sl.v521, localRun.sl.v538, localRun.sl.v555, localRun.sl.v572, localRun.sl.v589, localRun.sl.v606, localRun.sl.v623, localRun.sl.v640, localRun.sl.v657, localRun.sl.v674, localRun.sl.v691, localRun.sl.v708, localRun.sl.v725, localRun.sl.v742, localRun.sl.v759, localRun.sl.v776, localRun.sl.v793, localRun.sl.v810, localRun.sl.v827, localRun.sl.r_2, localRun.sl.r_3, localRun.sl.r_4, localRun.sl.r_5, localRun.sl.r_6, localRun.sl.r_7, localRun.sl.r_8, localRun.sl.r_9, localRun.sl.r_10, localRun.sl.r_11, localRun.sl.r_12, localRun.sl.r_13, localRun.sl.r_14, localRun.sl.r_15, localRun.sl.r_16, localRun.sl.r_17, localRun.sl.r_18, localRun.sl.r_19, localRun.sl.r_20, localRun.sl.r_21, localRun.sl.r_22, localRun.sl.cst_376, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161]
      exact acc_sum c fx fw fk fv _ _ _ _ _ rfl (by decide) rfl rfl x
    refine List.forall_mem_cons.mpr ⟨?_, ?_⟩
    · intro x
      dsimp only [localRun.sl.v293, localRun.sl.v310, localRun.sl.v327, localRun.sl.v344, localRun.sl.v361, localRun.sl.v378, localRun.sl.v395, localRun.sl.v412, localRun.sl.v429, localRun.sl.v446, localRun.sl.v463, localRun.sl.v480, localRun.sl.v497, localRun.sl.v514, localRun.sl.v531, localRun.sl.v548, localRun.sl.v565, localRun.sl.v582, localRun.sl.v599, localRun.sl.v616, localRun.sl.v633, localRun.sl.v650, localRun.sl.v667, localRun.sl.v684, localRun.sl.v701, localRun.sl.v718, localRun.sl.v735, localRun.sl.v752, localRun.sl.v769, localRun.sl.v786, localRun.sl.v803, localRun.sl.v820, localRun.sl.v294, localRun.sl.v311, localRun.sl.v328, localRun.sl.v345, localRun.sl.v362, localRun.sl.v379, localRun.sl.v396, localRun.sl.v413, localRun.sl.v430, localRun.sl.v447, localRun.sl.v464, localRun.sl.v481, localRun.sl.v498, localRun.sl.v515, localRun.sl.v532, localRun.sl.v549, localRun.sl.v566, localRun.sl.v583, localRun.sl.v600, localRun.sl.v617, localRun.sl.v634, localRun.sl.v651, localRun.sl.v668, localRun.sl.v685, localRun.sl.v702, localRun.sl.v719, localRun.sl.v736, localRun.sl.v753, localRun.sl.v770, localRun.sl.v787, localRun.sl.v804, localRun.sl.v821, localRun.sl.v300, localRun.sl.v317, localRun.sl.v334, localRun.sl.v351, localRun.sl.v368, localRun.sl.v385, localRun.sl.v402, localRun.sl.v419, localRun.sl.v436, localRun.sl.v453, localRun.sl.v470, localRun.sl.v487, localRun.sl.v504, localRun.sl.v521, localRun.sl.v538, localRun.sl.v555, localRun.sl.v572, localRun.sl.v589, localRun.sl.v606, localRun.sl.v623, localRun.sl.v640, localRun.sl.v657, localRun.sl.v674, localRun.sl.v691, localRun.sl.v708, localRun.sl.v725, localRun.sl.v742, localRun.sl.v759, localRun.sl.v776, localRun.sl.v793, localRun.sl.v810, localRun.sl.v827, localRun.sl.r_2, localRun.sl.r_3, localRun.sl.r_4, localRun.sl.r_5, localRun.sl.r_6, localRun.sl.r_7, localRun.sl.r_8, localRun.sl.r_9, localRun.sl.r_10, localRun.sl.r_11, localRun.sl.r_12, localRun.sl.r_13, localRun.sl.r_14, localRun.sl.r_15, localRun.sl.r_16, localRun.sl.r_17, localRun.sl.r_18, localRun.sl.r_19, localRun.sl.r_20, localRun.sl.r_21, localRun.sl.r_22, localRun.sl.cst_376, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161]
      exact acc_out c fx fw fk fv _ _ _ _ rfl (by decide) rfl x
  exact fun p hp => absurd hp List.not_mem_nil

set_option maxHeartbeats 2000000 in
set_option maxRecDepth 100000 in
/-- The accumulator after the local phase, on the columns in use. -/
theorem canon_acc (y : S1024x1152.Idx) (hy : (y 1).val < 1032) :
    View.canon (Val := Elt Ideal) (localRun.sl.H5_65 c fx fw fk fv) y = accv c fx fw fk fv y := by
  have h0 : (y 0).val < 1024 := (y 0).isLt
  refine (congrArg (fun l => View.canon l y) (List.take_append_drop 64 _).symm).trans ?_
  refine canon_good (S := S1024x1152) (e := .f32) (accv c fx fw fk fv) _ _ (stores_good c fx fw fk fv) y ?_
  have hs : ∀ r : Fin 4, ∀ h : Fin 8, hasBox ((localRun.sl.H5_65 (F := Ideal) c fx fw fk fv).take 64) (256 * r.val) (1024 + h.val) 256 1 = true := by
    intro r h; fin_cases r <;> fin_cases h <;> rfl
  have ho : ∀ r : Fin 4, ∀ h : Fin 8, hasBox ((localRun.sl.H5_65 (F := Ideal) c fx fw fk fv).take 64) (256 * r.val) (128 * h.val) 256 128 = true := by
    intro r h; fin_cases r <;> fin_cases h <;> rfl
  by_cases h1 : (y 1).val < 1024
  · exact cover_of_hasBox _ _ _ _ _ (ho ⟨(y 0).val / 256, by omega⟩ ⟨(y 1).val / 128, by omega⟩) y
      (by show 256 * ((y 0).val / 256) ≤ _; omega) (by show _ < 256 * ((y 0).val / 256) + 256; omega)
      (by show 128 * ((y 1).val / 128) ≤ _; omega) (by show _ < 128 * ((y 1).val / 128) + 128; omega)
  · exact cover_of_hasBox _ _ _ _ _ (hs ⟨(y 0).val / 256, by omega⟩ ⟨(y 1).val - 1024, by omega⟩) y
      (by show 256 * ((y 0).val / 256) ≤ _; omega) (by show _ < 256 * ((y 0).val / 256) + 256; omega)
      (by show 1024 + ((y 1).val - 1024) ≤ _; omega) (by show _ < 1024 + ((y 1).val - 1024) + 1; omega)

theorem localRun_at (y : S1024x1152.Idx) (hy : (y 1).val < 1032) : (localRun (F := Ideal) c fx fw fk fv).1 y = accv c fx fw fk fv y := by
  have e : (localRun (F := Ideal) c fx fw fk fv).1 = (View.whole cc0_scratch5).writes (Elt Ideal) (View.whole cc0_scratch5).junk (localRun.sl.H5_65 c fx fw fk fv) := by
    unfold localRun; dsimp only
  refine Eq.trans ?_ (canon_acc c fx fw fk fv y hy)
  rw [e]
  exact congrFun (View.read_writes_junk_eq_canon (View.whole cc0_scratch5) (localRun.sl.H5_65 c fx fw fk fv)) y
end Cert.KernelIdealProof

end
-- ==== Proof.Val4.lean ====
module

public import proofs.«01_k».proof.Proof.Val3
public import proofs.«01_k».proof.Proof.Run

@[expose] public section

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The exchange adds every device's sums; the result at an index -/

/-- The devices whose sums device `c` holds after `k` rounds. -/
def grp : ℕ → Dev nD → Finset (Dev nD)
  | 0, c => {c}
  | k + 1, c => grp k c ∪ grp k (peer k c)

theorem grp_disjoint : ∀ (k : Fin 5) (c : Dev nD), Disjoint (grp k.val c) (grp k.val (peer k.val c)) := by decide +kernel
theorem grp_all : ∀ c : Dev nD, grp 5 c = Finset.univ := by decide +kernel
theorem half_facts : ∀ (k : Fin 5) (c : Dev nD), nr k.val * 2 = 1024 / 2 ^ k.val ∧ nr k.val = 1024 / 2 ^ (k.val + 1)
    ∧ 32 * sg (peer k.val c) / (1024 / 2 ^ k.val) = 32 * sg c / (1024 / 2 ^ k.val) := by decide +kernel

/-- After `k` rounds, a row of device `c`'s group holds the sums of the devices met so far. -/
theorem EE_group (E0 : Dev nD → Vec Ideal S1024x1152 .f32) (i : S1024x1152.Idx) : ∀ (k : ℕ), k ≤ 5 → ∀ c : Dev nD,
    (i (0 : Fin 2)).val / (1024 / 2 ^ k) = 32 * sg c / (1024 / 2 ^ k) → (EE E0 k c i : EReal) = ∑ d ∈ grp k c, (E0 d i : EReal) := by
  intro k
  induction k with
  | zero => intro _ c _; exact (Finset.sum_singleton (fun d => (E0 d i : EReal)) c).symm
  | succ k ih =>
    intro hk c hc
    have hk' : k < 5 := hk
    obtain ⟨h1, h2, h3⟩ := half_facts ⟨k, hk'⟩ c
    dsimp only at h1 h2 h3
    have hc' : (i (0 : Fin 2)).val / nr k = 32 * sg c / nr k := by rw [h2]; exact hc
    have hd : (i (0 : Fin 2)).val / (1024 / 2 ^ k) = 32 * sg c / (1024 / 2 ^ k) := by
      rw [← h1, ← Nat.div_div_eq_div_mul, ← Nat.div_div_eq_div_mul, hc']
    have e : (EE E0 (k + 1) c i : EReal) = EE E0 k c i + EE E0 k (peer k c) i := if_pos hc'
    rw [e, ih hk'.le c hd, ih hk'.le (peer k c) (hd.trans h3.symm)]
    exact (Finset.sum_union (grp_disjoint ⟨k, hk'⟩ c)).symm

/-- The rows of device `c`'s group end as the sums over every device. -/
theorem EE_all (E0 : Dev nD → Vec Ideal S1024x1152 .f32) (c : Dev nD) (i : S1024x1152.Idx) (h : (i (0 : Fin 2)).val / 32 = sg c) :
    (EE E0 5 c i : EReal) = ∑ d : Dev nD, (E0 d i : EReal) := by
  refine (EE_group E0 i 5 le_rfl c ?_).trans (by rw [grp_all])
  show (i (0 : Fin 2)).val / 32 = 32 * sg c / 32
  rw [h, Nat.mul_div_cancel_left _ (by decide)]

theorem pay185_at (a : FVec Ideal S32x1024 .bf16) (b : FVec Ideal S1024x1024 .bf16) (p : Fin 32) (q : Fin 1024) :
    k0_pay185 (F := Ideal) a b (ix2 p q) = ∑ j : Fin 1024, a (ix2 p j) * b (ix2 j q) := by pointwise [k0_pay185]

theorem pay1_at (a : FVec Ideal S1024x1024 .bf16) : k0_pay1 (F := Ideal) a = a := by
  unfold k0_pay1; simp only [shapeCast_id]

theorem un_ogrp : ∀ r : Fin 1024, un (32 * ogrp r.val + r.val % 32) = r.val := by decide +kernel

/-- The permuted row that result row `r` comes from. -/
def prow (r : ℕ) : ℕ := 32 * ogrp r + r % 32

theorem ix32_ix2 (p : ℕ) (q : Fin 1024) : ix32 p q.val = (ix2 ⟨p % 32, Nat.mod_lt _ (by decide)⟩ q : S32x1024.Idx) := by
  funext a; apply Fin.ext
  match a with
  | ⟨0, _⟩ => rfl
  | ⟨1, _⟩ => exact Nat.mod_eq_of_lt q.isLt

/-- The result at an index: the context row, normalised, through the projection. -/
theorem OUT_at (E0 : Dev nD → Vec Ideal S1024x1152 .f32) (WB : Dev nD → Vec Ideal S1024x1024 .bf16) (r q : Fin 1024) :
    (OUT E0 WB (ix2 r q) : EReal) = ∑ j : Fin 1024,
      Ideal.div (∑ d : Dev nD, (E0 d (ix5 (prow r.val) j.val) : EReal)) (∑ d : Dev nD, (E0 d (ix5 (prow r.val) (1024 + j.val / 128)) : EReal))
        * WB (sgInv (ogrp r.val)) (ix2 j q) := by
  have hg := ogrp_lt r
  have hs : sg (sgInv (ogrp r.val)) = ogrp r.val := sg_sgInv ⟨_, hg⟩
  have hr : prow r.val < 1024 := by unfold prow; omega
  have d1 : prow r.val / 32 = ogrp r.val := by unfold prow; omega
  have d2 : prow r.val % 32 = r.val % 32 := by unfold prow; omega
  have e : (OUT E0 WB (ix2 r q) : EReal) = CH E0 WB (sgInv (prow r.val % 1024 / 32)) (ix32 (prow r.val % 1024) (q.val % 1024)) := rfl
  rw [e, Nat.mod_eq_of_lt hr, Nat.mod_eq_of_lt q.isLt, d1, ix32_ix2]
  unfold CH
  refine (pay185_at (CTX E0 (sgInv (ogrp r.val))) (WB (sgInv (ogrp r.val))) ⟨prow r.val % 32, Nat.mod_lt _ (by decide)⟩ q).trans (Finset.sum_congr rfl fun j _ => congrArg (· * _) ?_)
  have hrow : 32 * sg (sgInv (ogrp r.val)) + prow r.val % 32 = prow r.val := by rw [hs, d2]; rfl
  have hm : ∀ n, (ix5 (prow r.val) n (0 : Fin 2)).val / 32 = sg (sgInv (ogrp r.val)) := fun n => by
    show prow r.val % 1024 / 32 = _
    rw [Nat.mod_eq_of_lt hr, d1, hs]
  have e2 : (CTX E0 (sgInv (ogrp r.val)) (ix2 ⟨prow r.val % 32, Nat.mod_lt _ (by decide)⟩ j) : EReal)
      = Ideal.div (EE E0 5 (sgInv (ogrp r.val)) (ix5 (32 * sg (sgInv (ogrp r.val)) + prow r.val % 32) j.val))
          (EE E0 5 (sgInv (ogrp r.val)) (ix5 (32 * sg (sgInv (ogrp r.val)) + prow r.val % 32) (1024 + j.val / 128))) := rfl
  rw [e2, hrow]
  exact congrArg₂ Ideal.div (EE_all E0 _ _ (hm _)) (EE_all E0 _ _ (hm _))

section Result
variable (m : (ℓ : Loc nD τ sig) → Buf (Elt Ideal) ℓ) (ρ : Dev nD → PrngReg)

/-- The argument arrays of a device. -/
def aX (c : Dev nD) : FVec Ideal S1024x1024 .bf16 := m ((c : Thread nD τ).loc main_arg0)
def aQ (c : Dev nD) : FVec Ideal S1024x1024 .bf16 := m ((c : Thread nD τ).loc main_arg1)
def aK (c : Dev nD) : FVec Ideal S1024x8x128 .bf16 := m ((c : Thread nD τ).loc main_arg2)
def aV (c : Dev nD) : FVec Ideal S1024x8x128 .bf16 := m ((c : Thread nD τ).loc main_arg3)
def aO (c : Dev nD) : FVec Ideal S1024x1024 .bf16 := m ((c : Thread nD τ).loc main_arg4)

theorem in0_eq (c : Dev nD) : in0 m ρ c = aX m c := by
  funext i
  refine congrArg (aX m c) ((eq_ix9 _ ((Nat.zero_add _).trans (Nat.one_mul _)) ((Nat.zero_add _).trans (Nat.one_mul _))).trans (eq_ix9 i rfl rfl).symm)
theorem in1_eq (c : Dev nD) : in1 m ρ c = aQ m c := by
  funext i
  refine congrArg (aQ m c) ((eq_ix9 _ ((Nat.zero_add _).trans (Nat.one_mul _)) ((Nat.zero_add _).trans (Nat.one_mul _))).trans (eq_ix9 i rfl rfl).symm)
theorem in4_eq (c : Dev nD) : in4 m ρ c = aO m c := by
  funext i
  refine congrArg (aO m c) ((eq_ix9 _ ((Nat.zero_add _).trans (Nat.one_mul _)) ((Nat.zero_add _).trans (Nat.one_mul _))).trans (eq_ix9 i rfl rfl).symm)
theorem in2_eq (c : Dev nD) : in2 m ρ c = aK m c := by
  funext i
  refine congrArg (aK m c) ((eq_ix3n _ ((Nat.zero_add _).trans (Nat.one_mul _)) ((Nat.zero_add _).trans (Nat.one_mul _)) ((Nat.zero_add _).trans (Nat.one_mul _))).trans (eq_ix3n i rfl rfl rfl).symm)
theorem in3_eq (c : Dev nD) : in3 m ρ c = aV m c := by
  funext i
  refine congrArg (aV m c) ((eq_ix3n _ ((Nat.zero_add _).trans (Nat.one_mul _)) ((Nat.zero_add _).trans (Nat.one_mul _)) ((Nat.zero_add _).trans (Nat.one_mul _))).trans (eq_ix3n i rfl rfl rfl).symm)

theorem prow_lt (r : Fin 1024) : prow r.val < 1024 := by
  have := ogrp_lt r; unfold prow; omega

theorem sums_at (d : Dev nD) (p n : ℕ) (hp : p < 1024) (hn : n < 1032) :
    (sums m ρ d (ix5 p n) : EReal) = if n < 1024 then ov (aX m d) (aQ m d) (aK m d) (aV m d) p n else lv' (aX m d) (aQ m d) (aK m d) p (n - 1024) := by
  have hn' : n % 1152 = n := Nat.mod_eq_of_lt (by omega)
  unfold sums
  rw [in0_eq, in1_eq, in2_eq, in3_eq]
  refine (localRun_at d (aX m d) (aQ m d) (aK m d) (aV m d) (ix5 p n) ?_).trans ?_
  · show n % 1152 < 1032; omega
  · show (if n % 1152 < 1024 then ov _ _ _ _ (p % 1024) (n % 1152) else lv' _ _ _ (p % 1024) (n % 1152 - 1024)) = _
    rw [hn', Nat.mod_eq_of_lt hp]

theorem result_at (r q : Fin 1024) : (result m ρ (ix2 r q) : EReal) = ∑ j : Fin 1024,
      Ideal.div (∑ d : Dev nD, ov (aX m d) (aQ m d) (aK m d) (aV m d) (prow r.val) j.val)
        (∑ d : Dev nD, lv' (aX m d) (aQ m d) (aK m d) (prow r.val) (j.val / 128))
        * aO m (sgInv (ogrp r.val)) (ix2 j q) := by
  refine (OUT_at (sums m ρ) (proj m ρ) r q).trans (Finset.sum_congr rfl fun j _ => ?_)
  have hj := j.isLt
  refine congrArg₂ (· * ·) (congrArg₂ Ideal.div (Finset.sum_congr rfl fun d _ => ?_) (Finset.sum_congr rfl fun d _ => ?_)) ?_
  · exact (sums_at m ρ d _ _ (prow_lt r) (by omega)).trans (if_pos hj)
  · refine (sums_at m ρ d _ _ (prow_lt r) (by omega)).trans ((if_neg (by omega)).trans ?_)
    rw [Nat.add_sub_cancel_left]
  · unfold proj
    rw [pay1_at, in4_eq]

theorem finalA_out (c : Dev nD) : finalA m ρ c (5 : Fin 6) = result m ρ := by
  have e : (win0_5.blk (0 : Fin 1)).view.read (Elt Ideal) (finalA m ρ c (5 : Fin 6)) = result m ρ := by
    unfold finalA
    rw [show cfg0.N = ((0 : Fin 1) : Fin cfg0.N).val + 1 from rfl, (dats m ρ 0 c).arrAt_succ (5 : Fin 6) (0 : Fin 1),
      show (cfg0.win (5 : Fin 6)).flush (0 : Fin 1) = true from by decide, if_pos rfl]
    exact View.read_write_univ _ _
  refine Eq.trans ?_ e
  funext i
  exact congrArg (finalA m ρ c (5 : Fin 6)) ((eq_ix9 i rfl rfl).trans (eq_ix9 _ ((Nat.zero_add _).trans (Nat.one_mul _)) ((Nat.zero_add _).trans (Nat.one_mul _))).symm)
end Result

end Cert.KernelIdealProof

end
-- ==== Proof.Val5.lean ====
module

public import proofs.«01_k».proof.Proof.Gen.ReferenceIdeal.Run
public import Idealize.ShloMosaic.Lib.Pointwise
public import Idealize.ShloMosaic.Lib.ReduceAll

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

/-! ## The reference, piece by piece -/

/-- The block numbers of the query rows and of the key rows. -/
def rq : IVec S1024 32 := select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))
def rk : IVec S32768 32 := select (andi (cmpi .ne (signi (iotaInDim S32768 32 0)) (broadcastInDim S32768 ![] bcast_S_S32768 (signi (id (constantI S_ 32 64#32))))) (cmpi .ne (Host.remsi (iotaInDim S32768 32 0) (broadcastInDim S32768 ![] bcast_S_S32768 (id (constantI S_ 32 64#32)))) (broadcastInDim S32768 ![] bcast_S_S32768 (constantI S_ 32 0#32)))) (subi (Host.divsi (iotaInDim S32768 32 0) (broadcastInDim S32768 ![] bcast_S_S32768 (id (constantI S_ 32 64#32)))) (broadcastInDim S32768 ![] bcast_S_S32768 (constantI S_ 32 1#32))) (Host.divsi (iotaInDim S32768 32 0) (broadcastInDim S32768 ![] bcast_S_S32768 (id (constantI S_ 32 64#32))))
def four : IVec S_ 32 := select (cmpi .eq (id (constantI S_ 32 4#32)) (constantI S_ 32 0#32)) (constantI S_ 32 1#32) (id (constantI S_ 32 4#32))
def bq : IVec S1024x1 32 := broadcastInDim S1024x1 ![0] bcast_S1024_S1024x1_0 rq
def bk : IVec S1x32768 32 := broadcastInDim S1x32768 ![1] bcast_S32768_S1x32768_1 rk
def mq : IVec S1024x1 32 := select (andi (cmpi .ne (cmpi .slt (Host.remsi bq (broadcastInDim S1024x1 ![] bcast_S_S1024x1 four)) (broadcastInDim S1024x1 ![] bcast_S_S1024x1 (constantI S_ 32 0#32))) (broadcastInDim S1024x1 ![] bcast_S_S1024x1 (cmpi .slt four (constantI S_ 32 0#32)))) (cmpi .ne (Host.remsi bq (broadcastInDim S1024x1 ![] bcast_S_S1024x1 four)) (broadcastInDim S1024x1 ![] bcast_S_S1024x1 (constantI S_ 32 0#32)))) (addi (Host.remsi bq (broadcastInDim S1024x1 ![] bcast_S_S1024x1 four)) (broadcastInDim S1024x1 ![] bcast_S_S1024x1 four)) (Host.remsi bq (broadcastInDim S1024x1 ![] bcast_S_S1024x1 four))
def mk : IVec S1x32768 32 := select (andi (cmpi .ne (cmpi .slt (Host.remsi bk (broadcastInDim S1x32768 ![] bcast_S_S1x32768 four)) (broadcastInDim S1x32768 ![] bcast_S_S1x32768 (constantI S_ 32 0#32))) (broadcastInDim S1x32768 ![] bcast_S_S1x32768 (cmpi .slt four (constantI S_ 32 0#32)))) (cmpi .ne (Host.remsi bk (broadcastInDim S1x32768 ![] bcast_S_S1x32768 four)) (broadcastInDim S1x32768 ![] bcast_S_S1x32768 (constantI S_ 32 0#32)))) (addi (Host.remsi bk (broadcastInDim S1x32768 ![] bcast_S_S1x32768 four)) (broadcastInDim S1x32768 ![] bcast_S_S1x32768 four)) (Host.remsi bk (broadcastInDim S1x32768 ![] bcast_S_S1x32768 four))
/-- Which keys a query may attend to. -/
def msk : IVec S1024x32768 1 :=
  ori (cmpi .eq (broadcastInDim S1024x32768 ![0, 1] bcast_S1024x1_S1024x32768_0_1 bq) (broadcastInDim S1024x32768 ![0, 1] bcast_S1x32768_S1024x32768_0_1 bk))
    (cmpi .eq (broadcastInDim S1024x32768 ![0, 1] bcast_S1x32768_S1024x32768_0_1 mk) (broadcastInDim S1024x32768 ![0, 1] bcast_S1024x1_S1024x32768_0_1 mq))

/-- The block number and its remainder, on one word. -/
def fd0 (x : IVec S_ 32) : IVec S_ 32 := select (andi (cmpi .ne (signi x) (signi (id (constantI S_ 32 64#32)))) (cmpi .ne (Host.remsi x (id (constantI S_ 32 64#32))) (constantI S_ 32 0#32))) (subi (Host.divsi x (id (constantI S_ 32 64#32))) (constantI S_ 32 1#32)) (Host.divsi x (id (constantI S_ 32 64#32)))
def md0 (x : IVec S_ 32) : IVec S_ 32 := select (andi (cmpi .ne (cmpi .slt (Host.remsi x four) (constantI S_ 32 0#32)) (cmpi .slt four (constantI S_ 32 0#32))) (cmpi .ne (Host.remsi x four) (constantI S_ 32 0#32))) (addi (Host.remsi x four) four) (Host.remsi x four)
def ms0 (x y : IVec S_ 32) : IVec S_ 1 := ori (cmpi .eq (fd0 x) (fd0 y)) (cmpi .eq (md0 (fd0 y)) (md0 (fd0 x)))
def word (n : ℕ) : IVec S_ 32 := fun _ => BitVec.ofNat 32 n
def pt0 : S_.Idx := fun a => a.elim0

theorem fd0_word : ∀ (a : Fin 512) (b : Fin 64), fd0 (word (64 * a.val + b.val)) pt0 = BitVec.ofNat 32 a.val := by decide +kernel
theorem ms0_word : ∀ (a : Fin 16) (b : Fin 512), ori (cmpi .eq (word a.val) (word b.val)) (cmpi .eq (md0 (word b.val)) (md0 (word a.val))) pt0
    = if b.val % 4 = a.val % 4 then 1#1 else 0#1 := by decide +kernel

theorem msk_eq (p : Fin 1024) (g : Fin 32768) : msk (ix2 p g) = ms0 (word p.val) (word g.val) pt0 := rfl

theorem fd0_eq (n : ℕ) (h : n < 32768) : fd0 (word n) = word (n / 64) := by
  funext i
  have e := fd0_word ⟨n / 64, by omega⟩ ⟨n % 64, Nat.mod_lt _ (by decide)⟩
  rw [show 64 * (n / 64) + n % 64 = n from Nat.div_add_mod n 64] at e
  rw [show i = pt0 from funext fun a => a.elim0]
  exact e

/-- A query may attend to a key when their blocks agree modulo four. -/
theorem msk_at (p : Fin 1024) (g : Fin 32768) : msk (ix2 p g) = if g.val / 64 % 4 = p.val / 64 % 4 then 1#1 else 0#1 := by
  rw [msk_eq]
  unfold ms0
  rw [fd0_eq _ (by have := p.isLt; omega), fd0_eq _ g.isLt]
  exact ms0_word ⟨p.val / 64, by have := p.isLt; omega⟩ ⟨g.val / 64, by have := g.isLt; omega⟩
end Cert.ReferenceIdeal.Value

end
-- ==== Proof.Val6.lean ====
module

public import proofs.«01_k».proof.Proof.Val5

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

/-! ## The floating point part of the reference, piece by piece -/

/-- The masked scores. -/
def sc (b : IVec S1024x32768 1) (x wq : FVec Ideal S1024x1024 .bf16) (k : FVec Ideal S32768x8x128 .bf16) : FVec Ideal S8x1024x32768 .f32 :=
  select (broadcastInDim S8x1024x32768 ![0, 1, 2] bcast_S1x1024x32768_S8x1024x32768_0_1_2 (broadcastInDim S1x1024x32768 ![1, 2] bcast_S1024x32768_S1x1024x32768_1_2 b)) (mulf (Host.dotGeneral dot_S1024x8x128_S32768x8x128_S8x1024x32768_2_2_0_0_1_1 none (shapeCast _ (Host.dotGeneral dot_S1024x1024_S1024x1024_S1024x1024_1_0_0_1_n_n none (extf .f32 x bitsLt_bf16_f32) (extf .f32 wq bitsLt_bf16_f32)) shapeCasts_S1024x1024_S1024x8x128) (extf .f32 k bitsLt_bf16_f32)) (broadcastInDim S8x1024x32768 ![] bcast_S_S8x1024x32768 (constant S_ .f32 0x3DB504F3#32))) (broadcastInDim S8x1024x32768 ![] bcast_S_S8x1024x32768 (id (constant S_ .f32 0xFF800000#32)))
/-- The largest score of each query and head. -/
def mx (s : FVec Ideal S8x1024x32768 .f32) : FVec Ideal S8x1024 .f32 := Host.reduce FloatOps.maximumf s (constant S_ .f32 0xFF800000#32) reducesTo_S8x1024x32768_S8x1024_d2 h_S_
/-- The shifted exponentials. -/
def ex (s : FVec Ideal S8x1024x32768 .f32) (M : FVec Ideal S8x1024 .f32) : FVec Ideal S8x1024x32768 .f32 :=
  Host.exp (subf s (broadcastInDim S8x1024x32768 ![0, 1, 2] bcast_S8x1024x1_S8x1024x32768_0_1_2 (broadcastInDim S8x1024x1 ![0, 1] bcast_S8x1024_S8x1024x1_0_1 M)))
/-- Whether a query may attend to any key. -/
def kp (b : IVec S1024x32768 1) : IVec S1024 1 := Host.reduce IntOp.ori b (constantI S_ 1 0#1) reducesTo_S1024x32768_S1024_d1 h_S_
/-- The attention weights. -/
def wt (c : IVec S1024 1) (e : FVec Ideal S8x1024x32768 .f32) : FVec Ideal S8x1024x32768 .f32 :=
  select (broadcastInDim S8x1024x32768 ![0, 1, 2] bcast_S1x1024x1_S8x1024x32768_0_1_2 (broadcastInDim S1x1024x1 ![1] bcast_S1024_S1x1024x1_1 c)) (Host.divf e (broadcastInDim S8x1024x32768 ![0, 1, 2] bcast_S8x1024x1_S8x1024x32768_0_1_2 (select (broadcastInDim S8x1024x1 ![0, 1, 2] bcast_S1x1024x1_S8x1024x1_0_1_2 (broadcastInDim S1x1024x1 ![1] bcast_S1024_S1x1024x1_1 c)) (broadcastInDim S8x1024x1 ![0, 1] bcast_S8x1024_S8x1024x1_0_1 (Host.reduceAdd e (constant S_ .f32 0x00000000#32) reducesTo_S8x1024x32768_S8x1024_d2 h_S_)) (broadcastInDim S8x1024x1 ![] bcast_S_S8x1024x1 (id (constant S_ .f32 0x3F800000#32)))))) (broadcastInDim S8x1024x32768 ![] bcast_S_S8x1024x32768 (id (constant S_ .f32 0x00000000#32)))
/-- The context projected by the output matrix. -/
def ou (w : FVec Ideal S8x1024x32768 .f32) (v : FVec Ideal S32768x8x128 .bf16) (o : FVec Ideal S1024x1024 .bf16) : FVec Ideal S1024x1024 .f32 :=
  Host.dotGeneral dot_S1024x1024_S1024x1024_S1024x1024_1_0_0_1_n_n none (shapeCast _ (transpose S1024x8x128 [2, 0, 1] (Host.dotGeneral dot_S32768x8x128_S8x1024x32768_S8x128x1024_0_2_2_1_1_0 none (extf .f32 v bitsLt_bf16_f32) w) transposes_S8x128x1024_S1024x8x128_2_0_1) shapeCasts_S1024x8x128_S1024x1024) (extf .f32 o bitsLt_bf16_f32)

/-- One score before the mask. -/
def raw (x wq : FVec Ideal S1024x1024 .bf16) (k : FVec Ideal S32768x8x128 .bf16) (h : Fin 8) (p : Fin 1024) (g : Fin 32768) : EReal :=
  (∑ c : Fin 128, (∑ e : Fin 1024, (x (ix2 p e) : EReal) * (wq (ix2 e ⟨h.val * 128 + c.val, by have := h.isLt; have := c.isLt; omega⟩) : EReal)) * (k (ix3 g h c) : EReal)) * Ideal.ofBits .f32 0x3DB504F3#32
theorem sc_at (b : IVec S1024x32768 1) (x wq : FVec Ideal S1024x1024 .bf16) (k : FVec Ideal S32768x8x128 .bf16) (h : Fin 8) (p : Fin 1024) (g : Fin 32768) :
    (sc b x wq k (ix3 h p g) : EReal) = if b (ix2 p g) = 1#1 then raw x wq k h p g else (⊥ : EReal) := by
  have e : (Ideal.ofBits .f32 4286578688#32 : EReal) = ⊥ := by simp [Ideal.ofBits, Ideal.ieee]
  rw [← e]
  pointwise [sc, raw]
  rfl
theorem mx_at (s : FVec Ideal S8x1024x32768 .f32) (h : Fin 8) (p : Fin 1024) : (mx s (ix2 h p) : EReal) = Finset.univ.fold max (⊥ : EReal) fun g : Fin 32768 => (s (ix3 h p g) : EReal) := by
  have e : (Ideal.ofBits .f32 4286578688#32 : EReal) = ⊥ := by simp [Ideal.ofBits, Ideal.ieee]
  rw [← e]
  pointwise [mx]
theorem ex_at (s : FVec Ideal S8x1024x32768 .f32) (M : FVec Ideal S8x1024 .f32) (h : Fin 8) (p : Fin 1024) (g : Fin 32768) :
    (ex s M (ix3 h p g) : EReal) = Ideal.exp ((s (ix3 h p g) : EReal) - (M (ix2 h p) : EReal)) := by
  pointwise [ex]
theorem wt_at (c : IVec S1024 1) (e : FVec Ideal S8x1024x32768 .f32) (h : Fin 8) (p : Fin 1024) (g : Fin 32768) (hc : ∀ i, c i = 1#1) :
    (wt c e (ix3 h p g) : EReal) = Ideal.div (e (ix3 h p g) : EReal) (∑ y : Fin 32768, (e (ix3 h p y) : EReal)) := by
  pointwise [wt, hc]
theorem ou_at (w : FVec Ideal S8x1024x32768 .f32) (v : FVec Ideal S32768x8x128 .bf16) (o : FVec Ideal S1024x1024 .bf16) (p q : Fin 1024) :
    (ou w v o (ix2 p q) : EReal) = ∑ j : Fin 1024, (∑ g : Fin 32768, (v (ix3 g (⟨j.val / 128, by have := j.isLt; omega⟩ : Fin 8) (⟨j.val % 128, by omega⟩ : Fin 128)) : EReal) * (w (ix3 (⟨j.val / 128, by have := j.isLt; omega⟩ : Fin 8) p g) : EReal)) * (o (ix2 j q) : EReal) := by
  pointwise [ou]
theorem kp_at (i : S1024.Idx) : kp msk i = 1#1 := by
  pointwise [kp]
  have hd : ∀ p : Fin 1024, Finset.fold IntOp.ori (0#1) (fun g : Fin 32768 => msk (ix2 p g)) Finset.univ = 1#1 := by
    intro p
    have hm : msk (ix2 p ⟨p.val, by have := p.isLt; omega⟩) = 1#1 := by rw [msk_at]; exact if_pos rfl
    rw [← Finset.insert_erase (Finset.mem_univ (⟨p.val, by have := p.isLt; omega⟩ : Fin 32768)), Finset.fold_insert (Finset.notMem_erase _ _), hm]
    exact (by decide : ∀ y : BitVec 1, IntOp.ori 1#1 y = 1#1) _
  exact hd _

theorem res_eq (m : (l : Loc nD τ sig) → Buf (Elt Ideal) l) (c : Dev nD) : res_main_v44 m c = ou (wt (kp msk) (ex (sc msk (m ((c.tc : Thread nD τ).loc main_arg0)) (m ((c.tc : Thread nD τ).loc main_arg1)) (m ((c.tc : Thread nD τ).loc main_arg2))) (mx (sc msk (m ((c.tc : Thread nD τ).loc main_arg0)) (m ((c.tc : Thread nD τ).loc main_arg1)) (m ((c.tc : Thread nD τ).loc main_arg2)))))) (m ((c.tc : Thread nD τ).loc main_arg3)) (m ((c.tc : Thread nD τ).loc main_arg4)) := rfl
end Cert.ReferenceIdeal.Value

end
-- ==== Proof.Val7.lean ====
module

public import proofs.«01_k».proof.Proof.Val6

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo

/-! ## The softmax equation on the extended reals -/

/-- An extended real that is a real number. -/
def Re (x : EReal) : Prop := ∃ r : ℝ, x = (r : EReal)

theorem Re.mul {x y : EReal} (hx : Re x) (hy : Re y) : Re (x * y) := by
  obtain ⟨a, rfl⟩ := hx
  obtain ⟨b, rfl⟩ := hy
  exact ⟨a * b, (EReal.coe_mul a b).symm⟩

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem Re.sum {ι : Type} (s : Finset ι) (f : ι → EReal) (h : ∀ i, Re (f i)) : Re (∑ i ∈ s, f i) := by
  choose r hr using h
  exact ⟨∑ i ∈ s, r i, by rw [← coe_sum]; exact Finset.sum_congr rfl fun i _ => hr i⟩

/-- A nonnegative real factor goes into a sum of extended reals. -/
theorem sum_mul_real {ι : Type} (s : Finset ι) (f : ι → EReal) (c : ℝ) (hc : 0 ≤ c) : (∑ i ∈ s, f i) * (c : EReal) = ∑ i ∈ s, f i * (c : EReal) := by
  classical
  induction s using Finset.induction_on with
  | empty => simp
  | insert a s ha ih =>
    rw [Finset.sum_insert ha, Finset.sum_insert ha, EReal.right_distrib_of_nonneg_of_ne_top (EReal.coe_nonneg.2 hc) (EReal.coe_ne_top c), ih]

theorem exp_real (r : ℝ) : Ideal.exp (r : EReal) = ((Real.exp r : ℝ) : EReal) := rfl

theorem exp_bot : Ideal.exp (⊥ : EReal) = 0 := rfl

/-- The weighted mean with shifted exponentials, masked entries at minus infinity, is the quotient of the two plain sums over the entries kept. -/
theorem soft {ι : Type} [Fintype ι] (P : ι → Prop) [DecidablePred P] (a s V : ι → EReal) (M : EReal) (ha : ∀ g, Re (a g)) (hM : Re M)
    (hs : ∀ g, s g = if P g then a g else ⊥) (g0 : ι) (h0 : P g0) :
    ∑ g, V g * Ideal.div (Ideal.exp (s g - M)) (∑ y, Ideal.exp (s y - M))
      = Ideal.div (∑ g ∈ Finset.univ.filter P, Ideal.exp (a g) * V g) (∑ g ∈ Finset.univ.filter P, Ideal.exp (a g)) := by
  choose r hr using ha
  obtain ⟨μ, rfl⟩ := hM
  have hw : ∀ g, Ideal.exp (s g - (μ : EReal)) = (((if P g then Real.exp (r g) * Real.exp (-μ) else 0 : ℝ)) : EReal) := by
    intro g
    rw [hs g]
    by_cases hp : P g
    · rw [if_pos hp, if_pos hp, hr g, ← EReal.coe_sub, exp_real, sub_eq_add_neg, Real.exp_add]
    · rw [if_neg hp, if_neg hp, EReal.bot_sub, exp_bot, EReal.coe_zero]
  have hE : ∑ g ∈ Finset.univ.filter P, Ideal.exp (a g) = ((∑ g ∈ Finset.univ.filter P, Real.exp (r g) : ℝ) : EReal) := by
    rw [← coe_sum]
    exact Finset.sum_congr rfl fun g _ => by rw [hr g, exp_real]
  have hpos : 0 < ∑ g ∈ Finset.univ.filter P, Real.exp (r g) :=
    Finset.sum_pos (fun g _ => Real.exp_pos _) ⟨g0, Finset.mem_filter.2 ⟨Finset.mem_univ _, h0⟩⟩
  have hW : ∑ y, Ideal.exp (s y - (μ : EReal)) = (((∑ g ∈ Finset.univ.filter P, Real.exp (r g)) * Real.exp (-μ) : ℝ) : EReal) := by
    rw [Finset.sum_congr rfl fun y _ => hw y, coe_sum, ← Finset.sum_filter, Finset.sum_mul]
  generalize ∑ g ∈ Finset.univ.filter P, Real.exp (r g) = E at hE hW hpos
  rw [hW, hE, Ideal.div_coe hpos.ne', sum_mul_real _ _ _ (by positivity), Finset.sum_filter]
  refine Finset.sum_congr rfl fun g _ => ?_
  rw [hw g, Ideal.div_coe (mul_pos hpos (Real.exp_pos _)).ne', ← EReal.coe_mul]
  by_cases hp : P g
  · rw [if_pos hp, if_pos hp, hr g, exp_real, mul_comm ((Real.exp (r g) : ℝ) : EReal), mul_assoc (V g), ← EReal.coe_mul]
    congr 2
    have := (Real.exp_pos (-μ)).ne'
    field_simp
  · rw [if_neg hp, if_neg hp, zero_mul, EReal.coe_zero, mul_zero]

/-- The largest of finitely many reals and minus infinities is real once one of them is. -/
theorem fold_real {ι : Type} [Fintype ι] (s : ι → EReal) (h : ∀ g, Re (s g) ∨ s g = ⊥) (g0 : ι) (h0 : Re (s g0)) : Re (Finset.univ.fold max (⊥ : EReal) s) := by
  have h1 : Finset.univ.fold max (⊥ : EReal) s < ⊤ := by
    rw [Finset.fold_max_lt]
    refine ⟨bot_lt_top, fun g _ => ?_⟩
    rcases h g with ⟨r, e⟩ | e
    · rw [e]; exact EReal.coe_lt_top r
    · rw [e]; exact bot_lt_top
  have h2 : s g0 ≤ Finset.univ.fold max (⊥ : EReal) s := by
    rw [Finset.le_fold_max]
    exact Or.inr ⟨g0, Finset.mem_univ _, le_rfl⟩
  obtain ⟨r, e⟩ := h0
  have h3 : (⊥ : EReal) < Finset.univ.fold max (⊥ : EReal) s := lt_of_lt_of_le (by rw [e]; exact EReal.bot_lt_coe r) h2
  exact ⟨_, (EReal.coe_toReal h1.ne h3.ne').symm⟩

/-- The keys of residue `r`, device by device. -/
theorem sum_keys (r : ℕ) (hr : r < 4) (f : Fin 32768 → EReal) :
    ∑ g ∈ Finset.univ.filter (fun g : Fin 32768 => g.val / 64 % 4 = r), f g
      = ∑ d : Fin 32, ∑ t : Fin 256, f ⟨1024 * d.val + ((t.val / 64 * 4 + r) * 64 + t.val % 64), by have := d.isLt; have := t.isLt; omega⟩ := by
  rw [← Fintype.sum_prod_type']
  symm
  refine Finset.sum_bij' (fun u _ => ⟨1024 * u.1.val + ((u.2.val / 64 * 4 + r) * 64 + u.2.val % 64), by have := u.1.isLt; have := u.2.isLt; omega⟩)
    (fun g _ => (⟨g.val / 1024, by have := g.isLt; omega⟩, ⟨g.val % 1024 / 256 * 64 + g.val % 64, by omega⟩)) ?_ ?_ ?_ ?_ ?_
  · intro u _
    have := u.1.isLt; have := u.2.isLt
    exact Finset.mem_filter.2 ⟨Finset.mem_univ _, by show (1024 * u.1.val + ((u.2.val / 64 * 4 + r) * 64 + u.2.val % 64)) / 64 % 4 = r; omega⟩
  · intro g _
    exact Finset.mem_univ _
  · intro u _
    have := u.1.isLt; have := u.2.isLt
    exact Prod.ext (Fin.ext (by show (1024 * u.1.val + ((u.2.val / 64 * 4 + r) * 64 + u.2.val % 64)) / 1024 = u.1.val; omega))
      (Fin.ext (by show (1024 * u.1.val + ((u.2.val / 64 * 4 + r) * 64 + u.2.val % 64)) % 1024 / 256 * 64 + (1024 * u.1.val + ((u.2.val / 64 * 4 + r) * 64 + u.2.val % 64)) % 64 = u.2.val; omega))
  · intro g hg
    have h := (Finset.mem_filter.1 hg).2
    have := g.isLt
    exact Fin.ext (by show 1024 * (g.val / 1024) + (((g.val % 1024 / 256 * 64 + g.val % 64) / 64 * 4 + r) * 64 + (g.val % 1024 / 256 * 64 + g.val % 64) % 64) = g.val; omega)
  · intro u _
    rfl

theorem scale_real : Re (Ideal.ofBits .f32 0x3DB504F3#32) :=
  ⟨Ideal.ofBits .f32 0x3DB504F3#32 |>.toReal, by
    simp [Ideal.ofBits, Ideal.ieee, -EReal.coe_mul]⟩

/-- The reference at one place. -/
theorem ref_at (x wq : FVec Ideal S1024x1024 .bf16) (k v : FVec Ideal S32768x8x128 .bf16) (o : FVec Ideal S1024x1024 .bf16)
    (hx : ∀ i, Re (x i)) (hw : ∀ i, Re (wq i)) (hk : ∀ i, Re (k i)) (p q : Fin 1024) :
    (ou (wt (kp msk) (ex (sc msk x wq k) (mx (sc msk x wq k)))) v o (ix2 p q) : EReal)
      = ∑ j : Fin 1024, Ideal.div
          (∑ g ∈ Finset.univ.filter (fun g : Fin 32768 => g.val / 64 % 4 = p.val / 64 % 4), Ideal.exp (raw x wq k ⟨j.val / 128, by have := j.isLt; omega⟩ p g) * (v (ix3 g (⟨j.val / 128, by have := j.isLt; omega⟩ : Fin 8) (⟨j.val % 128, by omega⟩ : Fin 128)) : EReal))
          (∑ g ∈ Finset.univ.filter (fun g : Fin 32768 => g.val / 64 % 4 = p.val / 64 % 4), Ideal.exp (raw x wq k ⟨j.val / 128, by have := j.isLt; omega⟩ p g)) * (o (ix2 j q) : EReal) := by
  rw [ou_at]
  refine Finset.sum_congr rfl fun j _ => ?_
  refine congrArg (fun z : EReal => z * (o (ix2 j q) : EReal)) ?_
  generalize (⟨j.val / 128, _⟩ : Fin 8) = h
  have hr : ∀ g, Re (raw x wq k h p g) := fun g =>
    ((Re.sum _ _ fun c => (Re.sum _ _ fun e => (hx _).mul (hw _)).mul (hk _)).mul scale_real)
  have hs : ∀ g : Fin 32768, (sc msk x wq k (ix3 h p g) : EReal) = if g.val / 64 % 4 = p.val / 64 % 4 then raw x wq k h p g else (⊥ : EReal) := by
    intro g
    rw [sc_at, msk_at]
    by_cases e : g.val / 64 % 4 = p.val / 64 % 4
    · rw [if_pos e, if_pos e, if_pos rfl]
    · rw [if_neg e, if_neg e, if_neg (by decide)]
  have hM : Re (mx (sc msk x wq k) (ix2 h p) : EReal) := by
    rw [mx_at]
    refine fold_real _ (fun g => ?_) (⟨p.val, by have := p.isLt; omega⟩ : Fin 32768) ?_
    · rw [hs g]
      split
      · exact Or.inl (hr g)
      · exact Or.inr rfl
    · rw [hs, if_pos rfl]
      exact hr _
  have hwt : ∀ g : Fin 32768, (wt (kp msk) (ex (sc msk x wq k) (mx (sc msk x wq k))) (ix3 h p g) : EReal)
      = Ideal.div (Ideal.exp ((sc msk x wq k (ix3 h p g) : EReal) - (mx (sc msk x wq k) (ix2 h p) : EReal))) (∑ y : Fin 32768, Ideal.exp ((sc msk x wq k (ix3 h p y) : EReal) - (mx (sc msk x wq k) (ix2 h p) : EReal))) := by
    intro g
    rw [wt_at _ _ _ _ _ kp_at, ex_at]
    exact congrArg (Ideal.div _) (Finset.sum_congr rfl fun y _ => ex_at _ _ h p y)
  simp only [hwt]
  exact soft (fun g : Fin 32768 => g.val / 64 % 4 = p.val / 64 % 4) (raw x wq k h p) _ _ _ hr hM hs (⟨p.val, by have := p.isLt; omega⟩ : Fin 32768) rfl

end Cert.ReferenceIdeal.Value

end
-- ==== Proof.Val8.lean ====
module

public import proofs.«01_k».proof.Proof.Val4
public import proofs.«01_k».proof.Proof.Val7
public import proofs.«01_k».proof.Proof.Frames

@[expose] public section

noncomputable section

namespace Cert.KernelProof

open Idealize.ShloMosaic Idealize.ShloMosaic.TcCoe Idealize.SL.Sem
open Cert.ReferenceIdeal.Value (Re raw)
open Cert.KernelIdealProof (un ix3n ix9 qv scl ev ov lv' prow ogrp sgInv aX aQ aK aV aO result result_at finalA finalA_in finalA_out run_main un_ogrp prow_lt ix2_eq_ix9)

/-! ## The kernel's sums are the reference's -/

/-- The shapes of the claim. -/
abbrev M2 : Shape := ⟨2, ![1024, 1024]⟩
abbrev M3 : Shape := ⟨3, ![1024, 8, 128]⟩
abbrev G3 : Shape := ⟨3, ![32768, 8, 128]⟩

/-- A magnitude below infinity is that of a real. -/
theorem real_of_abs (a : EReal) (h : Ideal.cmp .olt (max a (-a)) (Ideal.ofBits .f32 0x7F800000#32) = 1#1) : Re a := by
  have e : (Ideal.ofBits .f32 0x7F800000#32 : EReal) = ⊤ := by simp [Ideal.ofBits, Ideal.ieee]
  rw [e] at h
  have h' : max a (-a) < ⊤ := by
    by_contra hn
    revert h
    unfold Ideal.cmp
    simp [hn]
  have h1 : a ≠ ⊤ := (lt_of_le_of_lt (le_max_left _ _) h').ne
  have h2 : a ≠ ⊥ := by
    rintro rfl
    exact absurd (lt_of_le_of_lt (le_max_right _ _) h') (by simp)
  exact ⟨a.toReal, (EReal.coe_toReal h1 h2).symm⟩

/-- What the precondition says of one device's blocks. -/
theorem pre_real (x q : FVec Ideal M2 .bf16) (k v : FVec Ideal M3 .bf16) (o : FVec Ideal M2 .bf16)
    (h : Cert.Pre_finite_scores_KernelIdeal.fn (F := Ideal) x q k v o = fun _ => 1#1) :
    (∀ i, Re (x i)) ∧ (∀ i, Re (q i)) ∧ ∀ i, Re (k i) := by
  have h0 := congrFun h (fun a => a.elim0)
  dsimp only [Cert.Pre_finite_scores_KernelIdeal.fn] at h0
  obtain ⟨h12, h3⟩ := IntOp.andi_eq_one.1 h0
  obtain ⟨h1, h2⟩ := IntOp.andi_eq_one.1 h12
  haveI : Subsingleton Cert.Pre_finite_scores_KernelIdeal.S_.Idx := ⟨fun a b => funext fun i => i.elim0⟩
  exact ⟨fun i => real_of_abs _ (Host.reduce_andi_all _ _ _ _ _ h1 i), fun i => real_of_abs _ (Host.reduce_andi_all _ _ _ _ _ h2 i),
    fun i => real_of_abs _ (Host.reduce_andi_all _ _ _ _ _ h3 i)⟩

/-- Where a block of the keys or values lies in the whole array. -/
theorem block_at (V : G3.Idx → EReal) (d : Fin 32) (a : ℕ) (ha : a < 1024) (g : Fin 32768) (hg : g.val = 1024 * d.val + a) (h : Fin 8) (k : Fin 128) (H : Layout.Tiles M3 G3 0 32) :
    Layout.block M3 G3 0 32 d V H (ix3n a h.val k.val) = V (ix3 g h k) := by
  refine congrArg V ?_
  funext b
  apply Fin.ext
  rw [Layout.Tiles.idx_val]
  match b with
  | ⟨0, _⟩ => show d.val * 1024 + a % 1024 = g.val; omega
  | ⟨1, _⟩ => exact Nat.mod_eq_of_lt h.isLt
  | ⟨2, _⟩ => exact Nat.mod_eq_of_lt k.isLt

/-- Every position of a whole array lies in some block. -/
theorem block_real (V : G3.Idx → EReal) (H : Layout.Tiles M3 G3 0 32) (h : ∀ d : Fin 32, ∀ i, Re (Layout.block M3 G3 0 32 d V H i)) (i : G3.Idx) : Re (V i) := by
  have hi : (i (0 : Fin 3)).val < 32768 := (i (0 : Fin 3)).isLt
  have e := block_at V ⟨(i (0 : Fin 3)).val / 1024, by omega⟩ ((i (0 : Fin 3)).val % 1024) (Nat.mod_lt _ (by decide)) (i (0 : Fin 3)) (Nat.div_add_mod _ _).symm (i (1 : Fin 3)) (i (2 : Fin 3)) H
  have e2 : (ix3 (i (0 : Fin 3)) (i (1 : Fin 3)) (i (2 : Fin 3)) : G3.Idx) = i := by
    funext b
    match b with
    | ⟨0, _⟩ => rfl
    | ⟨1, _⟩ => rfl
    | ⟨2, _⟩ => rfl
  rw [← e2, ← e]
  exact h _ _

/-- A weight of the kernel is the exponential of a score of the reference. -/
theorem ev_raw (x wq : FVec Ideal M2 .bf16) (fk : FVec Ideal M3 .bf16) (K : FVec Ideal G3 .bf16) (p : Fin 1024) (a : ℕ) (h : Fin 8) (g : Fin 32768)
    (hk : ∀ c : Fin 128, (fk (ix3n a h.val c.val) : EReal) = K (ix3 g h c)) : ev x wq fk p.val a h.val = Ideal.exp (raw x wq K h p g) := by
  unfold ev raw
  refine congrArg Ideal.exp (congrArg (fun z : EReal => z * Ideal.ofBits .f32 0x3DB504F3#32) (Finset.sum_congr rfl fun c _ => congrArg₂ (fun y z : EReal => y * z) ?_ (hk c)))
  unfold qv
  refine Finset.sum_congr rfl fun e _ => ?_
  rw [ix2_eq_ix9, ix2_eq_ix9, Nat.mul_comm 128]

theorem prow_res : ∀ r : Fin 1024, prow r.val / 256 = r.val / 64 % 4 := by decide +kernel

/-- The place of the key at position `t` of its residue class. -/
theorem un_key (r t : ℕ) (hr : r < 4) (ht : t < 256) : un (256 * r + t) = (t / 64 * 4 + r) * 64 + t % 64 := by
  unfold un
  omega

variable (m : (ℓ : Loc Cert.KernelIdeal.nD Cert.KernelIdeal.τ Cert.KernelIdeal.sig) → Buf (Elt Ideal) ℓ) (ρ : Dev Cert.KernelIdeal.nD → PrngReg)

/-- The kernel's result is the reference's, when every device holds its blocks of the same finite arrays. -/
theorem value_at (x wq : FVec Ideal M2 .bf16) (K V : FVec Ideal G3 .bf16) (o : FVec Ideal M2 .bf16) (H : Layout.Tiles M3 G3 0 32)
    (hX : ∀ d, aX m d = x) (hQ : ∀ d, aQ m d = wq) (hK : ∀ d, aK m d = Layout.block M3 G3 0 32 d K H) (hV : ∀ d, aV m d = Layout.block M3 G3 0 32 d V H) (hO : ∀ d, aO m d = o)
    (rx : ∀ i, Re (x i)) (rw' : ∀ i, Re (wq i)) (rK : ∀ i, Re (K i)) (r q : Fin 1024) :
    (result m ρ (ix2 r q) : EReal) = Cert.ReferenceIdeal.Value.ou (Cert.ReferenceIdeal.Value.wt (Cert.ReferenceIdeal.Value.kp Cert.ReferenceIdeal.Value.msk)
      (Cert.ReferenceIdeal.Value.ex (Cert.ReferenceIdeal.Value.sc Cert.ReferenceIdeal.Value.msk x wq K) (Cert.ReferenceIdeal.Value.mx (Cert.ReferenceIdeal.Value.sc Cert.ReferenceIdeal.Value.msk x wq K)))) V o (ix2 r q) := by
  refine (result_at m ρ r q).trans (Eq.trans (Finset.sum_congr rfl fun j _ => ?_) (Cert.ReferenceIdeal.Value.ref_at x wq K V o rx rw' rK r q).symm)
  have hj := j.isLt
  have h4 : r.val / 64 % 4 < 4 := Nat.mod_lt _ (by decide)
  have hkey : ∀ (d : Fin 32) (t : Fin 256) (h : Fin 8), ev x wq (Layout.block M3 G3 0 32 d K H) r.val ((t.val / 64 * 4 + r.val / 64 % 4) * 64 + t.val % 64) h.val
      = Ideal.exp (raw x wq K h r ⟨1024 * d.val + ((t.val / 64 * 4 + r.val / 64 % 4) * 64 + t.val % 64), by have := d.isLt; have := t.isLt; omega⟩) := by
    intro d t h
    have ht := t.isLt
    exact ev_raw x wq _ K r _ h _ fun c => block_at K d _ (by omega) _ rfl h c H
  have hun : un (prow r.val) = r.val := un_ogrp r
  have hloc : ∀ t : Fin 256, un (256 * (prow r.val / 256) + t.val) = (t.val / 64 * 4 + r.val / 64 % 4) * 64 + t.val % 64 := by
    intro t
    rw [prow_res r]
    exact un_key _ _ h4 t.isLt
  refine congrArg₂ (fun y z : EReal => y * z) (congrArg₂ Ideal.div ?_ ?_) ?_
  · refine Eq.trans (Finset.sum_congr rfl fun d _ => ?_) (Cert.ReferenceIdeal.Value.sum_keys (r.val / 64 % 4) h4 _).symm
    unfold ov
    refine Finset.sum_congr rfl fun t _ => ?_
    have ht := t.isLt
    rw [hX, hQ, hK, hV, hun, hloc]
    exact congrArg₂ (fun y z : EReal => y * z) (hkey d t ⟨j.val / 128, by omega⟩) (block_at V d _ (by omega) _ rfl ⟨j.val / 128, by omega⟩ ⟨j.val % 128, by omega⟩ H)
  · refine Eq.trans (Finset.sum_congr rfl fun d _ => ?_) (Cert.ReferenceIdeal.Value.sum_keys (r.val / 64 % 4) h4 _).symm
    unfold lv'
    refine Finset.sum_congr rfl fun t _ => ?_
    rw [hX, hQ, hK, hun, hloc]
    exact hkey d t ⟨j.val / 128, by omega⟩
  · rw [hO]

theorem algebraic : Cert.algebraic_KernelIdeal_ReferenceIdeal_pre_finite_scores_KernelIdeal := by
  intro m g m' g' hp ha
  refine ⟨Cert.ReferenceIdeal.Value.res_main_v44 m' 0, ?_, (θ_run _ _ _).mono (fun r h => h 0) (Cert.ReferenceIdeal.Value.run (F := Ideal) m' g')⟩
  refine (θ_run _ _ _).mono (fun r h c => ?_) (run_main m g)
  refine ⟨(h.1 c (5 : Fin 6)).trans ((finalA_out m g c).trans ?_), (h.1 c (0 : Fin 6)).trans (finalA_in m g c _ rfl), (h.1 c (1 : Fin 6)).trans (finalA_in m g c _ rfl), (h.1 c (2 : Fin 6)).trans (finalA_in m g c _ rfl), (h.1 c (3 : Fin 6)).trans (finalA_in m g c _ rfl), (h.1 c (4 : Fin 6)).trans (finalA_in m g c _ rfl)⟩
  have hr := fun d => pre_real _ _ _ _ _ (hp d)
  have hT : Layout.Tiles M3 G3 0 32 := by decide
  have v := value_at m g _ _ _ _ _ hT (fun d => (ha d).1) (fun d => (ha d).2.1) (fun d => (ha d).2.2.1) (fun d => (ha d).2.2.2.1) (fun d => (ha d).2.2.2.2)
    (fun i => by have e := (hr 0).1 i; rw [(ha 0).1] at e; exact e) (fun i => by have e := (hr 0).2.1 i; rw [(ha 0).2.1] at e; exact e)
    (block_real _ hT fun d i => by have e := (hr d).2.2 i; rw [(ha d).2.2.1] at e; exact e)
  rw [Cert.ReferenceIdeal.Value.res_eq]
  funext i
  rw [show i = ix2 (i (0 : Fin 2)) (i (1 : Fin 2)) from by
    funext b
    match b with
    | ⟨0, _⟩ => rfl
    | ⟨1, _⟩ => rfl]
  exact v _ _

end Cert.KernelProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Val8
public import proofs.«01_k».proof.Proof.Gen.Pre_finite_scores_KernelIdeal
public import proofs.«01_k».proof.Proof.Gen.Pre_finite_scores_ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_scores_KernelIdeal.Gen.facts, Cert.Pre_finite_scores_ReferenceIdeal.Gen.facts,
  Cert.KernelProof.frame_kernel, Cert.KernelProof.frame_ideal, Cert.KernelProof.frame_ideal_finite, Cert.KernelProof.frame_reference, Cert.KernelProof.frame_reference_finite, trivial, Cert.KernelProof.algebraic⟩

end Cert.Proof

end
